-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MoeLast (m : (ℓ : Loc Cert.MoeLast.nD Cert.MoeLast.τ Cert.MoeLast.sig) → Buf (Elt Bits) ℓ) : Prop :=
  True

def Pre_MoeLastIdeal (m : (ℓ : Loc Cert.MoeLastIdeal.nD Cert.MoeLastIdeal.τ Cert.MoeLastIdeal.sig) → Buf (Elt Ideal) ℓ) : Prop :=
  True

def Pre_MoeLastRefIdeal (m : (ℓ : Loc Cert.MoeLastRefIdeal.nD Cert.MoeLastRefIdeal.τ Cert.MoeLastRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MoeCtx (m : (ℓ : Loc Cert.MoeCtx.nD Cert.MoeCtx.τ Cert.MoeCtx.sig) → Buf (Elt Bits) ℓ) : Prop :=
  True

def Pre_MoeCtxIdeal (m : (ℓ : Loc Cert.MoeCtxIdeal.nD Cert.MoeCtxIdeal.τ Cert.MoeCtxIdeal.sig) → Buf (Elt Ideal) ℓ) : Prop :=
  True

def Pre_MoeCtxRefIdeal (m : (ℓ : Loc Cert.MoeCtxRefIdeal.nD Cert.MoeCtxRefIdeal.τ Cert.MoeCtxRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_MoeLast [hMoeLast : Cert.MoeLast.Facts] : Prop :=
  ∀ (m : (ℓ : Loc Cert.MoeLast.nD Cert.MoeLast.τ Cert.MoeLast.sig) → Buf (Elt Bits) ℓ) (g : Dev Cert.MoeLast.nD → PrngReg), Pre_MoeLast m →
    θ_run (Cert.MoeLast.defs (F := Bits)) (onTc (τ := Cert.MoeLast.τ) (Cert.MoeLast.main (F := Bits))) ⟨m, fun _ => 0, g⟩ (fun r => (∀ c : Dev Cert.MoeLast.nD,
      r.2.mem ((c.tc : Thread Cert.MoeLast.nD Cert.MoeLast.τ).loc Cert.MoeLast.main_arg0) = m ((c.tc : Thread Cert.MoeLast.nD Cert.MoeLast.τ).loc Cert.MoeLast.main_arg0)
      ∧ r.2.mem ((c.tc : Thread Cert.MoeLast.nD Cert.MoeLast.τ).loc Cert.MoeLast.main_arg1) = m ((c.tc : Thread Cert.MoeLast.nD Cert.MoeLast.τ).loc Cert.MoeLast.main_arg1)
      ∧ r.2.mem ((c.tc : Thread Cert.MoeLast.nD Cert.MoeLast.τ).loc Cert.MoeLast.main_arg2) = m ((c.tc : Thread Cert.MoeLast.nD Cert.MoeLast.τ).loc Cert.MoeLast.main_arg2)
      ∧ r.2.mem ((c.tc : Thread Cert.MoeLast.nD Cert.MoeLast.τ).loc Cert.MoeLast.main_arg3) = m ((c.tc : Thread Cert.MoeLast.nD Cert.MoeLast.τ).loc Cert.MoeLast.main_arg3)
      ∧ r.2.mem ((c.tc : Thread Cert.MoeLast.nD Cert.MoeLast.τ).loc Cert.MoeLast.main_arg4) = m ((c.tc : Thread Cert.MoeLast.nD Cert.MoeLast.τ).loc Cert.MoeLast.main_arg4))
      ∧ r.2.sem = fun _ => 0)

def quiescent_MoeLastIdeal [hMoeLastIdeal : Cert.MoeLastIdeal.Facts] : Prop :=
  ∀ (m : (ℓ : Loc Cert.MoeLastIdeal.nD Cert.MoeLastIdeal.τ Cert.MoeLastIdeal.sig) → Buf (Elt Ideal) ℓ) (g : Dev Cert.MoeLastIdeal.nD → PrngReg), Pre_MoeLastIdeal m →
    θ_run (Cert.MoeLastIdeal.defs (F := Ideal)) (onTc (τ := Cert.MoeLastIdeal.τ) (Cert.MoeLastIdeal.main (F := Ideal))) ⟨m, fun _ => 0, g⟩ (fun r => (∀ c : Dev Cert.MoeLastIdeal.nD,
      r.2.mem ((c.tc : Thread Cert.MoeLastIdeal.nD Cert.MoeLastIdeal.τ).loc Cert.MoeLastIdeal.main_arg0) = m ((c.tc : Thread Cert.MoeLastIdeal.nD Cert.MoeLastIdeal.τ).loc Cert.MoeLastIdeal.main_arg0)
      ∧ r.2.mem ((c.tc : Thread Cert.MoeLastIdeal.nD Cert.MoeLastIdeal.τ).loc Cert.MoeLastIdeal.main_arg1) = m ((c.tc : Thread Cert.MoeLastIdeal.nD Cert.MoeLastIdeal.τ).loc Cert.MoeLastIdeal.main_arg1)
      ∧ r.2.mem ((c.tc : Thread Cert.MoeLastIdeal.nD Cert.MoeLastIdeal.τ).loc Cert.MoeLastIdeal.main_arg2) = m ((c.tc : Thread Cert.MoeLastIdeal.nD Cert.MoeLastIdeal.τ).loc Cert.MoeLastIdeal.main_arg2)
      ∧ r.2.mem ((c.tc : Thread Cert.MoeLastIdeal.nD Cert.MoeLastIdeal.τ).loc Cert.MoeLastIdeal.main_arg3) = m ((c.tc : Thread Cert.MoeLastIdeal.nD Cert.MoeLastIdeal.τ).loc Cert.MoeLastIdeal.main_arg3)
      ∧ r.2.mem ((c.tc : Thread Cert.MoeLastIdeal.nD Cert.MoeLastIdeal.τ).loc Cert.MoeLastIdeal.main_arg4) = m ((c.tc : Thread Cert.MoeLastIdeal.nD Cert.MoeLastIdeal.τ).loc Cert.MoeLastIdeal.main_arg4))
      ∧ r.2.sem = fun _ => 0)

def quiescent_MoeLastRefIdeal [hMoeLastRefIdeal : Cert.MoeLastRefIdeal.Facts] : Prop :=
  ∀ (m : (ℓ : Loc Cert.MoeLastRefIdeal.nD Cert.MoeLastRefIdeal.τ Cert.MoeLastRefIdeal.sig) → Buf (Elt Ideal) ℓ) (g : Dev Cert.MoeLastRefIdeal.nD → PrngReg), Pre_MoeLastRefIdeal m →
    θ_run (Cert.MoeLastRefIdeal.defs (F := Ideal)) (onTc (τ := Cert.MoeLastRefIdeal.τ) (Cert.MoeLastRefIdeal.main (F := Ideal))) ⟨m, fun _ => 0, g⟩ (fun r => (∀ c : Dev Cert.MoeLastRefIdeal.nD,
      r.2.mem ((c.tc : Thread Cert.MoeLastRefIdeal.nD Cert.MoeLastRefIdeal.τ).loc Cert.MoeLastRefIdeal.main_arg0) = m ((c.tc : Thread Cert.MoeLastRefIdeal.nD Cert.MoeLastRefIdeal.τ).loc Cert.MoeLastRefIdeal.main_arg0)
      ∧ r.2.mem ((c.tc : Thread Cert.MoeLastRefIdeal.nD Cert.MoeLastRefIdeal.τ).loc Cert.MoeLastRefIdeal.main_arg1) = m ((c.tc : Thread Cert.MoeLastRefIdeal.nD Cert.MoeLastRefIdeal.τ).loc Cert.MoeLastRefIdeal.main_arg1)
      ∧ r.2.mem ((c.tc : Thread Cert.MoeLastRefIdeal.nD Cert.MoeLastRefIdeal.τ).loc Cert.MoeLastRefIdeal.main_arg2) = m ((c.tc : Thread Cert.MoeLastRefIdeal.nD Cert.MoeLastRefIdeal.τ).loc Cert.MoeLastRefIdeal.main_arg2)
      ∧ r.2.mem ((c.tc : Thread Cert.MoeLastRefIdeal.nD Cert.MoeLastRefIdeal.τ).loc Cert.MoeLastRefIdeal.main_arg3) = m ((c.tc : Thread Cert.MoeLastRefIdeal.nD Cert.MoeLastRefIdeal.τ).loc Cert.MoeLastRefIdeal.main_arg3)
      ∧ r.2.mem ((c.tc : Thread Cert.MoeLastRefIdeal.nD Cert.MoeLastRefIdeal.τ).loc Cert.MoeLastRefIdeal.main_arg4) = m ((c.tc : Thread Cert.MoeLastRefIdeal.nD Cert.MoeLastRefIdeal.τ).loc Cert.MoeLastRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_MoeCtx [hMoeCtx : Cert.MoeCtx.Facts] : Prop :=
  ∀ (m : (ℓ : Loc Cert.MoeCtx.nD Cert.MoeCtx.τ Cert.MoeCtx.sig) → Buf (Elt Bits) ℓ) (g : Dev Cert.MoeCtx.nD → PrngReg), Pre_MoeCtx m →
    θ_run (Cert.MoeCtx.defs (F := Bits)) (onTc (τ := Cert.MoeCtx.τ) (Cert.MoeCtx.main (F := Bits))) ⟨m, fun _ => 0, g⟩ (fun r => (∀ c : Dev Cert.MoeCtx.nD,
      r.2.mem ((c.tc : Thread Cert.MoeCtx.nD Cert.MoeCtx.τ).loc Cert.MoeCtx.main_arg0) = m ((c.tc : Thread Cert.MoeCtx.nD Cert.MoeCtx.τ).loc Cert.MoeCtx.main_arg0)
      ∧ r.2.mem ((c.tc : Thread Cert.MoeCtx.nD Cert.MoeCtx.τ).loc Cert.MoeCtx.main_arg1) = m ((c.tc : Thread Cert.MoeCtx.nD Cert.MoeCtx.τ).loc Cert.MoeCtx.main_arg1)
      ∧ r.2.mem ((c.tc : Thread Cert.MoeCtx.nD Cert.MoeCtx.τ).loc Cert.MoeCtx.main_arg2) = m ((c.tc : Thread Cert.MoeCtx.nD Cert.MoeCtx.τ).loc Cert.MoeCtx.main_arg2)
      ∧ r.2.mem ((c.tc : Thread Cert.MoeCtx.nD Cert.MoeCtx.τ).loc Cert.MoeCtx.main_arg3) = m ((c.tc : Thread Cert.MoeCtx.nD Cert.MoeCtx.τ).loc Cert.MoeCtx.main_arg3)
      ∧ r.2.mem ((c.tc : Thread Cert.MoeCtx.nD Cert.MoeCtx.τ).loc Cert.MoeCtx.main_arg4) = m ((c.tc : Thread Cert.MoeCtx.nD Cert.MoeCtx.τ).loc Cert.MoeCtx.main_arg4))
      ∧ r.2.sem = fun _ => 0)

def quiescent_MoeCtxIdeal [hMoeCtxIdeal : Cert.MoeCtxIdeal.Facts] : Prop :=
  ∀ (m : (ℓ : Loc Cert.MoeCtxIdeal.nD Cert.MoeCtxIdeal.τ Cert.MoeCtxIdeal.sig) → Buf (Elt Ideal) ℓ) (g : Dev Cert.MoeCtxIdeal.nD → PrngReg), Pre_MoeCtxIdeal m →
    θ_run (Cert.MoeCtxIdeal.defs (F := Ideal)) (onTc (τ := Cert.MoeCtxIdeal.τ) (Cert.MoeCtxIdeal.main (F := Ideal))) ⟨m, fun _ => 0, g⟩ (fun r => (∀ c : Dev Cert.MoeCtxIdeal.nD,
      r.2.mem ((c.tc : Thread Cert.MoeCtxIdeal.nD Cert.MoeCtxIdeal.τ).loc Cert.MoeCtxIdeal.main_arg0) = m ((c.tc : Thread Cert.MoeCtxIdeal.nD Cert.MoeCtxIdeal.τ).loc Cert.MoeCtxIdeal.main_arg0)
      ∧ r.2.mem ((c.tc : Thread Cert.MoeCtxIdeal.nD Cert.MoeCtxIdeal.τ).loc Cert.MoeCtxIdeal.main_arg1) = m ((c.tc : Thread Cert.MoeCtxIdeal.nD Cert.MoeCtxIdeal.τ).loc Cert.MoeCtxIdeal.main_arg1)
      ∧ r.2.mem ((c.tc : Thread Cert.MoeCtxIdeal.nD Cert.MoeCtxIdeal.τ).loc Cert.MoeCtxIdeal.main_arg2) = m ((c.tc : Thread Cert.MoeCtxIdeal.nD Cert.MoeCtxIdeal.τ).loc Cert.MoeCtxIdeal.main_arg2)
      ∧ r.2.mem ((c.tc : Thread Cert.MoeCtxIdeal.nD Cert.MoeCtxIdeal.τ).loc Cert.MoeCtxIdeal.main_arg3) = m ((c.tc : Thread Cert.MoeCtxIdeal.nD Cert.MoeCtxIdeal.τ).loc Cert.MoeCtxIdeal.main_arg3)
      ∧ r.2.mem ((c.tc : Thread Cert.MoeCtxIdeal.nD Cert.MoeCtxIdeal.τ).loc Cert.MoeCtxIdeal.main_arg4) = m ((c.tc : Thread Cert.MoeCtxIdeal.nD Cert.MoeCtxIdeal.τ).loc Cert.MoeCtxIdeal.main_arg4))
      ∧ r.2.sem = fun _ => 0)

def quiescent_MoeCtxRefIdeal [hMoeCtxRefIdeal : Cert.MoeCtxRefIdeal.Facts] : Prop :=
  ∀ (m : (ℓ : Loc Cert.MoeCtxRefIdeal.nD Cert.MoeCtxRefIdeal.τ Cert.MoeCtxRefIdeal.sig) → Buf (Elt Ideal) ℓ) (g : Dev Cert.MoeCtxRefIdeal.nD → PrngReg), Pre_MoeCtxRefIdeal m →
    θ_run (Cert.MoeCtxRefIdeal.defs (F := Ideal)) (onTc (τ := Cert.MoeCtxRefIdeal.τ) (Cert.MoeCtxRefIdeal.main (F := Ideal))) ⟨m, fun _ => 0, g⟩ (fun r => (∀ c : Dev Cert.MoeCtxRefIdeal.nD,
      r.2.mem ((c.tc : Thread Cert.MoeCtxRefIdeal.nD Cert.MoeCtxRefIdeal.τ).loc Cert.MoeCtxRefIdeal.main_arg0) = m ((c.tc : Thread Cert.MoeCtxRefIdeal.nD Cert.MoeCtxRefIdeal.τ).loc Cert.MoeCtxRefIdeal.main_arg0)
      ∧ r.2.mem ((c.tc : Thread Cert.MoeCtxRefIdeal.nD Cert.MoeCtxRefIdeal.τ).loc Cert.MoeCtxRefIdeal.main_arg1) = m ((c.tc : Thread Cert.MoeCtxRefIdeal.nD Cert.MoeCtxRefIdeal.τ).loc Cert.MoeCtxRefIdeal.main_arg1)
      ∧ r.2.mem ((c.tc : Thread Cert.MoeCtxRefIdeal.nD Cert.MoeCtxRefIdeal.τ).loc Cert.MoeCtxRefIdeal.main_arg2) = m ((c.tc : Thread Cert.MoeCtxRefIdeal.nD Cert.MoeCtxRefIdeal.τ).loc Cert.MoeCtxRefIdeal.main_arg2)
      ∧ r.2.mem ((c.tc : Thread Cert.MoeCtxRefIdeal.nD Cert.MoeCtxRefIdeal.τ).loc Cert.MoeCtxRefIdeal.main_arg3) = m ((c.tc : Thread Cert.MoeCtxRefIdeal.nD Cert.MoeCtxRefIdeal.τ).loc Cert.MoeCtxRefIdeal.main_arg3)
      ∧ r.2.mem ((c.tc : Thread Cert.MoeCtxRefIdeal.nD Cert.MoeCtxRefIdeal.τ).loc Cert.MoeCtxRefIdeal.main_arg4) = m ((c.tc : Thread Cert.MoeCtxRefIdeal.nD Cert.MoeCtxRefIdeal.τ).loc Cert.MoeCtxRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v13) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)) (v3 : (c : Dev Cert.ProjIdeal.nD) → Buf (Elt Ideal) ((c.tc : Thread Cert.ProjIdeal.nD Cert.ProjIdeal.τ).loc Cert.ProjIdeal.main_v13_3)) (v4 : (c : Dev Cert.ProjIdeal.nD) → Buf (Elt Ideal) ((c.tc : Thread Cert.ProjIdeal.nD Cert.ProjIdeal.τ).loc Cert.ProjIdeal.main_v13_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_v13_3) = v3 c
          ∧ r.2.mem ((c.tc : Thread Cert.ProjIdeal.nD Cert.ProjIdeal.τ).loc Cert.ProjIdeal.main_v13_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v47) = v0 c
          ∧ r.2.mem ((c.tc : Thread Cert.ProjRefIdeal.nD Cert.ProjRefIdeal.τ).loc Cert.ProjRefIdeal.main_v131) = v1 c
          ∧ r.2.mem ((c.tc : Thread Cert.ProjRefIdeal.nD Cert.ProjRefIdeal.τ).loc Cert.ProjRefIdeal.main_v132) = v2 c
          ∧ r.2.mem ((c.tc : Thread Cert.ProjRefIdeal.nD Cert.ProjRefIdeal.τ).loc Cert.ProjRefIdeal.main_v133) = v3 c
          ∧ r.2.mem ((c.tc : Thread Cert.ProjRefIdeal.nD Cert.ProjRefIdeal.τ).loc Cert.ProjRefIdeal.main_v134) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_MoeLast_MoeLastIdeal : Prop :=
  True

def algebraic_MoeLastIdeal_MoeLastRefIdeal [hMoeLastIdeal : Cert.MoeLastIdeal.Facts] [hMoeLastRefIdeal : Cert.MoeLastRefIdeal.Facts] : Prop :=
  ∀ (m : (ℓ : Loc Cert.MoeLastIdeal.nD Cert.MoeLastIdeal.τ Cert.MoeLastIdeal.sig) → Buf (Elt Ideal) ℓ) (g : Dev Cert.MoeLastIdeal.nD → PrngReg)
    (m' : (ℓ : Loc Cert.MoeLastRefIdeal.nD Cert.MoeLastRefIdeal.τ Cert.MoeLastRefIdeal.sig) → Buf (Elt Ideal) ℓ) (g' : Dev Cert.MoeLastRefIdeal.nD → PrngReg), Pre_MoeLastIdeal m →
    (∀ c : Dev Cert.MoeLastIdeal.nD,
      m' ((c.tc : Thread Cert.MoeLastRefIdeal.nD Cert.MoeLastRefIdeal.τ).loc Cert.MoeLastRefIdeal.main_arg0) = m ((c.tc : Thread Cert.MoeLastIdeal.nD Cert.MoeLastIdeal.τ).loc Cert.MoeLastIdeal.main_arg0)
      ∧ m' ((c.tc : Thread Cert.MoeLastRefIdeal.nD Cert.MoeLastRefIdeal.τ).loc Cert.MoeLastRefIdeal.main_arg1) = m ((c.tc : Thread Cert.MoeLastIdeal.nD Cert.MoeLastIdeal.τ).loc Cert.MoeLastIdeal.main_arg1)
      ∧ m' ((c.tc : Thread Cert.MoeLastRefIdeal.nD Cert.MoeLastRefIdeal.τ).loc Cert.MoeLastRefIdeal.main_arg2) = m ((c.tc : Thread Cert.MoeLastIdeal.nD Cert.MoeLastIdeal.τ).loc Cert.MoeLastIdeal.main_arg2)
      ∧ m' ((c.tc : Thread Cert.MoeLastRefIdeal.nD Cert.MoeLastRefIdeal.τ).loc Cert.MoeLastRefIdeal.main_arg3) = m ((c.tc : Thread Cert.MoeLastIdeal.nD Cert.MoeLastIdeal.τ).loc Cert.MoeLastIdeal.main_arg3)
      ∧ m' ((c.tc : Thread Cert.MoeLastRefIdeal.nD Cert.MoeLastRefIdeal.τ).loc Cert.MoeLastRefIdeal.main_arg4) = m ((c.tc : Thread Cert.MoeLastIdeal.nD Cert.MoeLastIdeal.τ).loc Cert.MoeLastIdeal.main_arg4)) →
    ∃ (v0 : (c : Dev Cert.MoeLastIdeal.nD) → Buf (Elt Ideal) ((c.tc : Thread Cert.MoeLastIdeal.nD Cert.MoeLastIdeal.τ).loc Cert.MoeLastIdeal.main_v0)),
      θ_run (Cert.MoeLastIdeal.defs (F := Ideal)) (onTc (τ := Cert.MoeLastIdeal.τ) (Cert.MoeLastIdeal.main (F := Ideal))) ⟨m, fun _ => 0, g⟩ (fun r => ∀ c : Dev Cert.MoeLastIdeal.nD,
          r.2.mem ((c.tc : Thread Cert.MoeLastIdeal.nD Cert.MoeLastIdeal.τ).loc Cert.MoeLastIdeal.main_v0) = v0 c
          ∧ r.2.mem ((c.tc : Thread Cert.MoeLastIdeal.nD Cert.MoeLastIdeal.τ).loc Cert.MoeLastIdeal.main_arg0) = m ((c.tc : Thread Cert.MoeLastIdeal.nD Cert.MoeLastIdeal.τ).loc Cert.MoeLastIdeal.main_arg0)
          ∧ r.2.mem ((c.tc : Thread Cert.MoeLastIdeal.nD Cert.MoeLastIdeal.τ).loc Cert.MoeLastIdeal.main_arg1) = m ((c.tc : Thread Cert.MoeLastIdeal.nD Cert.MoeLastIdeal.τ).loc Cert.MoeLastIdeal.main_arg1)
          ∧ r.2.mem ((c.tc : Thread Cert.MoeLastIdeal.nD Cert.MoeLastIdeal.τ).loc Cert.MoeLastIdeal.main_arg2) = m ((c.tc : Thread Cert.MoeLastIdeal.nD Cert.MoeLastIdeal.τ).loc Cert.MoeLastIdeal.main_arg2)
          ∧ r.2.mem ((c.tc : Thread Cert.MoeLastIdeal.nD Cert.MoeLastIdeal.τ).loc Cert.MoeLastIdeal.main_arg3) = m ((c.tc : Thread Cert.MoeLastIdeal.nD Cert.MoeLastIdeal.τ).loc Cert.MoeLastIdeal.main_arg3)
          ∧ r.2.mem ((c.tc : Thread Cert.MoeLastIdeal.nD Cert.MoeLastIdeal.τ).loc Cert.MoeLastIdeal.main_arg4) = m ((c.tc : Thread Cert.MoeLastIdeal.nD Cert.MoeLastIdeal.τ).loc Cert.MoeLastIdeal.main_arg4))
      ∧ θ_run (Cert.MoeLastRefIdeal.defs (F := Ideal)) (onTc (τ := Cert.MoeLastRefIdeal.τ) (Cert.MoeLastRefIdeal.main (F := Ideal))) ⟨m', fun _ => 0, g'⟩ (fun r => ∀ c : Dev Cert.MoeLastRefIdeal.nD,
          r.2.mem ((c.tc : Thread Cert.MoeLastRefIdeal.nD Cert.MoeLastRefIdeal.τ).loc Cert.MoeLastRefIdeal.main_v13) = v0 c
          ∧ r.2.mem ((c.tc : Thread Cert.MoeLastRefIdeal.nD Cert.MoeLastRefIdeal.τ).loc Cert.MoeLastRefIdeal.main_arg0) = m' ((c.tc : Thread Cert.MoeLastRefIdeal.nD Cert.MoeLastRefIdeal.τ).loc Cert.MoeLastRefIdeal.main_arg0)
          ∧ r.2.mem ((c.tc : Thread Cert.MoeLastRefIdeal.nD Cert.MoeLastRefIdeal.τ).loc Cert.MoeLastRefIdeal.main_arg1) = m' ((c.tc : Thread Cert.MoeLastRefIdeal.nD Cert.MoeLastRefIdeal.τ).loc Cert.MoeLastRefIdeal.main_arg1)
          ∧ r.2.mem ((c.tc : Thread Cert.MoeLastRefIdeal.nD Cert.MoeLastRefIdeal.τ).loc Cert.MoeLastRefIdeal.main_arg2) = m' ((c.tc : Thread Cert.MoeLastRefIdeal.nD Cert.MoeLastRefIdeal.τ).loc Cert.MoeLastRefIdeal.main_arg2)
          ∧ r.2.mem ((c.tc : Thread Cert.MoeLastRefIdeal.nD Cert.MoeLastRefIdeal.τ).loc Cert.MoeLastRefIdeal.main_arg3) = m' ((c.tc : Thread Cert.MoeLastRefIdeal.nD Cert.MoeLastRefIdeal.τ).loc Cert.MoeLastRefIdeal.main_arg3)
          ∧ r.2.mem ((c.tc : Thread Cert.MoeLastRefIdeal.nD Cert.MoeLastRefIdeal.τ).loc Cert.MoeLastRefIdeal.main_arg4) = m' ((c.tc : Thread Cert.MoeLastRefIdeal.nD Cert.MoeLastRefIdeal.τ).loc Cert.MoeLastRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_v39) = v1 c
          ∧ r.2.mem ((c.tc : Thread Cert.OutRefIdeal.nD Cert.OutRefIdeal.τ).loc Cert.OutRefIdeal.main_v40) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_MoeCtx_MoeCtxIdeal : Prop :=
  True

def algebraic_MoeCtxIdeal_MoeCtxRefIdeal [hMoeCtxIdeal : Cert.MoeCtxIdeal.Facts] [hMoeCtxRefIdeal : Cert.MoeCtxRefIdeal.Facts] : Prop :=
  ∀ (m : (ℓ : Loc Cert.MoeCtxIdeal.nD Cert.MoeCtxIdeal.τ Cert.MoeCtxIdeal.sig) → Buf (Elt Ideal) ℓ) (g : Dev Cert.MoeCtxIdeal.nD → PrngReg)
    (m' : (ℓ : Loc Cert.MoeCtxRefIdeal.nD Cert.MoeCtxRefIdeal.τ Cert.MoeCtxRefIdeal.sig) → Buf (Elt Ideal) ℓ) (g' : Dev Cert.MoeCtxRefIdeal.nD → PrngReg), Pre_MoeCtxIdeal m →
    (∀ c : Dev Cert.MoeCtxIdeal.nD,
      m' ((c.tc : Thread Cert.MoeCtxRefIdeal.nD Cert.MoeCtxRefIdeal.τ).loc Cert.MoeCtxRefIdeal.main_arg0) = m ((c.tc : Thread Cert.MoeCtxIdeal.nD Cert.MoeCtxIdeal.τ).loc Cert.MoeCtxIdeal.main_arg0)
      ∧ m' ((c.tc : Thread Cert.MoeCtxRefIdeal.nD Cert.MoeCtxRefIdeal.τ).loc Cert.MoeCtxRefIdeal.main_arg1) = m ((c.tc : Thread Cert.MoeCtxIdeal.nD Cert.MoeCtxIdeal.τ).loc Cert.MoeCtxIdeal.main_arg1)
      ∧ m' ((c.tc : Thread Cert.MoeCtxRefIdeal.nD Cert.MoeCtxRefIdeal.τ).loc Cert.MoeCtxRefIdeal.main_arg2) = m ((c.tc : Thread Cert.MoeCtxIdeal.nD Cert.MoeCtxIdeal.τ).loc Cert.MoeCtxIdeal.main_arg2)
      ∧ m' ((c.tc : Thread Cert.MoeCtxRefIdeal.nD Cert.MoeCtxRefIdeal.τ).loc Cert.MoeCtxRefIdeal.main_arg3) = m ((c.tc : Thread Cert.MoeCtxIdeal.nD Cert.MoeCtxIdeal.τ).loc Cert.MoeCtxIdeal.main_arg3)
      ∧ m' ((c.tc : Thread Cert.MoeCtxRefIdeal.nD Cert.MoeCtxRefIdeal.τ).loc Cert.MoeCtxRefIdeal.main_arg4) = m ((c.tc : Thread Cert.MoeCtxIdeal.nD Cert.MoeCtxIdeal.τ).loc Cert.MoeCtxIdeal.main_arg4)) →
    ∃ (v0 : (c : Dev Cert.MoeCtxIdeal.nD) → Buf (Elt Ideal) ((c.tc : Thread Cert.MoeCtxIdeal.nD Cert.MoeCtxIdeal.τ).loc Cert.MoeCtxIdeal.main_v0)),
      θ_run (Cert.MoeCtxIdeal.defs (F := Ideal)) (onTc (τ := Cert.MoeCtxIdeal.τ) (Cert.MoeCtxIdeal.main (F := Ideal))) ⟨m, fun _ => 0, g⟩ (fun r => ∀ c : Dev Cert.MoeCtxIdeal.nD,
          r.2.mem ((c.tc : Thread Cert.MoeCtxIdeal.nD Cert.MoeCtxIdeal.τ).loc Cert.MoeCtxIdeal.main_v0) = v0 c
          ∧ r.2.mem ((c.tc : Thread Cert.MoeCtxIdeal.nD Cert.MoeCtxIdeal.τ).loc Cert.MoeCtxIdeal.main_arg0) = m ((c.tc : Thread Cert.MoeCtxIdeal.nD Cert.MoeCtxIdeal.τ).loc Cert.MoeCtxIdeal.main_arg0)
          ∧ r.2.mem ((c.tc : Thread Cert.MoeCtxIdeal.nD Cert.MoeCtxIdeal.τ).loc Cert.MoeCtxIdeal.main_arg1) = m ((c.tc : Thread Cert.MoeCtxIdeal.nD Cert.MoeCtxIdeal.τ).loc Cert.MoeCtxIdeal.main_arg1)
          ∧ r.2.mem ((c.tc : Thread Cert.MoeCtxIdeal.nD Cert.MoeCtxIdeal.τ).loc Cert.MoeCtxIdeal.main_arg2) = m ((c.tc : Thread Cert.MoeCtxIdeal.nD Cert.MoeCtxIdeal.τ).loc Cert.MoeCtxIdeal.main_arg2)
          ∧ r.2.mem ((c.tc : Thread Cert.MoeCtxIdeal.nD Cert.MoeCtxIdeal.τ).loc Cert.MoeCtxIdeal.main_arg3) = m ((c.tc : Thread Cert.MoeCtxIdeal.nD Cert.MoeCtxIdeal.τ).loc Cert.MoeCtxIdeal.main_arg3)
          ∧ r.2.mem ((c.tc : Thread Cert.MoeCtxIdeal.nD Cert.MoeCtxIdeal.τ).loc Cert.MoeCtxIdeal.main_arg4) = m ((c.tc : Thread Cert.MoeCtxIdeal.nD Cert.MoeCtxIdeal.τ).loc Cert.MoeCtxIdeal.main_arg4))
      ∧ θ_run (Cert.MoeCtxRefIdeal.defs (F := Ideal)) (onTc (τ := Cert.MoeCtxRefIdeal.τ) (Cert.MoeCtxRefIdeal.main (F := Ideal))) ⟨m', fun _ => 0, g'⟩ (fun r => ∀ c : Dev Cert.MoeCtxRefIdeal.nD,
          r.2.mem ((c.tc : Thread Cert.MoeCtxRefIdeal.nD Cert.MoeCtxRefIdeal.τ).loc Cert.MoeCtxRefIdeal.main_v13) = v0 c
          ∧ r.2.mem ((c.tc : Thread Cert.MoeCtxRefIdeal.nD Cert.MoeCtxRefIdeal.τ).loc Cert.MoeCtxRefIdeal.main_arg0) = m' ((c.tc : Thread Cert.MoeCtxRefIdeal.nD Cert.MoeCtxRefIdeal.τ).loc Cert.MoeCtxRefIdeal.main_arg0)
          ∧ r.2.mem ((c.tc : Thread Cert.MoeCtxRefIdeal.nD Cert.MoeCtxRefIdeal.τ).loc Cert.MoeCtxRefIdeal.main_arg1) = m' ((c.tc : Thread Cert.MoeCtxRefIdeal.nD Cert.MoeCtxRefIdeal.τ).loc Cert.MoeCtxRefIdeal.main_arg1)
          ∧ r.2.mem ((c.tc : Thread Cert.MoeCtxRefIdeal.nD Cert.MoeCtxRefIdeal.τ).loc Cert.MoeCtxRefIdeal.main_arg2) = m' ((c.tc : Thread Cert.MoeCtxRefIdeal.nD Cert.MoeCtxRefIdeal.τ).loc Cert.MoeCtxRefIdeal.main_arg2)
          ∧ r.2.mem ((c.tc : Thread Cert.MoeCtxRefIdeal.nD Cert.MoeCtxRefIdeal.τ).loc Cert.MoeCtxRefIdeal.main_arg3) = m' ((c.tc : Thread Cert.MoeCtxRefIdeal.nD Cert.MoeCtxRefIdeal.τ).loc Cert.MoeCtxRefIdeal.main_arg3)
          ∧ r.2.mem ((c.tc : Thread Cert.MoeCtxRefIdeal.nD Cert.MoeCtxRefIdeal.τ).loc Cert.MoeCtxRefIdeal.main_arg4) = m' ((c.tc : Thread Cert.MoeCtxRefIdeal.nD Cert.MoeCtxRefIdeal.τ).loc Cert.MoeCtxRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v21) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)) →
    ∃ (v0 : (c : Dev Cert.CtxIdeal.nD) → Buf (Elt Ideal) ((c.tc : Thread Cert.CtxIdeal.nD Cert.CtxIdeal.τ).loc Cert.CtxIdeal.main_v0_0)) (v1 : (c : Dev Cert.CtxIdeal.nD) → Buf (Elt Ideal) ((c.tc : Thread Cert.CtxIdeal.nD Cert.CtxIdeal.τ).loc Cert.CtxIdeal.main_v0_1)) (v2 : (c : Dev Cert.CtxIdeal.nD) → Buf (Elt Ideal) ((c.tc : Thread Cert.CtxIdeal.nD Cert.CtxIdeal.τ).loc Cert.CtxIdeal.main_v0_2)) (v3 : (c : Dev Cert.CtxIdeal.nD) → Buf (Elt Ideal) ((c.tc : Thread Cert.CtxIdeal.nD Cert.CtxIdeal.τ).loc Cert.CtxIdeal.main_v0_3)) (v4 : (c : Dev Cert.CtxIdeal.nD) → Buf (Elt Ideal) ((c.tc : Thread Cert.CtxIdeal.nD Cert.CtxIdeal.τ).loc Cert.CtxIdeal.main_v0_4)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0_0) = v0 c
          ∧ r.2.mem ((c.tc : Thread Cert.CtxIdeal.nD Cert.CtxIdeal.τ).loc Cert.CtxIdeal.main_v0_1) = v1 c
          ∧ r.2.mem ((c.tc : Thread Cert.CtxIdeal.nD Cert.CtxIdeal.τ).loc Cert.CtxIdeal.main_v0_2) = v2 c
          ∧ r.2.mem ((c.tc : Thread Cert.CtxIdeal.nD Cert.CtxIdeal.τ).loc Cert.CtxIdeal.main_v0_3) = v3 c
          ∧ r.2.mem ((c.tc : Thread Cert.CtxIdeal.nD Cert.CtxIdeal.τ).loc Cert.CtxIdeal.main_v0_4) = v4 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v47) = v0 c
          ∧ r.2.mem ((c.tc : Thread Cert.CtxRefIdeal.nD Cert.CtxRefIdeal.τ).loc Cert.CtxRefIdeal.main_v54) = v1 c
          ∧ r.2.mem ((c.tc : Thread Cert.CtxRefIdeal.nD Cert.CtxRefIdeal.τ).loc Cert.CtxRefIdeal.main_v55) = v2 c
          ∧ r.2.mem ((c.tc : Thread Cert.CtxRefIdeal.nD Cert.CtxRefIdeal.τ).loc Cert.CtxRefIdeal.main_v56) = v3 c
          ∧ r.2.mem ((c.tc : Thread Cert.CtxRefIdeal.nD Cert.CtxRefIdeal.τ).loc Cert.CtxRefIdeal.main_v58) = v4 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeRefIdeal : Cert.MoeRefIdeal.Facts) (hProj : Cert.Proj.Facts) (hProjIdeal : Cert.ProjIdeal.Facts) (hProjRefIdeal : Cert.ProjRefIdeal.Facts) (hMoeLast : Cert.MoeLast.Facts) (hMoeLastIdeal : Cert.MoeLastIdeal.Facts) (hMoeLastRefIdeal : Cert.MoeLastRefIdeal.Facts) (hOut : Cert.Out.Facts) (hOutIdeal : Cert.OutIdeal.Facts) (hOutRefIdeal : Cert.OutRefIdeal.Facts) (hMoeCtx : Cert.MoeCtx.Facts) (hMoeCtxIdeal : Cert.MoeCtxIdeal.Facts) (hMoeCtxRefIdeal : Cert.MoeCtxRefIdeal.Facts) (hAda : Cert.Ada.Facts) (hAdaIdeal : Cert.AdaIdeal.Facts) (hAdaRefIdeal : Cert.AdaRefIdeal.Facts) (hKv : Cert.Kv.Facts) (hKvIdeal : Cert.KvIdeal.Facts) (hKvRefIdeal : Cert.KvRefIdeal.Facts) (hCtx : Cert.Ctx.Facts) (hCtxIdeal : Cert.CtxIdeal.Facts) (hCtxRefIdeal : Cert.CtxRefIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Moe (hMoe := hMoe)
    ∧ quiescent_MoeIdeal (hMoeIdeal := hMoeIdeal)
    ∧ quiescent_MoeRefIdeal (hMoeRefIdeal := hMoeRefIdeal)
    ∧ quiescent_Proj (hProj := hProj)
    ∧ quiescent_ProjIdeal (hProjIdeal := hProjIdeal)
    ∧ quiescent_ProjRefIdeal (hProjRefIdeal := hProjRefIdeal)
    ∧ quiescent_MoeLast (hMoeLast := hMoeLast)
    ∧ quiescent_MoeLastIdeal (hMoeLastIdeal := hMoeLastIdeal)
    ∧ quiescent_MoeLastRefIdeal (hMoeLastRefIdeal := hMoeLastRefIdeal)
    ∧ quiescent_Out (hOut := hOut)
    ∧ quiescent_OutIdeal (hOutIdeal := hOutIdeal)
    ∧ quiescent_OutRefIdeal (hOutRefIdeal := hOutRefIdeal)
    ∧ quiescent_MoeCtx (hMoeCtx := hMoeCtx)
    ∧ quiescent_MoeCtxIdeal (hMoeCtxIdeal := hMoeCtxIdeal)
    ∧ quiescent_MoeCtxRefIdeal (hMoeCtxRefIdeal := hMoeCtxRefIdeal)
    ∧ quiescent_Ada (hAda := hAda)
    ∧ quiescent_AdaIdeal (hAdaIdeal := hAdaIdeal)
    ∧ quiescent_AdaRefIdeal (hAdaRefIdeal := hAdaRefIdeal)
    ∧ quiescent_Kv (hKv := hKv)
    ∧ quiescent_KvIdeal (hKvIdeal := hKvIdeal)
    ∧ quiescent_KvRefIdeal (hKvRefIdeal := hKvRefIdeal)
    ∧ quiescent_Ctx (hCtx := hCtx)
    ∧ quiescent_CtxIdeal (hCtxIdeal := hCtxIdeal)
    ∧ quiescent_CtxRefIdeal (hCtxRefIdeal := hCtxRefIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Moe_MoeIdeal
    ∧ algebraic_MoeIdeal_MoeRefIdeal (hMoeIdeal := hMoeIdeal) (hMoeRefIdeal := hMoeRefIdeal)
    ∧ preserves_Proj_ProjIdeal
    ∧ algebraic_ProjIdeal_ProjRefIdeal (hProjIdeal := hProjIdeal) (hProjRefIdeal := hProjRefIdeal)
    ∧ preserves_MoeLast_MoeLastIdeal
    ∧ algebraic_MoeLastIdeal_MoeLastRefIdeal (hMoeLastIdeal := hMoeLastIdeal) (hMoeLastRefIdeal := hMoeLastRefIdeal)
    ∧ preserves_Out_OutIdeal
    ∧ algebraic_OutIdeal_OutRefIdeal (hOutIdeal := hOutIdeal) (hOutRefIdeal := hOutRefIdeal)
    ∧ preserves_MoeCtx_MoeCtxIdeal
    ∧ algebraic_MoeCtxIdeal_MoeCtxRefIdeal (hMoeCtxIdeal := hMoeCtxIdeal) (hMoeCtxRefIdeal := hMoeCtxRefIdeal)
    ∧ preserves_Ada_AdaIdeal
    ∧ algebraic_AdaIdeal_AdaRefIdeal (hAdaIdeal := hAdaIdeal) (hAdaRefIdeal := hAdaRefIdeal)
    ∧ preserves_Kv_KvIdeal
    ∧ algebraic_KvIdeal_KvRefIdeal (hKvIdeal := hKvIdeal) (hKvRefIdeal := hKvRefIdeal)
    ∧ preserves_Ctx_CtxIdeal
    ∧ algebraic_CtxIdeal_CtxRefIdeal (hCtxIdeal := hCtxIdeal) (hCtxRefIdeal := hCtxRefIdeal)
-- ==== Pre_finite_logits.lean ====
abbrev S8x4096x256 : Shape := ⟨3, ![8, 4096, 256]⟩
abbrev S8x4096x768 : Shape := ⟨3, ![8, 4096, 768]⟩
abbrev S8x256x768 : Shape := ⟨3, ![8, 256, 768]⟩
abbrev S4 : Shape := ⟨1, ![4]⟩
abbrev S_ : Shape := ⟨0, ![]⟩
abbrev S8x4096x128 : Shape := ⟨3, ![8, 4096, 128]⟩
abbrev S8x256x128 : Shape := ⟨3, ![8, 256, 128]⟩

class Facts : Prop where
  bitsLt_bf16_f32 : FTy.bits .bf16 < FTy.bits .f32
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  slices_S8x4096x768_S8x4096x128_0_0_0 : S8x4096x768.Slices ![0, 0, 0] S8x4096x128
  bcast_S_S8x4096x128 : S_.BroadcastsInDim S8x4096x128 (![] : Fin 0 → Fin S8x4096x128.rank)
  reducesTo_S8x4096x128_S_d0_1_2 : S8x4096x128.ReducesTo [0, 1, 2] S_
  slices_S8x256x768_S8x256x128_0_0_0 : S8x256x768.Slices ![0, 0, 0] S8x256x128
  bcast_S_S8x256x128 : S_.BroadcastsInDim S8x256x128 (![] : Fin 0 → Fin S8x256x128.rank)
  reducesTo_S8x256x128_S_d0_1_2 : S8x256x128.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_arg3 : FVec F S4 .f32) (main_v11 : IVec S_ 1) (main_v17 : IVec S_ 1) : IVec S_ 1 :=
  let main_v18 : IVec S_ 1 := andi main_v11 main_v17
  let main_v19 : FVec F S4 .f32 := Host.absf main_arg3
  let main_cst_4 : FVec F S_ .f32 := constant S_ .f32 0x7F800000#32
  let main_v20 : FVec F S4 .f32 := broadcastInDim S4 ![] bcast_S_S4 main_cst_4
  let main_v21 : IVec S4 1 := cmpf .olt main_v19 main_v20
  let main_c_5 : IVec S_ 1 := constantI S_ 1 1#1
  let main_v22 : IVec S_ 1 := (fun x v => Host.reduce IntOp.andi x v reducesTo_S4_S_d0 h_S_) main_v21 main_c_5
  let main_v23 : IVec S_ 1 := andi main_v18 main_v22
  main_v23

def fn {F : FTy → Type} [FloatOps F] (main_arg0 : FVec F S8x4096x256 .bf16) (main_arg1 : FVec F S8x4096x768 .bf16) (main_arg2 : FVec F S8x256x768 .bf16) (main_arg3 : FVec F S4 .f32) : IVec S_ 1 :=
  let main_v0 : FVec F S8x4096x256 .f32 := (extf .f32 · bitsLt_bf16_f32) main_arg0
  let main_v1 : FVec F S8x4096x256 .f32 := Host.absf main_v0
  let main_cst : FVec F S_ .f32 := constant S_ .f32 0x7F800000#32
  let main_v2 : FVec F S8x4096x256 .f32 := broadcastInDim S8x4096x256 ![] bcast_S_S8x4096x256 main_cst
  let main_v3 : IVec S8x4096x256 1 := cmpf .olt main_v1 main_v2
  let main_c : IVec S_ 1 := constantI S_ 1 1#1
  let main_v4 : IVec S_ 1 := (fun x v => Host.reduce IntOp.andi x v reducesTo_S8x4096x256_S_d0_1_2 h_S_) main_v3 main_c
  let main_v5 : FVec F S8x4096x128 .bf16 := (extractStridedSlice S8x4096x128 ![0, 0, 0] · slices_S8x4096x768_S8x4096x128_0_0_0) main_arg1
  let main_v6 : FVec F S8x4096x128 .f32 := (extf .f32 · bitsLt_bf16_f32) main_v5
  let main_v7 : FVec F S8x4096x128 .f32 := Host.absf main_v6
  let main_cst_0 : FVec F S_ .f32 := constant S_ .f32 0x7F800000#32
  let main_v8 : FVec F S8x4096x128 .f32 := broadcastInDim S8x4096x128 ![] bcast_S_S8x4096x128 main_cst_0
  let main_v9 : IVec S8x4096x128 1 := cmpf .olt main_v7 main_v8
  let main_c_1 : IVec S_ 1 := constantI S_ 1 1#1
  let main_v10 : IVec S_ 1 := (fun x v => Host.reduce IntOp.andi x v reducesTo_S8x4096x128_S_d0_1_2 h_S_) main_v9 main_c_1
  let main_v11 : IVec S_ 1 := andi main_v4 main_v10
  let main_v12 : FVec F S8x256x128 .bf16 := (extractStridedSlice S8x256x128 ![0, 0, 0] · slices_S8x256x768_S8x256x128_0_0_0) main_arg2
  let main_v13 : FVec F S8x256x128 .f32 := (extf .f32 · bitsLt_bf16_f32) main_v12
  let main_v14 : FVec F S8x256x128 .f32 := Host.absf main_v13
  let main_cst_2 : FVec F S_ .f32 := constant S_ .f32 0x7F800000#32
  let main_v15 : FVec F S8x256x128 .f32 := broadcastInDim S8x256x128 ![] bcast_S_S8x256x128 main_cst_2
  let main_v16 : IVec S8x256x128 1 := cmpf .olt main_v14 main_v15
  let main_c_3 : IVec S_ 1 := constantI S_ 1 1#1
  let main_v17 : IVec S_ 1 := (fun x v => Host.reduce IntOp.andi x v reducesTo_S8x256x128_S_d0_1_2 h_S_) main_v16 main_c_3
  fn_part1 (F := F) main_arg3 main_v11 main_v17
-- ==== Kernel.lean ====
abbrev S8x4096x256 : Shape := ⟨3, ![8, 4096, 256]⟩
abbrev S8x4096x768 : Shape := ⟨3, ![8, 4096, 768]⟩
abbrev S8x256x768 : Shape := ⟨3, ![8, 256, 768]⟩
abbrev S4 : Shape := ⟨1, ![4]⟩
abbrev S1x512x256 : Shape := ⟨3, ![1, 512, 256]⟩
abbrev S1x128x128 : Shape := ⟨3, ![1, 128, 128]⟩
abbrev S1x512x128 : Shape := ⟨3, ![1, 512, 128]⟩
abbrev S1x256x128 : Shape := ⟨3, ![1, 256, 128]⟩
abbrev S512x256 : Shape := ⟨2, ![512, 256]⟩
abbrev S128x128 : Shape := ⟨2, ![128, 128]⟩
abbrev S512x128 : Shape := ⟨2, ![512, 128]⟩
abbrev S768x128 : Shape := ⟨2, ![768, 128]⟩
abbrev S256x128 : Shape := ⟨2, ![256, 128]⟩
abbrev S512x384 : Shape := ⟨2, ![512, 384]⟩
abbrev S512x1 : Shape := ⟨2, ![512, 1]⟩
abbrev S1 : Shape := ⟨1, ![1]⟩
abbrev S384x128 : Shape := ⟨2, ![384, 128]⟩
abbrev S512 : Shape := ⟨1, ![512]⟩
abbrev S128x256 : Shape := ⟨2, ![128, 256]⟩
abbrev S1x128x256 : Shape := ⟨3, ![1, 128, 256]⟩

abbrev nBuf : Space → Nat
  | .hbm => 5
  | .vmem => 20
  | .smem => 1
  | _ => 0

abbrev bufTy : (tb : Table) → Fin (tcTables nBuf tb) → BufTy
  | .hbm, ⟨0, _⟩ => ⟨S8x4096x256, .bf16⟩
  | .hbm, ⟨1, _⟩ => ⟨S8x4096x768, .bf16⟩
  | .hbm, ⟨2, _⟩ => ⟨S8x256x768, .bf16⟩
  | .hbm, ⟨3, _⟩ => ⟨S4, .f32⟩
  | .hbm, ⟨4, _⟩ => ⟨S8x4096x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x128x128, .bf16⟩
  | .local _ .vmem, ⟨3, _⟩ => ⟨S1x128x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x512x256, .bf16⟩
  | .local _ .vmem, ⟨19, _⟩ => ⟨S1x512x256, .bf16⟩
  | .local _ .smem, ⟨0, _⟩ => ⟨S4, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c_m1_i32 : BitVec 32 := 4294967295#32
  let v1 : BitVec 32 := Scalar.addi v0 c_m1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c0_i32 : BitVec 32 := 0#32
  let c31_i32 : BitVec 32 := 31#32
  let v2 : BitVec 32 := Scalar.maxsi c0_i32 v1
  let v3 : BitVec 32 := Scalar.minsi c31_i32 v2
  let c0_i32_1 : BitVec 32 := 0#32
  let c0_i32_2 : BitVec 32 := 0#32
  ![arg0.toNat, v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c_m1_i32 : BitVec 32 := 4294967295#32
  let v1 : BitVec 32 := Scalar.addi v0 c_m1_i32
  let c0_i32 : BitVec 32 := 0#32
  let c31_i32 : BitVec 32 := 31#32
  let v2 : BitVec 32 := Scalar.maxsi c0_i32 v1
  let v3 : BitVec 32 := Scalar.minsi c31_i32 v2
  let c1_i32 : BitVec 32 := 1#32
  let c0_i32_0 : BitVec 32 := 0#32
  ![arg0.toNat, v3.toNat, c1_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c0_i32 : BitVec 32 := 0#32
  let c31_i32 : BitVec 32 := 31#32
  let v2 : BitVec 32 := Scalar.maxsi c0_i32 v1
  let v3 : BitVec 32 := Scalar.minsi c31_i32 v2
  let c1_i32 : BitVec 32 := 1#32
  let c0_i32_1 : BitVec 32 := 0#32
  ![arg0.toNat, v3.toNat, c1_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x256 : Shape := ⟨3, ![8, 4096, 256]⟩
abbrev S8x4096x768 : Shape := ⟨3, ![8, 4096, 768]⟩
abbrev S8x256x768 : Shape := ⟨3, ![8, 256, 768]⟩
abbrev S4 : Shape := ⟨1, ![4]⟩
abbrev S8x4096x2x2x64 : Shape := ⟨5, ![8, 4096, 2, 2, 64]⟩
abbrev S8x4096x128 : Shape := ⟨3, ![8, 4096, 128]⟩
abbrev S8x4096x2x64 : Shape := ⟨4, ![8, 4096, 2, 64]⟩
abbrev S8x256x128 : Shape := ⟨3, ![8, 256, 128]⟩
abbrev S8x256x2x64 : Shape := ⟨4, ![8, 256, 2, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x2x4096x4096x2 : Shape := ⟨5, ![8, 2, 4096, 4096, 2]⟩
abbrev S8x2x2x4096x4096 : Shape := ⟨5, ![8, 2, 2, 4096, 4096]⟩
abbrev S8x2x256x4096x2 : Shape := ⟨5, ![8, 2, 256, 4096, 2]⟩
abbrev S8x2x2x4096x256 : Shape := ⟨5, ![8, 2, 2, 4096, 256]⟩
abbrev S2x2 : Shape := ⟨2, ![2, 2]⟩
abbrev S1x2x2x1x1 : Shape := ⟨5, ![1, 2, 2, 1, 1]⟩
abbrev S8x2x2x4096x1 : Shape := ⟨5, ![8, 2, 2, 4096, 1]⟩
abbrev S8x2x2x4096x4353 : Shape := ⟨5, ![8, 2, 2, 4096, 4353]⟩
abbrev S8x2x2x4096 : Shape := ⟨4, ![8, 2, 2, 4096]⟩
abbrev S8x2x64x2x4096 : Shape := ⟨5, ![8, 2, 64, 2, 4096]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4096x768, .bf16⟩
  | .hbm, ⟨2, _⟩ => ⟨S8x256x768, .bf16⟩
  | .hbm, ⟨3, _⟩ => ⟨S4, .f32⟩
  | .hbm, ⟨4, _⟩ => ⟨S8x4096x256, .f32⟩
  | .hbm, ⟨5, _⟩ => ⟨S8x4096x2x2x64, .f32⟩
  | .hbm, ⟨6, _⟩ => ⟨S8x4096x128, .bf16⟩
  | .hbm, ⟨7, _⟩ => ⟨S8x4096x128, .f32⟩
  | .hbm, ⟨8, _⟩ => ⟨S8x4096x2x64, .f32⟩
  | .hbm, ⟨9, _⟩ => ⟨S8x4096x128, .bf16⟩
  | .hbm, ⟨10, _⟩ => ⟨S8x4096x128, .f32⟩
  | .hbm, ⟨11, _⟩ => ⟨S8x4096x2x64, .f32⟩
  | .hbm, ⟨12, _⟩ => ⟨S8x256x128, .bf16⟩
  | .hbm, ⟨13, _⟩ => ⟨S8x256x128, .f32⟩
  | .hbm, ⟨14, _⟩ => ⟨S8x256x2x64, .f32⟩
  | .hbm, ⟨15, _⟩ => ⟨S8x256x128, .bf16⟩
  | .hbm, ⟨16, _⟩ => ⟨S8x256x128, .f32⟩
  | .hbm, ⟨17, _⟩ => ⟨S8x256x2x64, .f32⟩
  | .hbm, ⟨18, _⟩ => ⟨S4096, .i32⟩
  | .hbm, ⟨19, _⟩ => ⟨S4096x1, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i1⟩
  | .hbm, ⟨28, _⟩ => ⟨S8x2x4096x4096x2, .f32⟩
  | .hbm, ⟨29, _⟩ => ⟨S8x2x2x4096x4096, .f32⟩
  | .hbm, ⟨30, _⟩ => ⟨S_, .f32⟩
  | .hbm, ⟨31, _⟩ => ⟨S_, .f32⟩
  | .hbm, ⟨32, _⟩ => ⟨S8x2x2x4096x4096, .i1⟩
  | .hbm, ⟨33, _⟩ => ⟨S8x2x2x4096x4096, .f32⟩
  | .hbm, ⟨34, _⟩ => ⟨S8x2x2x4096x4096, .f32⟩
  | .hbm, ⟨35, _⟩ => ⟨S8x2x256x4096x2, .f32⟩
  | .hbm, ⟨36, _⟩ => ⟨S8x2x2x4096x256, .f32⟩
  | .hbm, ⟨37, _⟩ => ⟨S2x2, .f32⟩
  | .hbm, ⟨38, _⟩ => ⟨S1x2x2x1x1, .f32⟩
  | .hbm, ⟨39, _⟩ => ⟨S8x2x2x4096x1, .f32⟩
  | .hbm, ⟨40, _⟩ => ⟨S8x2x2x4096x4353, .f32⟩
  | .hbm, ⟨41, _⟩ => ⟨S_, .f32⟩
  | .hbm, ⟨42, _⟩ => ⟨S8x2x2x4096, .f32⟩
  | .hbm, ⟨43, _⟩ => ⟨S_, .f32⟩
  | .hbm, ⟨44, _⟩ => ⟨S8x2x2x4096, .f32⟩
  | .hbm, ⟨45, _⟩ => ⟨S8x2x2x4096, .f32⟩
  | .hbm, ⟨46, _⟩ => ⟨S8x2x2x4096x1, .f32⟩
  | .hbm, ⟨47, _⟩ => ⟨S8x2x2x4096x4353, .f32⟩
  | .hbm, ⟨48, _⟩ => ⟨S8x2x2x4096x4353, .f32⟩
  | .hbm, ⟨49, _⟩ => ⟨S8x2x2x4096x4353, .f32⟩
  | .hbm, ⟨50, _⟩ => ⟨S_, .f32⟩
  | .hbm, ⟨51, _⟩ => ⟨S8x2x2x4096, .f32⟩
  | .hbm, ⟨52, _⟩ => ⟨S8x2x2x4096x1, .f32⟩
  | .hbm, ⟨53, _⟩ => ⟨S8x2x2x4096x4353, .f32⟩
  | .hbm, ⟨54, _⟩ => ⟨S8x2x2x4096x4353, .f32⟩
  | .hbm, ⟨55, _⟩ => ⟨S8x2x2x4096x4353, .bf16⟩
  | .hbm, ⟨56, _⟩ => ⟨S8x2x2x4096x4353, .f32⟩
  | .hbm, ⟨57, _⟩ => ⟨S8x2x2x4096x4096, .f32⟩
  | .hbm, ⟨58, _⟩ => ⟨S8x2x64x2x4096, .f32⟩
  | .hbm, ⟨59, _⟩ => ⟨S8x4096x2x2x64, .f32⟩
  | .hbm, ⟨60, _⟩ => ⟨S8x2x2x4096x256, .f32⟩
  | .hbm, ⟨61, _⟩ => ⟨S8x2x64x2x4096, .f32⟩
  | .hbm, ⟨62, _⟩ => ⟨S8x4096x2x2x64, .f32⟩
  | .hbm, ⟨63, _⟩ => ⟨S8x4096x2x2x64, .f32⟩
  | .hbm, ⟨64, _⟩ => ⟨S8x4096x256, .f32⟩
  | .hbm, ⟨65, _⟩ => ⟨S8x4096x256, .bf16⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Moe.lean ====
abbrev S16x4096x1024 : Shape := ⟨3, ![16, 4096, 1024]⟩
abbrev S16x4096x1 : Shape := ⟨3, ![16, 4096, 1]⟩
abbrev S2x16x1024x2048 : Shape := ⟨4, ![2, 16, 1024, 2048]⟩
abbrev S2x16x2048x1024 : Shape := ⟨4, ![2, 16, 2048, 1024]⟩
abbrev S1x2048x1024 : Shape := ⟨3, ![1, 2048, 1024]⟩
abbrev S1x2048x1 : Shape := ⟨3, ![1, 2048, 1]⟩
abbrev S1x1x1024x256 : Shape := ⟨4, ![1, 1, 1024, 256]⟩
abbrev S1x1x256x1024 : Shape := ⟨4, ![1, 1, 256, 1024]⟩
abbrev S2048x1024 : Shape := ⟨2, ![2048, 1024]⟩
abbrev S1024x256 : Shape := ⟨2, ![1024, 256]⟩
abbrev S2048x256 : Shape := ⟨2, ![2048, 256]⟩
abbrev S256x1024 : Shape := ⟨2, ![256, 1024]⟩
abbrev S2048x1 : Shape := ⟨2, ![2048, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x4096x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1, .f32⟩
  | .local _ .vmem, ⟨3, _⟩ => ⟨S1x2048x1, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x2048x1024, .f32⟩
  | .local _ .vmem, ⟨11, _⟩ => ⟨S1x2048x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MoeIdeal.lean ====
abbrev S16x4096x1024 : Shape := ⟨3, ![16, 4096, 1024]⟩
abbrev S16x4096x1 : Shape := ⟨3, ![16, 4096, 1]⟩
abbrev S2x16x1024x2048 : Shape := ⟨4, ![2, 16, 1024, 2048]⟩
abbrev S2x16x2048x1024 : Shape := ⟨4, ![2, 16, 2048, 1024]⟩
abbrev S1x2048x1024 : Shape := ⟨3, ![1, 2048, 1024]⟩
abbrev S1x2048x1 : Shape := ⟨3, ![1, 2048, 1]⟩
abbrev S1x1x1024x256 : Shape := ⟨4, ![1, 1, 1024, 256]⟩
abbrev S1x1x256x1024 : Shape := ⟨4, ![1, 1, 256, 1024]⟩
abbrev S2048x1024 : Shape := ⟨2, ![2048, 1024]⟩
abbrev S1024x256 : Shape := ⟨2, ![1024, 256]⟩
abbrev S2048x256 : Shape := ⟨2, ![2048, 256]⟩
abbrev S256x1024 : Shape := ⟨2, ![256, 1024]⟩
abbrev S2048x1 : Shape := ⟨2, ![2048, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x4096x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1, .f32⟩
  | .local _ .vmem, ⟨3, _⟩ => ⟨S1x2048x1, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x2048x1024, .f32⟩
  | .local _ .vmem, ⟨11, _⟩ => ⟨S1x2048x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MoeRefIdeal.lean ====
abbrev S16x4096x1024 : Shape := ⟨3, ![16, 4096, 1024]⟩
abbrev S16x4096x1 : Shape := ⟨3, ![16, 4096, 1]⟩
abbrev S2x16x1024x2048 : Shape := ⟨4, ![2, 16, 1024, 2048]⟩
abbrev S2x16x2048x1024 : Shape := ⟨4, ![2, 16, 2048, 1024]⟩
abbrev S1x16x1024x2048 : Shape := ⟨4, ![1, 16, 1024, 2048]⟩
abbrev S16x1024x2048 : Shape := ⟨3, ![16, 1024, 2048]⟩
abbrev S16x4096x2048 : Shape := ⟨3, ![16, 4096, 2048]⟩
abbrev S_ : Shape := ⟨0, ![]⟩
abbrev S1x16x2048x1024 : Shape := ⟨4, ![1, 16, 2048, 1024]⟩
abbrev S16x2048x1024 : Shape := ⟨3, ![16, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x4096x1024, .f32⟩
  | .hbm, ⟨6, _⟩ => ⟨S1x16x1024x2048, .f32⟩
  | .hbm, ⟨7, _⟩ => ⟨S16x1024x2048, .f32⟩
  | .hbm, ⟨8, _⟩ => ⟨S16x4096x2048, .f32⟩
  | .hbm, ⟨9, _⟩ => ⟨S1x16x1024x2048, .f32⟩
  | .hbm, ⟨10, _⟩ => ⟨S16x1024x2048, .f32⟩
  | .hbm, ⟨11, _⟩ => ⟨S16x4096x2048, .f32⟩
  | .hbm, ⟨12, _⟩ => ⟨S16x4096x2048, .f32⟩
  | .hbm, ⟨13, _⟩ => ⟨S16x4096x2048, .f32⟩
  | .hbm, ⟨14, _⟩ => ⟨S_, .f32⟩
  | .hbm, ⟨15, _⟩ => ⟨S16x4096x2048, .f32⟩
  | .hbm, ⟨16, _⟩ => ⟨S16x4096x2048, .f32⟩
  | .hbm, ⟨17, _⟩ => ⟨S_, .f32⟩
  | .hbm, ⟨18, _⟩ => ⟨S16x4096x2048, .f32⟩
  | .hbm, ⟨19, _⟩ => ⟨S16x4096x2048, .f32⟩
  | .hbm, ⟨20, _⟩ => ⟨S16x4096x2048, .f32⟩
  | .hbm, ⟨21, _⟩ => ⟨S16x4096x2048, .f32⟩
  | .hbm, ⟨22, _⟩ => ⟨S1x16x2048x1024, .f32⟩
  | .hbm, ⟨23, _⟩ => ⟨S16x2048x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Proj.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x2304 : Shape := ⟨2, ![1024, 2304]⟩
abbrev S3x768 : Shape := ⟨2, ![3, 768]⟩
abbrev S1x768 : Shape := ⟨2, ![1, 768]⟩
abbrev S4096x64 : Shape := ⟨2, ![4096, 64]⟩
abbrev S64 : Shape := ⟨1, ![64]⟩
abbrev S1x64 : Shape := ⟨2, ![1, 64]⟩
abbrev S_ : Shape := ⟨0, ![]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8x4096x768 : Shape := ⟨3, ![8, 4096, 768]⟩
abbrev S8x4096x256 : Shape := ⟨3, ![8, 4096, 256]⟩
abbrev S1x512x1024 : Shape := ⟨3, ![1, 512, 1024]⟩
abbrev S1x8x1024 : Shape := ⟨3, ![1, 8, 1024]⟩
abbrev S1x1x1024 : Shape := ⟨3, ![1, 1, 1024]⟩
abbrev S512x128 : Shape := ⟨2, ![512, 128]⟩
abbrev S1x512x768 : Shape := ⟨3, ![1, 512, 768]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x2304 : Shape := ⟨2, ![512, 2304]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x768 : Shape := ⟨2, ![1024, 768]⟩
abbrev S16x768 : Shape := ⟨2, ![16, 768]⟩
abbrev S8x768 : Shape := ⟨2, ![8, 768]⟩
abbrev S512x768 : Shape := ⟨2, ![512, 768]⟩
abbrev S528x768 : Shape := ⟨2, ![528, 768]⟩
abbrev S512x256 : Shape := ⟨2, ![512, 256]⟩
abbrev S512x640 : Shape := ⟨2, ![512, 640]⟩

abbrev nBuf : Space → Nat
  | .hbm => 36
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x2304, .bf16⟩
  | .hbm, ⟨5, _⟩ => ⟨S3x768, .f32⟩
  | .hbm, ⟨6, _⟩ => ⟨S1x768, .f32⟩
  | .hbm, ⟨7, _⟩ => ⟨S4096x64, .f32⟩
  | .hbm, ⟨8, _⟩ => ⟨S4096x64, .f32⟩
  | .hbm, ⟨9, _⟩ => ⟨S64, .i1⟩
  | .hbm, ⟨10, _⟩ => ⟨S1x64, .i1⟩
  | .hbm, ⟨11, _⟩ => ⟨S4096x64, .f32⟩
  | .hbm, ⟨12, _⟩ => ⟨S_, .f32⟩
  | .hbm, ⟨13, _⟩ => ⟨S_, .f32⟩
  | .hbm, ⟨14, _⟩ => ⟨S4096x64, .i1⟩
  | .hbm, ⟨15, _⟩ => ⟨S4096x64, .f32⟩
  | .hbm, ⟨16, _⟩ => ⟨S4096x64, .f32⟩
  | .hbm, ⟨17, _⟩ => ⟨S_, .f32⟩
  | .hbm, ⟨18, _⟩ => ⟨S_, .f32⟩
  | .hbm, ⟨19, _⟩ => ⟨S4096x64, .i1⟩
  | .hbm, ⟨20, _⟩ => ⟨S4096x64, .f32⟩
  | .hbm, ⟨21, _⟩ => ⟨S4096x64, .f32⟩
  | .hbm, ⟨22, _⟩ => ⟨S1x4096x1x64, .f32⟩
  | .hbm, ⟨23, _⟩ => ⟨S1x4096x2x64, .f32⟩
  | .hbm, ⟨24, _⟩ => ⟨S4096x128, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S8x4096x768, .f32⟩
  | .hbm, ⟨32, _⟩ => ⟨S8x4096x256, .f32⟩
  | .hbm, ⟨33, _⟩ => ⟨S8x4096x256, .bf16⟩
  | .hbm, ⟨34, _⟩ => ⟨S8x4096x256, .bf16⟩
  | .hbm, ⟨35, _⟩ => ⟨S8x4096x768, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x2304, .bf16⟩
  | .local _ .vmem, ⟨12, _⟩ => ⟨S3x768, .f32⟩
  | .local _ .vmem, ⟨13, _⟩ => ⟨S1x768, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x512x768, .f32⟩
  | .local _ .vmem, ⟨21, _⟩ => ⟨S1x512x768, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x768, .bf16⟩
  | .local _ .vmem, ⟨29, _⟩ => ⟨S1x512x768, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v2 : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev main_v13_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg1.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjRefIdeal.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x2304 : Shape := ⟨2, ![1024, 2304]⟩
abbrev S3x768 : Shape := ⟨2, ![3, 768]⟩
abbrev S1x768 : Shape := ⟨2, ![1, 768]⟩
abbrev S4096x64 : Shape := ⟨2, ![4096, 64]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S8x4096x2304 : Shape := ⟨3, ![8, 4096, 2304]⟩
abbrev S8x4096x768 : Shape := ⟨3, ![8, 4096, 768]⟩
abbrev S8x4098x768 : Shape := ⟨3, ![8, 4098, 768]⟩
abbrev S768 : Shape := ⟨1, ![768]⟩
abbrev S1x1x768 : Shape := ⟨3, ![1, 1, 768]⟩
abbrev S8x4096x256 : Shape := ⟨3, ![8, 4096, 256]⟩
abbrev S8x4096x4x2x2x16 : Shape := ⟨6, ![8, 4096, 4, 2, 2, 16]⟩
abbrev S4096x1x2x2x16 : Shape := ⟨5, ![4096, 1, 2, 2, 16]⟩
abbrev S8x4096x4x2x1x16 : Shape := ⟨6, ![8, 4096, 4, 2, 1, 16]⟩
abbrev S8x4096x4x2x16 : Shape := ⟨5, ![8, 4096, 4, 2, 16]⟩
abbrev S4096x1x2x1x16 : Shape := ⟨5, ![4096, 1, 2, 1, 16]⟩
abbrev S4096x1x2x16 : Shape := ⟨4, ![4096, 1, 2, 16]⟩
abbrev S1x4096x1x2x16 : Shape := ⟨5, ![1, 4096, 1, 2, 16]⟩
abbrev S8x4096x128 : Shape := ⟨3, ![8, 4096, 128]⟩
abbrev S8x4096x2x2x2x16 : Shape := ⟨6, ![8, 4096, 2, 2, 2, 16]⟩
abbrev S8x4096x2x2x1x16 : Shape := ⟨6, ![8, 4096, 2, 2, 1, 16]⟩
abbrev S8x4096x2x2x16 : Shape := ⟨5, ![8, 4096, 2, 2, 16]⟩
abbrev S8x4096x640 : Shape := ⟨3, ![8, 4096, 640]⟩

abbrev nBuf : Space → Nat
  | .hbm => 152
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1x1024, .f32⟩
  | 4 => ⟨S1024x2304, .bf16⟩
  | 5 => ⟨S3x768, .f32⟩
  | 6 => ⟨S1x768, .f32⟩
  | 7 => ⟨S4096x64, .f32⟩
  | 8 => ⟨S4096x64, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1024, .f32⟩
  | 23 => ⟨S1x1x1024, .f32⟩
  | 24 => ⟨S8x4096x1024, .f32⟩
  | 25 => ⟨S8x4096x1024, .f32⟩
  | 26 => ⟨S_, .f32⟩
  | 27 => ⟨S8x1x1024, .f32⟩
  | 28 => ⟨S8x1x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S1024x2304, .f32⟩
  | 34 => ⟨S8x4096x2304, .f32⟩
  | 35 => ⟨S8x4096x768, .f32⟩
  | 36 => ⟨S_, .i32⟩
  | 37 => ⟨S_, .f32⟩
  | 38 => ⟨S8x4098x768, .f32⟩
  | 39 => ⟨S8x4096x768, .f32⟩
  | 40 => ⟨S1x768, .f32⟩
  | 41 => ⟨S768, .f32⟩
  | 42 => ⟨S1x1x768, .f32⟩
  | 43 => ⟨S8x4096x768, .f32⟩
  | 44 => ⟨S8x4096x768, .f32⟩
  | 45 => ⟨S8x4096x768, .f32⟩
  | 46 => ⟨S1x768, .f32⟩
  | 47 => ⟨S768, .f32⟩
  | 48 => ⟨S1x1x768, .f32⟩
  | 49 => ⟨S8x4096x768, .f32⟩
  | 50 => ⟨S8x4096x768, .f32⟩
  | 51 => ⟨S8x4096x768, .f32⟩
  | 52 => ⟨S8x4096x768, .f32⟩
  | 53 => ⟨S1x768, .f32⟩
  | 54 => ⟨S768, .f32⟩
  | 55 => ⟨S1x1x768, .f32⟩
  | 56 => ⟨S8x4096x768, .f32⟩
  | 57 => ⟨S8x4096x768, .f32⟩
  | 58 => ⟨S8x4096x768, .f32⟩
  | 59 => ⟨S768, .f32⟩
  | 60 => ⟨S1x1x768, .f32⟩
  | 61 => ⟨S8x4096x768, .f32⟩
  | 62 => ⟨S8x4096x768, .f32⟩
  | 63 => ⟨S8x4096x256, .f32⟩
  | 64 => ⟨S8x4096x4x2x2x16, .f32⟩
  | 65 => ⟨S4096x1x2x2x16, .f32⟩
  | 66 => ⟨S4096x1x2x2x16, .f32⟩
  | 67 => ⟨S8x4096x4x2x1x16, .f32⟩
  | 68 => ⟨S8x4096x4x2x16, .f32⟩
  | 69 => ⟨S4096x1x2x1x16, .f32⟩
  | 70 => ⟨S4096x1x2x16, .f32⟩
  | 71 => ⟨S1x4096x1x2x16, .f32⟩
  | 72 => ⟨S8x4096x4x2x16, .f32⟩
  | 73 => ⟨S8x4096x4x2x16, .f32⟩
  | 74 => ⟨S8x4096x4x2x1x16, .f32⟩
  | 75 => ⟨S8x4096x4x2x16, .f32⟩
  | 76 => ⟨S4096x1x2x1x16, .f32⟩
  | 77 => ⟨S4096x1x2x16, .f32⟩
  | 78 => ⟨S1x4096x1x2x16, .f32⟩
  | 79 => ⟨S8x4096x4x2x16, .f32⟩
  | 80 => ⟨S8x4096x4x2x16, .f32⟩
  | 81 => ⟨S8x4096x4x2x16, .f32⟩
  | 82 => ⟨S8x4096x4x2x1x16, .f32⟩
  | 83 => ⟨S8x4096x4x2x16, .f32⟩
  | 84 => ⟨S4096x1x2x1x16, .f32⟩
  | 85 => ⟨S4096x1x2x16, .f32⟩
  | 86 => ⟨S1x4096x1x2x16, .f32⟩
  | 87 => ⟨S8x4096x4x2x16, .f32⟩
  | 88 => ⟨S8x4096x4x2x16, .f32⟩
  | 89 => ⟨S8x4096x4x2x1x16, .f32⟩
  | 90 => ⟨S8x4096x4x2x16, .f32⟩
  | 91 => ⟨S4096x1x2x1x16, .f32⟩
  | 92 => ⟨S4096x1x2x16, .f32⟩
  | 93 => ⟨S1x4096x1x2x16, .f32⟩
  | 94 => ⟨S8x4096x4x2x16, .f32⟩
  | 95 => ⟨S8x4096x4x2x16, .f32⟩
  | 96 => ⟨S8x4096x4x2x16, .f32⟩
  | 97 => ⟨S8x4096x4x2x1x16, .f32⟩
  | 98 => ⟨S8x4096x4x2x1x16, .f32⟩
  | 99 => ⟨S8x4096x4x2x2x16, .f32⟩
  | 100 => ⟨S8x4096x256, .f32⟩
  | 101 => ⟨S_, .f32⟩
  | 102 => ⟨S8x4096x256, .f32⟩
  | 103 => ⟨S8x4096x256, .f32⟩
  | 104 => ⟨S8x4096x256, .f32⟩
  | 105 => ⟨S_, .f32⟩
  | 106 => ⟨S8x4096x256, .f32⟩
  | 107 => ⟨S8x4096x256, .f32⟩
  | 108 => ⟨S8x4096x128, .f32⟩
  | 109 => ⟨S8x4096x2x2x2x16, .f32⟩
  | 110 => ⟨S4096x1x2x2x16, .f32⟩
  | 111 => ⟨S4096x1x2x2x16, .f32⟩
  | 112 => ⟨S8x4096x2x2x1x16, .f32⟩
  | 113 => ⟨S8x4096x2x2x16, .f32⟩
  | 114 => ⟨S4096x1x2x1x16, .f32⟩
  | 115 => ⟨S4096x1x2x16, .f32⟩
  | 116 => ⟨S1x4096x1x2x16, .f32⟩
  | 117 => ⟨S8x4096x2x2x16, .f32⟩
  | 118 => ⟨S8x4096x2x2x16, .f32⟩
  | 119 => ⟨S8x4096x2x2x1x16, .f32⟩
  | 120 => ⟨S8x4096x2x2x16, .f32⟩
  | 121 => ⟨S4096x1x2x1x16, .f32⟩
  | 122 => ⟨S4096x1x2x16, .f32⟩
  | 123 => ⟨S1x4096x1x2x16, .f32⟩
  | 124 => ⟨S8x4096x2x2x16, .f32⟩
  | 125 => ⟨S8x4096x2x2x16, .f32⟩
  | 126 => ⟨S8x4096x2x2x16, .f32⟩
  | 127 => ⟨S8x4096x2x2x1x16, .f32⟩
  | _ => ⟨S8x4096x1024, .f32⟩

abbrev hbmTy0_1 (i : Nat) : BufTy := match i % 128 with
  | 0 => ⟨S8x4096x2x2x16, .f32⟩
  | 1 => ⟨S4096x1x2x1x16, .f32⟩
  | 2 => ⟨S4096x1x2x16, .f32⟩
  | 3 => ⟨S1x4096x1x2x16, .f32⟩
  | 4 => ⟨S8x4096x2x2x16, .f32⟩
  | 5 => ⟨S8x4096x2x2x16, .f32⟩
  | 6 => ⟨S8x4096x2x2x1x16, .f32⟩
  | 7 => ⟨S8x4096x2x2x16, .f32⟩
  | 8 => ⟨S4096x1x2x1x16, .f32⟩
  | 9 => ⟨S4096x1x2x16, .f32⟩
  | 10 => ⟨S1x4096x1x2x16, .f32⟩
  | 11 => ⟨S8x4096x2x2x16, .f32⟩
  | 12 => ⟨S8x4096x2x2x16, .f32⟩
  | 13 => ⟨S8x4096x2x2x16, .f32⟩
  | 14 => ⟨S8x4096x2x2x1x16, .f32⟩
  | 15 => ⟨S8x4096x2x2x1x16, .f32⟩
  | 16 => ⟨S8x4096x2x2x2x16, .f32⟩
  | 17 => ⟨S8x4096x128, .f32⟩
  | 18 => ⟨S8x4096x640, .f32⟩
  | 19 => ⟨S8x4096x768, .f32⟩
  | 20 => ⟨S8x4096x256, .f32⟩
  | 21 => ⟨S8x4096x256, .bf16⟩
  | 22 => ⟨S8x4096x256, .bf16⟩
  | 23 => ⟨S8x4096x768, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_3 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_4 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩

abbrev nD : Nat := 1
abbrev τ : Topo := Topo.v7x

variable {F : FTy → Type} [FloatOps F]
-- ==== MoeLast.lean ====
abbrev S16x4096x1024 : Shape := ⟨3, ![16, 4096, 1024]⟩
abbrev S16x4096x1 : Shape := ⟨3, ![16, 4096, 1]⟩
abbrev S2x16x1024x2048 : Shape := ⟨4, ![2, 16, 1024, 2048]⟩
abbrev S2x16x2048x1024 : Shape := ⟨4, ![2, 16, 2048, 1024]⟩
abbrev S1x2048x1024 : Shape := ⟨3, ![1, 2048, 1024]⟩
abbrev S1x2048x1 : Shape := ⟨3, ![1, 2048, 1]⟩
abbrev S1x1x1024x256 : Shape := ⟨4, ![1, 1, 1024, 256]⟩
abbrev S1x1x256x1024 : Shape := ⟨4, ![1, 1, 256, 1024]⟩
abbrev S2048x1024 : Shape := ⟨2, ![2048, 1024]⟩
abbrev S1024x256 : Shape := ⟨2, ![1024, 256]⟩
abbrev S2048x256 : Shape := ⟨2, ![2048, 256]⟩
abbrev S256x1024 : Shape := ⟨2, ![256, 1024]⟩
abbrev S2048x1 : Shape := ⟨2, ![2048, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x4096x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1, .f32⟩
  | .local _ .vmem, ⟨3, _⟩ => ⟨S1x2048x1, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x2048x1024, .f32⟩
  | .local _ .vmem, ⟨11, _⟩ => ⟨S1x2048x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MoeLastRefIdeal.lean ====
abbrev S16x4096x1024 : Shape := ⟨3, ![16, 4096, 1024]⟩
abbrev S16x4096x1 : Shape := ⟨3, ![16, 4096, 1]⟩
abbrev S2x16x1024x2048 : Shape := ⟨4, ![2, 16, 1024, 2048]⟩
abbrev S2x16x2048x1024 : Shape := ⟨4, ![2, 16, 2048, 1024]⟩
abbrev S1x16x1024x2048 : Shape := ⟨4, ![1, 16, 1024, 2048]⟩
abbrev S16x1024x2048 : Shape := ⟨3, ![16, 1024, 2048]⟩
abbrev S16x4096x2048 : Shape := ⟨3, ![16, 4096, 2048]⟩
abbrev S_ : Shape := ⟨0, ![]⟩
abbrev S1x16x2048x1024 : Shape := ⟨4, ![1, 16, 2048, 1024]⟩
abbrev S16x2048x1024 : Shape := ⟨3, ![16, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x4096x1024, .f32⟩
  | .hbm, ⟨6, _⟩ => ⟨S1x16x1024x2048, .f32⟩
  | .hbm, ⟨7, _⟩ => ⟨S16x1024x2048, .f32⟩
  | .hbm, ⟨8, _⟩ => ⟨S16x4096x2048, .f32⟩
  | .hbm, ⟨9, _⟩ => ⟨S1x16x1024x2048, .f32⟩
  | .hbm, ⟨10, _⟩ => ⟨S16x1024x2048, .f32⟩
  | .hbm, ⟨11, _⟩ => ⟨S16x4096x2048, .f32⟩
  | .hbm, ⟨12, _⟩ => ⟨S16x4096x2048, .f32⟩
  | .hbm, ⟨13, _⟩ => ⟨S16x4096x2048, .f32⟩
  | .hbm, ⟨14, _⟩ => ⟨S_, .f32⟩
  | .hbm, ⟨15, _⟩ => ⟨S16x4096x2048, .f32⟩
  | .hbm, ⟨16, _⟩ => ⟨S16x4096x2048, .f32⟩
  | .hbm, ⟨17, _⟩ => ⟨S_, .f32⟩
  | .hbm, ⟨18, _⟩ => ⟨S16x4096x2048, .f32⟩
  | .hbm, ⟨19, _⟩ => ⟨S16x4096x2048, .f32⟩
  | .hbm, ⟨20, _⟩ => ⟨S16x4096x2048, .f32⟩
  | .hbm, ⟨21, _⟩ => ⟨S16x4096x2048, .f32⟩
  | .hbm, ⟨22, _⟩ => ⟨S1x16x2048x1024, .f32⟩
  | .hbm, ⟨23, _⟩ => ⟨S16x2048x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Out.lean ====
abbrev S8x4096x256 : Shape := ⟨3, ![8, 4096, 256]⟩
abbrev S8x4096x1024 : Shape := ⟨3, ![8, 4096, 1024]⟩
abbrev S8x1x1024 : Shape := ⟨3, ![8, 1, 1024]⟩
abbrev S1024x1024 : Shape := ⟨2, ![1024, 1024]⟩
abbrev S1x1024 : Shape := ⟨2, ![1, 1024]⟩
abbrev S16x1024 : Shape := ⟨2, ![16, 1024]⟩
abbrev S8x32768x128 : Shape := ⟨3, ![8, 32768, 128]⟩
abbrev S8x16x4096 : Shape := ⟨3, ![8, 16, 4096]⟩
abbrev S1x512x256 : Shape := ⟨3, ![1, 512, 256]⟩
abbrev S1x512x1024 : Shape := ⟨3, ![1, 512, 1024]⟩
abbrev S1x1x1024 : Shape := ⟨3, ![1, 1, 1024]⟩
abbrev S1x4096x128 : Shape := ⟨3, ![1, 4096, 128]⟩
abbrev S1x16x512 : Shape := ⟨3, ![1, 16, 512]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S16x512 : Shape := ⟨2, ![16, 512]⟩
abbrev S1x512 : Shape := ⟨2, ![1, 512]⟩

abbrev nBuf : Space → Nat
  | .hbm => 14
  | .vmem => 25
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x256, .bf16⟩
  | .hbm, ⟨3, _⟩ => ⟨S8x4096x256, .bf16⟩
  | .hbm, ⟨4, _⟩ => ⟨S8x4096x1024, .f32⟩
  | .hbm, ⟨5, _⟩ => ⟨S8x1x1024, .f32⟩
  | .hbm, ⟨6, _⟩ => ⟨S1024x1024, .bf16⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S16x1024, .bf16⟩
  | .hbm, ⟨11, _⟩ => ⟨S8x4096x1024, .f32⟩
  | .hbm, ⟨12, _⟩ => ⟨S8x32768x128, .f32⟩
  | .hbm, ⟨13, _⟩ => ⟨S8x16x4096, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S16x1024, .bf16⟩
  | .local _ .vmem, ⟨19, _⟩ => ⟨S1x512x1024, .f32⟩
  | .local _ .vmem, ⟨20, _⟩ => ⟨S1x512x1024, .f32⟩
  | .local _ .vmem, ⟨21, _⟩ => ⟨S1x4096x128, .f32⟩
  | .local _ .vmem, ⟨22, _⟩ => ⟨S1x4096x128, .f32⟩
  | .local _ .vmem, ⟨23, _⟩ => ⟨S1x16x512, .f32⟩
  | .local _ .vmem, ⟨24, _⟩ => ⟨S1x16x512, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OutRefIdeal.lean ====
abbrev S8x4096x256 : Shape := ⟨3, ![8, 4096, 256]⟩
abbrev S8x4096x1024 : Shape := ⟨3, ![8, 4096, 1024]⟩
abbrev S8x1x1024 : Shape := ⟨3, ![8, 1, 1024]⟩
abbrev S1024x1024 : Shape := ⟨2, ![1024, 1024]⟩
abbrev S1x1024 : Shape := ⟨2, ![1, 1024]⟩
abbrev S16x1024 : Shape := ⟨2, ![16, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x16 : Shape := ⟨3, ![8, 4096, 16]⟩
abbrev S8x32768x128 : Shape := ⟨3, ![8, 32768, 128]⟩
abbrev S8x16x4096 : Shape := ⟨3, ![8, 16, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x256, .bf16⟩
  | .hbm, ⟨3, _⟩ => ⟨S8x4096x256, .bf16⟩
  | .hbm, ⟨4, _⟩ => ⟨S8x4096x1024, .f32⟩
  | .hbm, ⟨5, _⟩ => ⟨S8x1x1024, .f32⟩
  | .hbm, ⟨6, _⟩ => ⟨S1024x1024, .bf16⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S16x1024, .bf16⟩
  | .hbm, ⟨11, _⟩ => ⟨S8x4096x1024, .bf16⟩
  | .hbm, ⟨12, _⟩ => ⟨S8x4096x1024, .f32⟩
  | .hbm, ⟨13, _⟩ => ⟨S1024x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S16x1024, .f32⟩
  | .hbm, ⟨42, _⟩ => ⟨S8x4096x16, .f32⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x16, .f32⟩
  | .hbm, ⟨50, _⟩ => ⟨S8x4096x16, .f32⟩
  | .hbm, ⟨51, _⟩ => ⟨S8x4096x16, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x16, .f32⟩
  | .hbm, ⟨56, _⟩ => ⟨S8x4096x16, .f32⟩
  | .hbm, ⟨57, _⟩ => ⟨S8x32768x128, .f32⟩
  | .hbm, ⟨58, _⟩ => ⟨S8x16x4096, .f32⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== MoeCtx.lean ====
abbrev S16x256x1024 : Shape := ⟨3, ![16, 256, 1024]⟩
abbrev S16x256x1 : Shape := ⟨3, ![16, 256, 1]⟩
abbrev S2x16x1024x2048 : Shape := ⟨4, ![2, 16, 1024, 2048]⟩
abbrev S2x16x2048x1024 : Shape := ⟨4, ![2, 16, 2048, 1024]⟩
abbrev S1x256x1024 : Shape := ⟨3, ![1, 256, 1024]⟩
abbrev S1x256x1 : Shape := ⟨3, ![1, 256, 1]⟩
abbrev S1x1x1024x256 : Shape := ⟨4, ![1, 1, 1024, 256]⟩
abbrev S1x1x256x1024 : Shape := ⟨4, ![1, 1, 256, 1024]⟩
abbrev S256x1024 : Shape := ⟨2, ![256, 1024]⟩
abbrev S1024x256 : Shape := ⟨2, ![1024, 256]⟩
abbrev S256x256 : Shape := ⟨2, ![256, 256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x256x1024, .bf16⟩
  | .hbm, ⟨1, _⟩ => ⟨S16x256x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1, .f32⟩
  | .local _ .vmem, ⟨3, _⟩ => ⟨S1x256x1, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x256x1024, .f32⟩
  | .local _ .vmem, ⟨11, _⟩ => ⟨S1x256x1024, .f32⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MoeCtxRefIdeal.lean ====
abbrev S16x256x1024 : Shape := ⟨3, ![16, 256, 1024]⟩
abbrev S16x256x1 : Shape := ⟨3, ![16, 256, 1]⟩
abbrev S2x16x1024x2048 : Shape := ⟨4, ![2, 16, 1024, 2048]⟩
abbrev S2x16x2048x1024 : Shape := ⟨4, ![2, 16, 2048, 1024]⟩
abbrev S1x16x1024x2048 : Shape := ⟨4, ![1, 16, 1024, 2048]⟩
abbrev S16x1024x2048 : Shape := ⟨3, ![16, 1024, 2048]⟩
abbrev S16x256x2048 : Shape := ⟨3, ![16, 256, 2048]⟩
abbrev S_ : Shape := ⟨0, ![]⟩
abbrev S1x16x2048x1024 : Shape := ⟨4, ![1, 16, 2048, 1024]⟩
abbrev S16x2048x1024 : Shape := ⟨3, ![16, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x256x1024, .bf16⟩
  | .hbm, ⟨1, _⟩ => ⟨S16x256x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x256x1024, .f32⟩
  | .hbm, ⟨6, _⟩ => ⟨S1x16x1024x2048, .f32⟩
  | .hbm, ⟨7, _⟩ => ⟨S16x1024x2048, .f32⟩
  | .hbm, ⟨8, _⟩ => ⟨S16x256x2048, .f32⟩
  | .hbm, ⟨9, _⟩ => ⟨S1x16x1024x2048, .f32⟩
  | .hbm, ⟨10, _⟩ => ⟨S16x1024x2048, .f32⟩
  | .hbm, ⟨11, _⟩ => ⟨S16x256x2048, .f32⟩
  | .hbm, ⟨12, _⟩ => ⟨S16x256x2048, .f32⟩
  | .hbm, ⟨13, _⟩ => ⟨S16x256x2048, .f32⟩
  | .hbm, ⟨14, _⟩ => ⟨S_, .f32⟩
  | .hbm, ⟨15, _⟩ => ⟨S16x256x2048, .f32⟩
  | .hbm, ⟨16, _⟩ => ⟨S16x256x2048, .f32⟩
  | .hbm, ⟨17, _⟩ => ⟨S_, .f32⟩
  | .hbm, ⟨18, _⟩ => ⟨S16x256x2048, .f32⟩
  | .hbm, ⟨19, _⟩ => ⟨S16x256x2048, .f32⟩
  | .hbm, ⟨20, _⟩ => ⟨S16x256x2048, .f32⟩
  | .hbm, ⟨21, _⟩ => ⟨S16x256x2048, .f32⟩
  | .hbm, ⟨22, _⟩ => ⟨S1x16x2048x1024, .f32⟩
  | .hbm, ⟨23, _⟩ => ⟨S16x2048x1024, .f32⟩
  | .hbm, ⟨24, _⟩ => ⟨S16x256x1024, .f32⟩
  | .hbm, ⟨25, _⟩ => ⟨S16x256x1024, .f32⟩
  | .hbm, ⟨26, _⟩ => ⟨S16x256x1024, .f32⟩
  | _, _ => ⟨S16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Ada.lean ====
abbrev S16x1024 : Shape := ⟨2, ![16, 1024]⟩
abbrev S2x1024x6144 : Shape := ⟨3, ![2, 1024, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x1x6144, .f32⟩
  | .hbm, ⟨3, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S2x1024x6144 : Shape := ⟨3, ![2, 1024, 6144]⟩
abbrev S2x1x6144 : Shape := ⟨3, ![2, 1, 6144]⟩
abbrev S_ : Shape := ⟨0, ![]⟩
abbrev S2x6144x16 : Shape := ⟨3, ![2, 6144, 16]⟩
abbrev S2x16x6144 : Shape := ⟨3, ![2, 16, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x16x6144, .f32⟩
  | .hbm, ⟨15, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kv.lean ====
abbrev S8x256x1024 : Shape := ⟨3, ![8, 256, 1024]⟩
abbrev S1x1x1024 : Shape := ⟨3, ![1, 1, 1024]⟩
abbrev S1x1024 : Shape := ⟨2, ![1, 1024]⟩
abbrev S1024x768 : Shape := ⟨2, ![1024, 768]⟩
abbrev S8x256x768 : Shape := ⟨3, ![8, 256, 768]⟩
abbrev S1x256x1024 : Shape := ⟨3, ![1, 256, 1024]⟩
abbrev S1x256x768 : Shape := ⟨3, ![1, 256, 768]⟩
abbrev S256x1024 : Shape := ⟨2, ![256, 1024]⟩
abbrev S256 : Shape := ⟨1, ![256]⟩
abbrev S256x1 : Shape := ⟨2, ![256, 1]⟩
abbrev S256x768 : Shape := ⟨2, ![256, 768]⟩

abbrev nBuf : Space → Nat
  | .hbm => 6
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1x1024, .f32⟩
  | .hbm, ⟨4, _⟩ => ⟨S1024x768, .bf16⟩
  | .hbm, ⟨5, _⟩ => ⟨S8x256x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x768, .bf16⟩
  | .local _ .vmem, ⟨6, _⟩ => ⟨S1x256x768, .bf16⟩
  | .local _ .vmem, ⟨7, _⟩ => ⟨S1x256x768, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvRefIdeal.lean ====
abbrev S8x256x1024 : Shape := ⟨3, ![8, 256, 1024]⟩
abbrev S1x1x1024 : Shape := ⟨3, ![1, 1, 1024]⟩
abbrev S1x1024 : Shape := ⟨2, ![1, 1024]⟩
abbrev S1024x768 : Shape := ⟨2, ![1024, 768]⟩
abbrev S_ : Shape := ⟨0, ![]⟩
abbrev S8x256 : Shape := ⟨2, ![8, 256]⟩
abbrev S8x256x1 : Shape := ⟨3, ![8, 256, 1]⟩
abbrev S8x256x768 : Shape := ⟨3, ![8, 256, 768]⟩

abbrev nBuf : Space → Nat
  | .hbm => 31
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1x1024, .f32⟩
  | .hbm, ⟨4, _⟩ => ⟨S1024x768, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S1x1x1024, .f32⟩
  | .hbm, ⟨23, _⟩ => ⟨S1x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S1024x768, .f32⟩
  | .hbm, ⟨29, _⟩ => ⟨S8x256x768, .f32⟩
  | .hbm, ⟨30, _⟩ => ⟨S8x256x768, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Ctx.lean ====
abbrev S8x256x1024 : Shape := ⟨3, ![8, 256, 1024]⟩
abbrev S1x1x1024 : Shape := ⟨3, ![1, 1, 1024]⟩
abbrev S1x1024 : Shape := ⟨2, ![1, 1024]⟩
abbrev S1024x2304 : Shape := ⟨2, ![1024, 2304]⟩
abbrev S3x768 : Shape := ⟨2, ![3, 768]⟩
abbrev S1x768 : Shape := ⟨2, ![1, 768]⟩
abbrev S8x256x768 : Shape := ⟨3, ![8, 256, 768]⟩
abbrev S8x256x256 : Shape := ⟨3, ![8, 256, 256]⟩
abbrev S1x256x1024 : Shape := ⟨3, ![1, 256, 1024]⟩
abbrev S1x8x1024 : Shape := ⟨3, ![1, 8, 1024]⟩
abbrev S1x256x768 : Shape := ⟨3, ![1, 256, 768]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x2304 : Shape := ⟨2, ![256, 2304]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x768 : Shape := ⟨2, ![1024, 768]⟩
abbrev S16x768 : Shape := ⟨2, ![16, 768]⟩
abbrev S8x768 : Shape := ⟨2, ![8, 768]⟩
abbrev S256x768 : Shape := ⟨2, ![256, 768]⟩
abbrev S272x768 : Shape := ⟨2, ![272, 768]⟩
abbrev S256x256 : Shape := ⟨2, ![256, 256]⟩
abbrev S256x128 : Shape := ⟨2, ![256, 128]⟩
abbrev S256x640 : Shape := ⟨2, ![256, 640]⟩

abbrev nBuf : Space → Nat
  | .hbm => 12
  | .vmem => 22
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1x1024, .f32⟩
  | .hbm, ⟨4, _⟩ => ⟨S1024x2304, .bf16⟩
  | .hbm, ⟨5, _⟩ => ⟨S3x768, .f32⟩
  | .hbm, ⟨6, _⟩ => ⟨S1x768, .f32⟩
  | .hbm, ⟨7, _⟩ => ⟨S8x256x768, .f32⟩
  | .hbm, ⟨8, _⟩ => ⟨S8x256x256, .f32⟩
  | .hbm, ⟨9, _⟩ => ⟨S8x256x256, .bf16⟩
  | .hbm, ⟨10, _⟩ => ⟨S8x256x256, .bf16⟩
  | .hbm, ⟨11, _⟩ => ⟨S8x256x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2304, .bf16⟩
  | .local _ .vmem, ⟨10, _⟩ => ⟨S3x768, .f32⟩
  | .local _ .vmem, ⟨11, _⟩ => ⟨S1x768, .f32⟩
  | .local _ .vmem, ⟨12, _⟩ => ⟨S1x256x768, .f32⟩
  | .local _ .vmem, ⟨13, _⟩ => ⟨S1x256x768, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x768, .bf16⟩
  | .local _ .vmem, ⟨21, _⟩ => ⟨S1x256x768, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  ![arg1.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== CtxRefIdeal.lean ====
abbrev S8x256x1024 : Shape := ⟨3, ![8, 256, 1024]⟩
abbrev S1x1x1024 : Shape := ⟨3, ![1, 1, 1024]⟩
abbrev S1x1024 : Shape := ⟨2, ![1, 1024]⟩
abbrev S1024x2304 : Shape := ⟨2, ![1024, 2304]⟩
abbrev S3x768 : Shape := ⟨2, ![3, 768]⟩
abbrev S1x768 : Shape := ⟨2, ![1, 768]⟩
abbrev S_ : Shape := ⟨0, ![]⟩
abbrev S8x256 : Shape := ⟨2, ![8, 256]⟩
abbrev S8x256x1 : Shape := ⟨3, ![8, 256, 1]⟩
abbrev S1024 : Shape := ⟨1, ![1024]⟩
abbrev S8x256x2304 : Shape := ⟨3, ![8, 256, 2304]⟩
abbrev S8x256x768 : Shape := ⟨3, ![8, 256, 768]⟩
abbrev S8x258x768 : Shape := ⟨3, ![8, 258, 768]⟩
abbrev S768 : Shape := ⟨1, ![768]⟩
abbrev S1x1x768 : Shape := ⟨3, ![1, 1, 768]⟩
abbrev S8x256x256 : Shape := ⟨3, ![8, 256, 256]⟩

abbrev nBuf : Space → Nat
  | .hbm => 74
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1x1024, .f32⟩
  | .hbm, ⟨4, _⟩ => ⟨S1024x2304, .bf16⟩
  | .hbm, ⟨5, _⟩ => ⟨S3x768, .f32⟩
  | .hbm, ⟨6, _⟩ => ⟨S1x768, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S8x256x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S1024x2304, .f32⟩
  | .hbm, ⟨32, _⟩ => ⟨S8x256x2304, .f32⟩
  | .hbm, ⟨33, _⟩ => ⟨S8x256x768, .f32⟩
  | .hbm, ⟨34, _⟩ => ⟨S_, .i32⟩
  | .hbm, ⟨35, _⟩ => ⟨S_, .f32⟩
  | .hbm, ⟨36, _⟩ => ⟨S8x258x768, .f32⟩
  | .hbm, ⟨37, _⟩ => ⟨S8x256x768, .f32⟩
  | .hbm, ⟨38, _⟩ => ⟨S1x768, .f32⟩
  | .hbm, ⟨39, _⟩ => ⟨S768, .f32⟩
  | .hbm, ⟨40, _⟩ => ⟨S1x1x768, .f32⟩
  | .hbm, ⟨41, _⟩ => ⟨S8x256x768, .f32⟩
  | .hbm, ⟨42, _⟩ => ⟨S8x256x768, .f32⟩
  | .hbm, ⟨43, _⟩ => ⟨S8x256x768, .f32⟩
  | .hbm, ⟨44, _⟩ => ⟨S1x768, .f32⟩
  | .hbm, ⟨45, _⟩ => ⟨S768, .f32⟩
  | .hbm, ⟨46, _⟩ => ⟨S1x1x768, .f32⟩
  | .hbm, ⟨47, _⟩ => ⟨S8x256x768, .f32⟩
  | .hbm, ⟨48, _⟩ => ⟨S8x256x768, .f32⟩
  | .hbm, ⟨49, _⟩ => ⟨S8x256x768, .f32⟩
  | .hbm, ⟨50, _⟩ => ⟨S8x256x768, .f32⟩
  | .hbm, ⟨51, _⟩ => ⟨S1x768, .f32⟩
  | .hbm, ⟨52, _⟩ => ⟨S768, .f32⟩
  | .hbm, ⟨53, _⟩ => ⟨S1x1x768, .f32⟩
  | .hbm, ⟨54, _⟩ => ⟨S8x256x768, .f32⟩
  | .hbm, ⟨55, _⟩ => ⟨S8x256x768, .f32⟩
  | .hbm, ⟨56, _⟩ => ⟨S8x256x768, .f32⟩
  | .hbm, ⟨57, _⟩ => ⟨S768, .f32⟩
  | .hbm, ⟨58, _⟩ => ⟨S1x1x768, .f32⟩
  | .hbm, ⟨59, _⟩ => ⟨S8x256x768, .f32⟩
  | .hbm, ⟨60, _⟩ => ⟨S8x256x768, .f32⟩
  | .hbm, ⟨61, _⟩ => ⟨S8x256x256, .f32⟩
  | .hbm, ⟨62, _⟩ => ⟨S_, .f32⟩
  | .hbm, ⟨63, _⟩ => ⟨S8x256x256, .f32⟩
  | .hbm, ⟨64, _⟩ => ⟨S8x256x256, .f32⟩
  | .hbm, ⟨65, _⟩ => ⟨S8x256x256, .f32⟩
  | .hbm, ⟨66, _⟩ => ⟨S_, .f32⟩
  | .hbm, ⟨67, _⟩ => ⟨S8x256x256, .f32⟩
  | .hbm, ⟨68, _⟩ => ⟨S8x256x256, .f32⟩
  | .hbm, ⟨69, _⟩ => ⟨S8x256x256, .f32⟩
  | .hbm, ⟨70, _⟩ => ⟨S8x256x256, .bf16⟩
  | .hbm, ⟨71, _⟩ => ⟨S8x256x256, .bf16⟩
  | .hbm, ⟨72, _⟩ => ⟨S8x256x768, .f32⟩
  | .hbm, ⟨73, _⟩ => ⟨S8x256x768, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Proof.Place.lean ====
/- Where an element of a window's block sits in the window's array, for any window that is indexed by blocks. -/
module

public import Idealize.ShloMosaic.Lib.Pipeline.ValueKit.Acc
public import Idealize.ShloMosaic.Lib.Pointwise

@[expose] public section

noncomputable section

namespace Cert.Place

open Idealize.ShloMosaic Idealize.SL.Sem

variable {sig : RefSig} {G : Pipeline.Grid}

/-- An element sits, on each axis, at the block's index times the block's size plus its own coordinate. -/
theorem emb_eq (w : Pipeline.Window sig G) (t : Fin G.N) (y : (w.xblock (G.coords t)).Idx) (e : w.shape.Idx)
    (h : ∀ a, (e a).val = w.index t a * w.size a + (y a).val) (hk : w.kind = .blocked := by first | rfl | decide) :
    (w.blk t).view.emb y = w.arr.view.emb e :=
  congrArg w.arr.view.emb (funext fun a => Fin.ext ((w.rect_emb_val t y a hk).trans (h a).symm))

/-- Where every block index is zero, it has the same coordinates in the array. -/
theorem emb_whole (w : Pipeline.Window sig G) (t : Fin G.N) (h0 : ∀ a, w.index t a = 0) (y : (w.xblock (G.coords t)).Idx)
    (e : w.shape.Idx) (h : ∀ a, (e a).val = (y a).val) (hk : w.kind = .blocked := by first | rfl | decide) :
    (w.blk t).view.emb y = w.arr.view.emb e :=
  emb_eq w t y e (fun a => by rw [h0 a, Nat.zero_mul, Nat.zero_add]; exact h a) hk

/-- The place of an element of a block of three axes, one axis at a time, -/
theorem at3 {A B C A' B' C' : ℕ} {n : Fin 3 → ℕ} {a : Fin A} {b : Fin B} {c : Fin C} {a' : Fin A'} {b' : Fin B'} {c' : Fin C'}
    (h0 : a.val = n 0 * A' + a'.val) (h1 : b.val = n 1 * B' + b'.val) (h2 : c.val = n 2 * C' + c'.val) :
    ∀ i : Fin 3, ((ix3 a b c : (⟨3, ![A, B, C]⟩ : Shape).Idx) i).val
      = n i * (![A', B', C'] : Fin 3 → ℕ) i + ((ix3 a' b' c' : (⟨3, ![A', B', C']⟩ : Shape).Idx) i).val
  | ⟨0, _⟩ => h0
  | ⟨1, _⟩ => h1
  | ⟨2, _⟩ => h2

/-- of one of two axes, -/
theorem at2 {A B A' B' : ℕ} {n : Fin 2 → ℕ} {a : Fin A} {b : Fin B} {a' : Fin A'} {b' : Fin B'}
    (h0 : a.val = n 0 * A' + a'.val) (h1 : b.val = n 1 * B' + b'.val) :
    ∀ i : Fin 2, ((ix2 a b : (⟨2, ![A, B]⟩ : Shape).Idx) i).val
      = n i * (![A', B'] : Fin 2 → ℕ) i + ((ix2 a' b' : (⟨2, ![A', B']⟩ : Shape).Idx) i).val
  | ⟨0, _⟩ => h0
  | ⟨1, _⟩ => h1

/-- of one of a single axis, -/
theorem at1 {A A' : ℕ} {n : Fin 1 → ℕ} {a : Fin A} {a' : Fin A'} (h0 : a.val = n 0 * A' + a'.val) :
    ∀ i : Fin 1, ((ix1 a : (⟨1, ![A]⟩ : Shape).Idx) i).val
      = n i * (![A'] : Fin 1 → ℕ) i + ((ix1 a' : (⟨1, ![A']⟩ : Shape).Idx) i).val
  | ⟨0, _⟩ => h0

/-- and of one of four. -/
theorem at4 {A B C D A' B' C' D' : ℕ} {n : Fin 4 → ℕ} {a : Fin A} {b : Fin B} {c : Fin C} {d : Fin D} {a' : Fin A'} {b' : Fin B'}
    {c' : Fin C'} {d' : Fin D'} (h0 : a.val = n 0 * A' + a'.val) (h1 : b.val = n 1 * B' + b'.val) (h2 : c.val = n 2 * C' + c'.val)
    (h3 : d.val = n 3 * D' + d'.val) :
    ∀ i : Fin 4, ((ix4 a b c d : (⟨4, ![A, B, C, D]⟩ : Shape).Idx) i).val
      = n i * (![A', B', C', D'] : Fin 4 → ℕ) i + ((ix4 a' b' c' d' : (⟨4, ![A', B', C', D']⟩ : Shape).Idx) i).val
  | ⟨0, _⟩ => h0
  | ⟨1, _⟩ => h1
  | ⟨2, _⟩ => h2
  | ⟨3, _⟩ => h3

end Cert.Place

end
-- ==== Proof.MoeValue.lean ====
/- The expert feed-forward call over the extended reals: what its result array holds, element by element, as a function
   of its arguments. The body's products are read at an index, the hidden axis is put together from its eight blocks, and
   the last grid step of a run multiplies by the gate. -/
module

public import proofs.«01_k».proof.Proof.Gen.MoeIdeal.Value
public import proofs.«01_k».proof.Proof.Place
public import Idealize.ShloMosaic.Lib.Pointwise

@[expose] public section

set_option maxRecDepth 16384

noncomputable section

namespace Cert.MoeIdeal.Ffn

open Cert.MoeIdeal Cert.MoeIdeal.Gen Cert.MoeIdeal.Value Idealize.ShloMosaic Idealize.ShloMosaic.TcCoe Idealize.SL.Sem

/-- The zero block a run of steps starts from is zero at every index. -/
theorem pay2_apply (r : Fin 2048) (l : Fin 1024) : k0_pay2 (F := Ideal) (ix3 0 r l) = 0 := by
  pointwise [k0_pay2]

/-- One step adds to the accumulator the product of the gated hidden block with the block of the down weights. -/
theorem pay3_apply (x : Vec Ideal S1x2048x1024 .bf16) (g u : Vec Ideal S1x1x1024x256 .f32)
    (acc : Vec Ideal S1x2048x1024 .f32) (w : Vec Ideal S1x1x256x1024 .f32) (r : Fin 2048) (l : Fin 1024) :
    k0_pay3 (F := Ideal) x g u acc w (ix3 0 r l)
      = acc (ix3 0 r l) + ∑ h : Fin 256,
          ((∑ d : Fin 1024, x (ix3 0 r d) * g (ix4 0 0 d h))
            * Ideal.logistic (∑ d : Fin 1024, x (ix3 0 r d) * g (ix4 0 0 d h))
            * (∑ d : Fin 1024, x (ix3 0 r d) * u (ix4 0 0 d h))) * w (ix4 0 0 h l) := by
  pointwise [k0_pay3]

/-- The last step of a run multiplies each row by its gate. -/
theorem pay1_apply (a : Vec Ideal S1x2048x1024 .f32) (g : Vec Ideal S1x2048x1 .f32) (r : Fin 2048) (l : Fin 1024) :
    k0_pay1 (F := Ideal) a g (ix3 0 r l) = a (ix3 0 r l) * g (ix3 0 r 0) := by
  pointwise [k0_pay1]

/-- The grid's coordinates that the windows' block indices are read off, point by point. -/
theorem idx_facts : ∀ t : Fin cfg0.N,
    (win0_0.index t (0 : Fin 3) = t.val / 16 ∧ win0_0.index t (1 : Fin 3) = t.val / 8 % 2 ∧ win0_0.index t (2 : Fin 3) = 0)
    ∧ (win0_1.index t (0 : Fin 3) = t.val / 16 ∧ win0_1.index t (1 : Fin 3) = t.val / 8 % 2 ∧ win0_1.index t (2 : Fin 3) = 0)
    ∧ (win0_2.index t (0 : Fin 4) = 0 ∧ win0_2.index t (1 : Fin 4) = t.val / 16 ∧ win0_2.index t (2 : Fin 4) = 0 ∧ win0_2.index t (3 : Fin 4) = t.val % 8)
    ∧ (win0_3.index t (0 : Fin 4) = 0 ∧ win0_3.index t (1 : Fin 4) = t.val / 16 ∧ win0_3.index t (2 : Fin 4) = 0 ∧ win0_3.index t (3 : Fin 4) = t.val % 8)
    ∧ (win0_4.index t (0 : Fin 4) = 0 ∧ win0_4.index t (1 : Fin 4) = t.val / 16 ∧ win0_4.index t (2 : Fin 4) = t.val % 8 ∧ win0_4.index t (3 : Fin 4) = 0) :=
  (by decide +kernel : ∀ t : Fin grid0.N, _)

variable (m : (ℓ : Loc nD τ sig) → Buf (Elt Ideal) ℓ)

/-- The tokens' block at a grid point, read at an index. -/
theorem iblk0_apply (c : Dev nD) (t : Fin cfg0.N) (r : Fin 2048) (d : Fin 1024) (e : Fin 16) (s : Fin 4096)
    (he : e.val = t.val / 16) (hs : s.val = t.val / 8 % 2 * 2048 + r.val) :
    (iblk m c 0 t : Vec Ideal S1x2048x1024 .bf16) (ix3 0 r d)
      = (m ((c : Thread nD τ).loc main_arg0) : S16x4096x1024.Idx → EReal) (ix3 e s d) := by
  obtain ⟨⟨h0, h1, h2⟩, -⟩ := idx_facts t
  unfold iblk
  rw [View.read_apply]
  show V m c main_arg0 _ = m (c.tc.loc main_arg0) _
  unfold V
  exact congrArg (m (c.tc.loc main_arg0)) (Place.emb_eq win0_0 t (ix3 0 r d) (ix3 e s d) (Place.at3 (by omega) (by omega) (by omega)))

/-- The gates' block at a grid point, read at an index. -/
theorem iblk1_apply (c : Dev nD) (t : Fin cfg0.N) (r : Fin 2048) (e : Fin 16) (s : Fin 4096)
    (he : e.val = t.val / 16) (hs : s.val = t.val / 8 % 2 * 2048 + r.val) :
    (iblk m c 1 t : Vec Ideal S1x2048x1 .f32) (ix3 0 r 0)
      = (m ((c : Thread nD τ).loc main_arg1) : S16x4096x1.Idx → EReal) (ix3 e s 0) := by
  obtain ⟨-, ⟨h0, h1, h2⟩, -⟩ := idx_facts t
  unfold iblk
  rw [View.read_apply]
  show V m c main_arg1 _ = m (c.tc.loc main_arg1) _
  unfold V
  exact congrArg (m (c.tc.loc main_arg1)) (Place.emb_eq win0_1 t (ix3 0 r 0) (ix3 e s 0) (Place.at3 (by omega) (by omega) (by omega)))

/-- The gate weights' block at a grid point, read at an index. -/
theorem iblk2_apply (c : Dev nD) (t : Fin cfg0.N) (d : Fin 1024) (h : Fin 256) (e : Fin 16) (k : Fin 2048)
    (he : e.val = t.val / 16) (hk : k.val = t.val % 8 * 256 + h.val) :
    (iblk m c 2 t : Vec Ideal S1x1x1024x256 .f32) (ix4 0 0 d h)
      = (m ((c : Thread nD τ).loc main_arg2) : S2x16x1024x2048.Idx → EReal) (ix4 0 e d k) := by
  obtain ⟨-, -, ⟨h0, h1, h2, h3⟩, -⟩ := idx_facts t
  unfold iblk
  rw [View.read_apply]
  show V m c main_arg2 _ = m (c.tc.loc main_arg2) _
  unfold V
  exact congrArg (m (c.tc.loc main_arg2)) (Place.emb_eq win0_2 t (ix4 0 0 d h) (ix4 0 e d k) (Place.at4 (by omega) (by omega) (by omega) (by omega)))

/-- The up weights' block at a grid point, read at an index. -/
theorem iblk3_apply (c : Dev nD) (t : Fin cfg0.N) (d : Fin 1024) (h : Fin 256) (e : Fin 16) (k : Fin 2048)
    (he : e.val = t.val / 16) (hk : k.val = t.val % 8 * 256 + h.val) :
    (iblk m c 3 t : Vec Ideal S1x1x1024x256 .f32) (ix4 0 0 d h)
      = (m ((c : Thread nD τ).loc main_arg3) : S2x16x1024x2048.Idx → EReal) (ix4 0 e d k) := by
  obtain ⟨-, -, -, ⟨h0, h1, h2, h3⟩, -⟩ := idx_facts t
  unfold iblk
  rw [View.read_apply]
  show V m c main_arg3 _ = m (c.tc.loc main_arg3) _
  unfold V
  exact congrArg (m (c.tc.loc main_arg3)) (Place.emb_eq win0_3 t (ix4 0 0 d h) (ix4 0 e d k) (Place.at4 (by omega) (by omega) (by omega) (by omega)))

/-- The down weights' block at a grid point, read at an index. -/
theorem iblk4_apply (c : Dev nD) (t : Fin cfg0.N) (h : Fin 256) (l : Fin 1024) (e : Fin 16) (k : Fin 2048)
    (he : e.val = t.val / 16) (hk : k.val = t.val % 8 * 256 + h.val) :
    (iblk m c 4 t : Vec Ideal S1x1x256x1024 .f32) (ix4 0 0 h l)
      = (m ((c : Thread nD τ).loc main_arg4) : S2x16x2048x1024.Idx → EReal) (ix4 0 e k l) := by
  obtain ⟨-, -, -, -, ⟨h0, h1, h2, h3⟩⟩ := idx_facts t
  unfold iblk
  rw [View.read_apply]
  show V m c main_arg4 _ = m (c.tc.loc main_arg4) _
  unfold V
  exact congrArg (m (c.tc.loc main_arg4)) (Place.emb_eq win0_4 t (ix4 0 0 h l) (ix4 0 e k l) (Place.at4 (by omega) (by omega) (by omega) (by omega)))

/-- One hidden unit's contribution to one element of an expert's output before the gate: the hidden unit's gated
    activation times its down weight, with the weights of layer `lyr`. -/
def unit {n : ℕ} (lyr : Fin 2) (x : Fin 16 → Fin n → Fin 1024 → EReal) (g u : S2x16x1024x2048.Idx → EReal)
    (w : S2x16x2048x1024.Idx → EReal) (e : Fin 16) (s : Fin n) (l : Fin 1024) (k : Fin 2048) : EReal :=
  ((∑ d : Fin 1024, x e s d * g (ix4 lyr e d k))
    * Ideal.logistic (∑ d : Fin 1024, x e s d * g (ix4 lyr e d k))
    * (∑ d : Fin 1024, x e s d * u (ix4 lyr e d k))) * w (ix4 lyr e k l)

/-- The call's gathered tokens by expert, row and column. -/
abbrev tokens (x : S16x4096x1024.Idx → EReal) : Fin 16 → Fin 4096 → Fin 1024 → EReal := fun e s d => x (ix3 e s d)

/-- What grid point `n` adds at row `r`, column `l` of its block. -/
def part (c : Dev nD) (n : ℕ) (i : S1x2048x1024.Idx) : EReal :=
  if h : n < 256 then ∑ q : Fin 256, unit 0 (tokens (m ((c : Thread nD τ).loc main_arg0))) (m ((c : Thread nD τ).loc main_arg2))
    (m ((c : Thread nD τ).loc main_arg3)) (m ((c : Thread nD τ).loc main_arg4))
    ⟨n / 16, by omega⟩ ⟨n / 8 % 2 * 2048 + (i 1).val, by have h1 : (i 1).val < 2048 := (i 1).isLt; omega⟩ (i 2) ⟨n % 8 * 256 + q.val, by omega⟩
  else 0

/-- The body's step at a grid point, its blocks read from the arguments: the accumulator plus the point's part. -/
theorem step_apply (c : Dev nD) (t : Fin cfg0.N) (acc : Vec Ideal S1x2048x1024 .f32) (i : S1x2048x1024.Idx) :
    k0_pay3 (F := Ideal) (iblk m c 0 t) (iblk m c 2 t) (iblk m c 3 t) acc (iblk m c 4 t) i = acc i + part m c t.val i := by
  have hN : t.val < 256 := lt_of_lt_of_eq t.isLt (show cfg0.N = 256 from N_0)
  obtain ⟨r, l, rfl⟩ : ∃ (r : Fin 2048) (l : Fin 1024), i = ix3 0 r l := ⟨i 1, i 2, by
    rw [eq_ix3 i]; congr 1; exact Fin.ext (by have : (i 0).val < 1 := (i 0).isLt; show (i 0).val = 0; omega)⟩
  rw [pay3_apply]
  unfold part
  rw [dif_pos hN]
  refine congrArg _ (Finset.sum_congr rfl fun h _ => ?_)
  unfold unit
  simp only [iblk0_apply m c t r _ ⟨t.val / 16, by omega⟩ ⟨t.val / 8 % 2 * 2048 + r.val, by omega⟩ rfl rfl,
    iblk2_apply m c t _ h ⟨t.val / 16, by omega⟩ ⟨t.val % 8 * 256 + h.val, by omega⟩ rfl rfl,
    iblk3_apply m c t _ h ⟨t.val / 16, by omega⟩ ⟨t.val % 8 * 256 + h.val, by omega⟩ rfl rfl,
    iblk4_apply m c t h l ⟨t.val / 16, by omega⟩ ⟨t.val % 8 * 256 + h.val, by omega⟩ rfl rfl]
  rfl

/-- THE ARRAY AFTER THE RUN, element by element: the sum over the whole hidden axis of the units' contributions, times the
    row's gate. -/
theorem G5_apply (c : Dev nD) (e : Fin 16) (s : Fin 4096) (l : Fin 1024) :
    G5 m c (ix3 e s l)
      = (∑ k : Fin 2048, unit 0 (tokens (m ((c : Thread nD τ).loc main_arg0))) (m ((c : Thread nD τ).loc main_arg2))
          (m ((c : Thread nD τ).loc main_arg3)) (m ((c : Thread nD τ).loc main_arg4)) e s l k)
        * (m ((c : Thread nD τ).loc main_arg1) : S16x4096x1.Idx → EReal) (ix3 e s 0) := by
  have hN : cfg0.N = 256 := N_0
  have hr : run5Of (ix3 e s l) = 2 * e.val + s.val / 2048 := by
    show 2 * (e.val / 1 - 0) + 1 * (s.val / 2048 - 0) + 1 * (l.val / 1024 - 0) = _
    omega
  have hl : loc5Of (ix3 e s l) = ix3 0 ⟨s.val % 2048, by omega⟩ l := by
    funext a; apply Fin.ext
    match a with
    | ⟨0, _⟩ => show e.val % 1 = 0; omega
    | ⟨1, _⟩ => rfl
    | ⟨2, _⟩ => show l.val % 1024 = l.val; omega
  have hb : 8 * run5Of (ix3 e s l) + 7 < cfg0.N := by rw [hr, hN]; omega
  unfold G5
  rw [dif_pos hb, hl]
  generalize hR : run5Of (ix3 e s l) = R at hb hr ⊢
  rw [Pipeline.accAt_succ]
  have hs7 : step5 m c (8 * R + (6 + 1)) hb (Pipeline.accAt (reset5 m c) (step5 m c) (8 * R) 6 (Nat.lt_of_succ_lt hb))
      = k0_pay1 (k0_pay3 (iblk m c 0 ⟨8 * R + 7, hb⟩) (iblk m c 2 ⟨8 * R + 7, hb⟩) (iblk m c 3 ⟨8 * R + 7, hb⟩)
          (Pipeline.accAt (reset5 m c) (step5 m c) (8 * R) 6 (Nat.lt_of_succ_lt hb)) (iblk m c 4 ⟨8 * R + 7, hb⟩)) (iblk m c 1 ⟨8 * R + 7, hb⟩) := by
    unfold step5
    rw [if_neg (by omega), if_pos (by omega)]
  refine (congrFun hs7 _).trans ?_
  rw [pay1_apply, step_apply,
    iblk1_apply m c ⟨8 * R + 7, hb⟩ _ e s (by show e.val = (8 * R + 7) / 16; omega)
      (by show s.val = (8 * R + 7) / 8 % 2 * 2048 + s.val % 2048; omega),
    Pipeline.accAt_add_apply (reset5 m c) (step5 m c) (fun _ => (0 : EReal)) (part m c) (8 * R) 6
      (fun h i => by
        unfold reset5; rw [step_apply]
        obtain ⟨r, l', rfl⟩ : ∃ (r : Fin 2048) (l' : Fin 1024), i = ix3 0 r l' := ⟨i 1, i 2, by
          rw [eq_ix3 i]; congr 1; exact Fin.ext (by have : (i 0).val < 1 := (i 0).isLt; show (i 0).val = 0; omega)⟩
        rw [pay2_apply])
      (fun n h acc i h1 h2 => by
        unfold step5
        rw [if_pos (by omega), step_apply]) 6 le_rfl (Nat.lt_of_succ_lt hb)]
  congr 1
  rw [zero_add, ← Finset.sum_range_succ (fun q => part m c (8 * R + q) _) 7, Finset.sum_range,
    Fin.sum_univ_tiles 8 256 rfl]
  refine Finset.sum_congr rfl fun f _ => ?_
  have hf : f.val < 8 := f.isLt
  unfold part
  rw [dif_pos (by omega)]
  refine Finset.sum_congr rfl fun q _ => ?_
  congr 1
  · exact Fin.ext (by show (8 * R + f.val) / 16 = e.val; omega)
  · exact Fin.ext (by show (8 * R + f.val) / 8 % 2 * 2048 + s.val % 2048 = s.val; omega)
  · exact Fin.ext (by show (8 * R + f.val) % 8 * 256 + q.val = f.val * 256 + q.val; omega)

end Cert.MoeIdeal.Ffn

end
-- ==== Proof.MoeRefValue.lean ====
/- The expert feed-forward's reference over the extended reals, element by element: the same sum over the hidden axis
   times the gate that the call's array holds. -/
module

public import proofs.«01_k».proof.Proof.MoeValue
public import proofs.«01_k».proof.Proof.Gen.MoeRefIdeal.Run
public import proofs.«01_k».proof.Proof.Gen.MoeRefIdeal.Read

@[expose] public section

set_option maxRecDepth 16384

noncomputable section

namespace Cert.MoeRefIdeal.Ffn

open Cert.MoeRefIdeal Cert.MoeRefIdeal.Gen Cert.MoeRefIdeal.Read Idealize.ShloMosaic Idealize.ShloMosaic.TcCoe Idealize.SL.Sem

/-- THE REFERENCE'S RESULT, element by element: the sum over the hidden axis of the units' contributions, times the
    row's gate. -/
theorem value_apply (x0 : S16x4096x1024.Idx → EReal) (x1 : S16x4096x1.Idx → EReal) (x2 x3 : S2x16x1024x2048.Idx → EReal)
    (x4 : S2x16x2048x1024.Idx → EReal) (e : Fin 16) (s : Fin 4096) (l : Fin 1024) :
    val_main_v13 (F := Ideal) x0 x1 x2 x3 x4 (ix3 e s l)
      = (∑ k : Fin 2048, Cert.MoeIdeal.Ffn.unit 0 (Cert.MoeIdeal.Ffn.tokens x0) x2 x3 x4 e s l k) * x1 (ix3 e s 0) := by
  pointwise [val_main_v13, val_main_v12, val_main_v11, val_main_v10, val_main_v9, val_main_v8, val_main_v7, val_main_v6,
    val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  rfl

end Cert.MoeRefIdeal.Ffn

end
-- ==== Proof.MoeClaim.lean ====
/- The expert feed-forward's value claim: the call's array and the reference's result are one function of the arguments. -/
module

public import proofs.«01_k».proof.Defs
public import proofs.«01_k».proof.Proof.MoeRefValue
public import Idealize.ShloMosaic.Lib.Claim

@[expose] public section

set_option maxRecDepth 16384

noncomputable section

namespace Cert.Proof

open Idealize.ShloMosaic Idealize.ShloMosaic.TcCoe Idealize.SL.Sem

/-- The array the expert feed-forward leaves is the reference's result on the same arguments. -/
theorem moe_result (m : (ℓ : Loc Cert.MoeIdeal.nD Cert.MoeIdeal.τ Cert.MoeIdeal.sig) → Buf (Elt Ideal) ℓ) (c : Dev Cert.MoeIdeal.nD) :
    Cert.MoeRefIdeal.Read.val_main_v13 (F := Ideal) (m ((c.tc : Thread Cert.MoeIdeal.nD Cert.MoeIdeal.τ).loc Cert.MoeIdeal.main_arg0))
        (m ((c.tc : Thread Cert.MoeIdeal.nD Cert.MoeIdeal.τ).loc Cert.MoeIdeal.main_arg1))
        (m ((c.tc : Thread Cert.MoeIdeal.nD Cert.MoeIdeal.τ).loc Cert.MoeIdeal.main_arg2))
        (m ((c.tc : Thread Cert.MoeIdeal.nD Cert.MoeIdeal.τ).loc Cert.MoeIdeal.main_arg3))
        (m ((c.tc : Thread Cert.MoeIdeal.nD Cert.MoeIdeal.τ).loc Cert.MoeIdeal.main_arg4))
      = Cert.MoeIdeal.Value.G5 m c := by
  funext i
  rw [eq_ix3 i]
  exact (Cert.MoeRefIdeal.Ffn.value_apply _ _ _ _ _ _ _ _).trans (Cert.MoeIdeal.Ffn.G5_apply m c _ _ _).symm

/-- Over the extended reals the expert feed-forward computes its reference, on every input. -/
theorem moe_algebraic : Cert.algebraic_MoeIdeal_MoeRefIdeal := by
  intro m g m' g' _ hargs
  refine ⟨fun c => Cert.MoeIdeal.Value.G5 m c, Cert.MoeIdeal.Value.run m g, ?_⟩
  refine (θ_run _ _ _).mono (fun r h c => ⟨(h c).1.trans ((Cert.MoeRefIdeal.Read.val_main_v13_eq ..).trans ?_), (h c).2⟩)
    (Cert.MoeRefIdeal.Value.run m' g')
  obtain ⟨h0, h1, h2, h3, h4⟩ := hargs c
  rw [h0, h1, h2, h3, h4]
  exact moe_result m c

end Cert.Proof

end
-- ==== Proof.MoeLastValue.lean ====
/- The last layer's expert feed-forward call over the extended reals: the first layer's call with the second layer's weights.
   The body is the same; the weights' blocks are read at the second layer. -/
module

public import proofs.«01_k».proof.Proof.Gen.MoeLastIdeal.Value
public import proofs.«01_k».proof.Proof.MoeValue
public import proofs.«01_k».proof.Proof.Place

@[expose] public section

set_option maxRecDepth 16384

noncomputable section

namespace Cert.MoeLastIdeal.Ffn

open Cert.MoeLastIdeal Cert.MoeLastIdeal.Gen Cert.MoeLastIdeal.Value Idealize.ShloMosaic Idealize.ShloMosaic.TcCoe Idealize.SL.Sem
open Cert.MoeIdeal.Ffn (unit tokens)

/-- The zero block a run of steps starts from is zero at every index. -/
theorem pay2_apply (r : Fin 2048) (l : Fin 1024) : k0_pay2 (F := Ideal) (ix3 0 r l) = 0 :=
  Cert.MoeIdeal.Ffn.pay2_apply ..

/-- One step adds to the accumulator the product of the gated hidden block with the block of the down weights. -/
theorem pay3_apply (x : Vec Ideal S1x2048x1024 .bf16) (g u : Vec Ideal S1x1x1024x256 .f32)
    (acc : Vec Ideal S1x2048x1024 .f32) (w : Vec Ideal S1x1x256x1024 .f32) (r : Fin 2048) (l : Fin 1024) :
    k0_pay3 (F := Ideal) x g u acc w (ix3 0 r l)
      = acc (ix3 0 r l) + ∑ h : Fin 256,
          ((∑ d : Fin 1024, x (ix3 0 r d) * g (ix4 0 0 d h))
            * Ideal.logistic (∑ d : Fin 1024, x (ix3 0 r d) * g (ix4 0 0 d h))
            * (∑ d : Fin 1024, x (ix3 0 r d) * u (ix4 0 0 d h))) * w (ix4 0 0 h l) :=
  Cert.MoeIdeal.Ffn.pay3_apply ..

/-- The last step of a run multiplies each row by its gate. -/
theorem pay1_apply (a : Vec Ideal S1x2048x1024 .f32) (g : Vec Ideal S1x2048x1 .f32) (r : Fin 2048) (l : Fin 1024) :
    k0_pay1 (F := Ideal) a g (ix3 0 r l) = a (ix3 0 r l) * g (ix3 0 r 0) :=
  Cert.MoeIdeal.Ffn.pay1_apply ..

/-- The grid's coordinates that the windows' block indices are read off, point by point. -/
theorem idx_facts : ∀ t : Fin cfg0.N,
    (win0_0.index t (0 : Fin 3) = t.val / 16 ∧ win0_0.index t (1 : Fin 3) = t.val / 8 % 2 ∧ win0_0.index t (2 : Fin 3) = 0)
    ∧ (win0_1.index t (0 : Fin 3) = t.val / 16 ∧ win0_1.index t (1 : Fin 3) = t.val / 8 % 2 ∧ win0_1.index t (2 : Fin 3) = 0)
    ∧ (win0_2.index t (0 : Fin 4) = 1 ∧ win0_2.index t (1 : Fin 4) = t.val / 16 ∧ win0_2.index t (2 : Fin 4) = 0 ∧ win0_2.index t (3 : Fin 4) = t.val % 8)
    ∧ (win0_3.index t (0 : Fin 4) = 1 ∧ win0_3.index t (1 : Fin 4) = t.val / 16 ∧ win0_3.index t (2 : Fin 4) = 0 ∧ win0_3.index t (3 : Fin 4) = t.val % 8)
    ∧ (win0_4.index t (0 : Fin 4) = 1 ∧ win0_4.index t (1 : Fin 4) = t.val / 16 ∧ win0_4.index t (2 : Fin 4) = t.val % 8 ∧ win0_4.index t (3 : Fin 4) = 0) :=
  (by decide +kernel : ∀ t : Fin grid0.N, _)

variable (m : (ℓ : Loc nD τ sig) → Buf (Elt Ideal) ℓ)

/-- The tokens' block at a grid point, read at an index. -/
theorem iblk0_apply (c : Dev nD) (t : Fin cfg0.N) (r : Fin 2048) (d : Fin 1024) (e : Fin 16) (s : Fin 4096)
    (he : e.val = t.val / 16) (hs : s.val = t.val / 8 % 2 * 2048 + r.val) :
    (iblk m c 0 t : Vec Ideal S1x2048x1024 .bf16) (ix3 0 r d)
      = (m ((c : Thread nD τ).loc main_arg0) : S16x4096x1024.Idx → EReal) (ix3 e s d) := by
  obtain ⟨⟨h0, h1, h2⟩, -⟩ := idx_facts t
  unfold iblk
  rw [View.read_apply]
  show V m c main_arg0 _ = m (c.tc.loc main_arg0) _
  unfold V
  exact congrArg (m (c.tc.loc main_arg0)) (Place.emb_eq win0_0 t (ix3 0 r d) (ix3 e s d) (Place.at3 (by omega) (by omega) (by omega)))

/-- The gates' block at a grid point, read at an index. -/
theorem iblk1_apply (c : Dev nD) (t : Fin cfg0.N) (r : Fin 2048) (e : Fin 16) (s : Fin 4096)
    (he : e.val = t.val / 16) (hs : s.val = t.val / 8 % 2 * 2048 + r.val) :
    (iblk m c 1 t : Vec Ideal S1x2048x1 .f32) (ix3 0 r 0)
      = (m ((c : Thread nD τ).loc main_arg1) : S16x4096x1.Idx → EReal) (ix3 e s 0) := by
  obtain ⟨-, ⟨h0, h1, h2⟩, -⟩ := idx_facts t
  unfold iblk
  rw [View.read_apply]
  show V m c main_arg1 _ = m (c.tc.loc main_arg1) _
  unfold V
  exact congrArg (m (c.tc.loc main_arg1)) (Place.emb_eq win0_1 t (ix3 0 r 0) (ix3 e s 0) (Place.at3 (by omega) (by omega) (by omega)))

/-- The gate weights' block at a grid point, read at an index. -/
theorem iblk2_apply (c : Dev nD) (t : Fin cfg0.N) (d : Fin 1024) (h : Fin 256) (e : Fin 16) (k : Fin 2048)
    (he : e.val = t.val / 16) (hk : k.val = t.val % 8 * 256 + h.val) :
    (iblk m c 2 t : Vec Ideal S1x1x1024x256 .f32) (ix4 0 0 d h)
      = (m ((c : Thread nD τ).loc main_arg2) : S2x16x1024x2048.Idx → EReal) (ix4 1 e d k) := by
  obtain ⟨-, -, ⟨h0, h1, h2, h3⟩, -⟩ := idx_facts t
  unfold iblk
  rw [View.read_apply]
  show V m c main_arg2 _ = m (c.tc.loc main_arg2) _
  unfold V
  exact congrArg (m (c.tc.loc main_arg2)) (Place.emb_eq win0_2 t (ix4 0 0 d h) (ix4 1 e d k) (Place.at4 (by omega) (by omega) (by omega) (by omega)))

/-- The up weights' block at a grid point, read at an index. -/
theorem iblk3_apply (c : Dev nD) (t : Fin cfg0.N) (d : Fin 1024) (h : Fin 256) (e : Fin 16) (k : Fin 2048)
    (he : e.val = t.val / 16) (hk : k.val = t.val % 8 * 256 + h.val) :
    (iblk m c 3 t : Vec Ideal S1x1x1024x256 .f32) (ix4 0 0 d h)
      = (m ((c : Thread nD τ).loc main_arg3) : S2x16x1024x2048.Idx → EReal) (ix4 1 e d k) := by
  obtain ⟨-, -, -, ⟨h0, h1, h2, h3⟩, -⟩ := idx_facts t
  unfold iblk
  rw [View.read_apply]
  show V m c main_arg3 _ = m (c.tc.loc main_arg3) _
  unfold V
  exact congrArg (m (c.tc.loc main_arg3)) (Place.emb_eq win0_3 t (ix4 0 0 d h) (ix4 1 e d k) (Place.at4 (by omega) (by omega) (by omega) (by omega)))

/-- The down weights' block at a grid point, read at an index. -/
theorem iblk4_apply (c : Dev nD) (t : Fin cfg0.N) (h : Fin 256) (l : Fin 1024) (e : Fin 16) (k : Fin 2048)
    (he : e.val = t.val / 16) (hk : k.val = t.val % 8 * 256 + h.val) :
    (iblk m c 4 t : Vec Ideal S1x1x256x1024 .f32) (ix4 0 0 h l)
      = (m ((c : Thread nD τ).loc main_arg4) : S2x16x2048x1024.Idx → EReal) (ix4 1 e k l) := by
  obtain ⟨-, -, -, -, ⟨h0, h1, h2, h3⟩⟩ := idx_facts t
  unfold iblk
  rw [View.read_apply]
  show V m c main_arg4 _ = m (c.tc.loc main_arg4) _
  unfold V
  exact congrArg (m (c.tc.loc main_arg4)) (Place.emb_eq win0_4 t (ix4 0 0 h l) (ix4 1 e k l) (Place.at4 (by omega) (by omega) (by omega) (by omega)))

/-- What grid point `n` adds at row `r`, column `l` of its block. -/
def part (c : Dev nD) (n : ℕ) (i : S1x2048x1024.Idx) : EReal :=
  if h : n < 256 then ∑ q : Fin 256, unit 1 (tokens (m ((c : Thread nD τ).loc main_arg0))) (m ((c : Thread nD τ).loc main_arg2))
    (m ((c : Thread nD τ).loc main_arg3)) (m ((c : Thread nD τ).loc main_arg4))
    ⟨n / 16, by omega⟩ ⟨n / 8 % 2 * 2048 + (i 1).val, by have h1 : (i 1).val < 2048 := (i 1).isLt; omega⟩ (i 2) ⟨n % 8 * 256 + q.val, by omega⟩
  else 0

/-- The body's step at a grid point, its blocks read from the arguments: the accumulator plus the point's part. -/
theorem step_apply (c : Dev nD) (t : Fin cfg0.N) (acc : Vec Ideal S1x2048x1024 .f32) (i : S1x2048x1024.Idx) :
    k0_pay3 (F := Ideal) (iblk m c 0 t) (iblk m c 2 t) (iblk m c 3 t) acc (iblk m c 4 t) i = acc i + part m c t.val i := by
  have hN : t.val < 256 := lt_of_lt_of_eq t.isLt (show cfg0.N = 256 from N_0)
  obtain ⟨r, l, rfl⟩ : ∃ (r : Fin 2048) (l : Fin 1024), i = ix3 0 r l := ⟨i 1, i 2, by
    rw [eq_ix3 i]; congr 1; exact Fin.ext (by have : (i 0).val < 1 := (i 0).isLt; show (i 0).val = 0; omega)⟩
  rw [pay3_apply]
  unfold part
  rw [dif_pos hN]
  refine congrArg _ (Finset.sum_congr rfl fun h _ => ?_)
  unfold unit
  simp only [iblk0_apply m c t r _ ⟨t.val / 16, by omega⟩ ⟨t.val / 8 % 2 * 2048 + r.val, by omega⟩ rfl rfl,
    iblk2_apply m c t _ h ⟨t.val / 16, by omega⟩ ⟨t.val % 8 * 256 + h.val, by omega⟩ rfl rfl,
    iblk3_apply m c t _ h ⟨t.val / 16, by omega⟩ ⟨t.val % 8 * 256 + h.val, by omega⟩ rfl rfl,
    iblk4_apply m c t h l ⟨t.val / 16, by omega⟩ ⟨t.val % 8 * 256 + h.val, by omega⟩ rfl rfl]
  rfl

/-- THE ARRAY AFTER THE RUN, element by element: the sum over the whole hidden axis of the units' contributions, times the
    row's gate. -/
theorem G5_apply (c : Dev nD) (e : Fin 16) (s : Fin 4096) (l : Fin 1024) :
    G5 m c (ix3 e s l)
      = (∑ k : Fin 2048, unit 1 (tokens (m ((c : Thread nD τ).loc main_arg0))) (m ((c : Thread nD τ).loc main_arg2))
          (m ((c : Thread nD τ).loc main_arg3)) (m ((c : Thread nD τ).loc main_arg4)) e s l k)
        * (m ((c : Thread nD τ).loc main_arg1) : S16x4096x1.Idx → EReal) (ix3 e s 0) := by
  have hN : cfg0.N = 256 := N_0
  have hr : run5Of (ix3 e s l) = 2 * e.val + s.val / 2048 := by
    show 2 * (e.val / 1 - 0) + 1 * (s.val / 2048 - 0) + 1 * (l.val / 1024 - 0) = _
    omega
  have hl : loc5Of (ix3 e s l) = ix3 0 ⟨s.val % 2048, by omega⟩ l := by
    funext a; apply Fin.ext
    match a with
    | ⟨0, _⟩ => show e.val % 1 = 0; omega
    | ⟨1, _⟩ => rfl
    | ⟨2, _⟩ => show l.val % 1024 = l.val; omega
  have hb : 8 * run5Of (ix3 e s l) + 7 < cfg0.N := by rw [hr, hN]; omega
  unfold G5
  rw [dif_pos hb, hl]
  generalize hR : run5Of (ix3 e s l) = R at hb hr ⊢
  rw [Pipeline.accAt_succ]
  have hs7 : step5 m c (8 * R + (6 + 1)) hb (Pipeline.accAt (reset5 m c) (step5 m c) (8 * R) 6 (Nat.lt_of_succ_lt hb))
      = k0_pay1 (k0_pay3 (iblk m c 0 ⟨8 * R + 7, hb⟩) (iblk m c 2 ⟨8 * R + 7, hb⟩) (iblk m c 3 ⟨8 * R + 7, hb⟩)
          (Pipeline.accAt (reset5 m c) (step5 m c) (8 * R) 6 (Nat.lt_of_succ_lt hb)) (iblk m c 4 ⟨8 * R + 7, hb⟩)) (iblk m c 1 ⟨8 * R + 7, hb⟩) := by
    unfold step5
    rw [if_neg (by omega), if_pos (by omega)]
  refine (congrFun hs7 _).trans ?_
  rw [pay1_apply, step_apply,
    iblk1_apply m c ⟨8 * R + 7, hb⟩ _ e s (by show e.val = (8 * R + 7) / 16; omega)
      (by show s.val = (8 * R + 7) / 8 % 2 * 2048 + s.val % 2048; omega),
    Pipeline.accAt_add_apply (reset5 m c) (step5 m c) (fun _ => (0 : EReal)) (part m c) (8 * R) 6
      (fun h i => by
        unfold reset5; rw [step_apply]
        obtain ⟨r, l', rfl⟩ : ∃ (r : Fin 2048) (l' : Fin 1024), i = ix3 0 r l' := ⟨i 1, i 2, by
          rw [eq_ix3 i]; congr 1; exact Fin.ext (by have : (i 0).val < 1 := (i 0).isLt; show (i 0).val = 0; omega)⟩
        rw [pay2_apply])
      (fun n h acc i h1 h2 => by
        unfold step5
        rw [if_pos (by omega), step_apply]) 6 le_rfl (Nat.lt_of_succ_lt hb)]
  congr 1
  rw [zero_add, ← Finset.sum_range_succ (fun q => part m c (8 * R + q) _) 7, Finset.sum_range,
    Fin.sum_univ_tiles 8 256 rfl]
  refine Finset.sum_congr rfl fun f _ => ?_
  have hf : f.val < 8 := f.isLt
  unfold part
  rw [dif_pos (by omega)]
  refine Finset.sum_congr rfl fun q _ => ?_
  congr 1
  · exact Fin.ext (by show (8 * R + f.val) / 16 = e.val; omega)
  · exact Fin.ext (by show (8 * R + f.val) / 8 % 2 * 2048 + s.val % 2048 = s.val; omega)
  · exact Fin.ext (by show (8 * R + f.val) % 8 * 256 + q.val = f.val * 256 + q.val; omega)

end Cert.MoeLastIdeal.Ffn

end
-- ==== Proof.MoeLastRefValue.lean ====
/- The reference of the last layer's expert feed-forward over the extended reals, element by element. -/
module

public import proofs.«01_k».proof.Proof.MoeLastValue
public import proofs.«01_k».proof.Proof.Gen.MoeLastRefIdeal.Run
public import proofs.«01_k».proof.Proof.Gen.MoeLastRefIdeal.Read

@[expose] public section

set_option maxRecDepth 16384

noncomputable section

namespace Cert.MoeLastRefIdeal.Ffn

open Cert.MoeLastRefIdeal Cert.MoeLastRefIdeal.Gen Cert.MoeLastRefIdeal.Read Idealize.ShloMosaic Idealize.ShloMosaic.TcCoe Idealize.SL.Sem

/-- THE REFERENCE'S RESULT, element by element: the sum over the hidden axis of the units' contributions, times the
    row's gate. -/
theorem value_apply (x0 : S16x4096x1024.Idx → EReal) (x1 : S16x4096x1.Idx → EReal) (x2 x3 : S2x16x1024x2048.Idx → EReal)
    (x4 : S2x16x2048x1024.Idx → EReal) (e : Fin 16) (s : Fin 4096) (l : Fin 1024) :
    val_main_v13 (F := Ideal) x0 x1 x2 x3 x4 (ix3 e s l)
      = (∑ k : Fin 2048, Cert.MoeIdeal.Ffn.unit 1 (Cert.MoeIdeal.Ffn.tokens x0) x2 x3 x4 e s l k) * x1 (ix3 e s 0) := by
  pointwise [val_main_v13, val_main_v12, val_main_v11, val_main_v10, val_main_v9, val_main_v8, val_main_v7, val_main_v6,
    val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  rfl

end Cert.MoeLastRefIdeal.Ffn

end
-- ==== Proof.MoeCtxValue.lean ====
/- The context tokens' expert feed-forward call over the extended reals: the latent tokens' call with one block of 256
   rows for each expert. -/
module

public import proofs.«01_k».proof.Proof.Gen.MoeCtxIdeal.Value
public import proofs.«01_k».proof.Proof.MoeValue
public import proofs.«01_k».proof.Proof.Place

@[expose] public section

set_option maxRecDepth 16384

noncomputable section

namespace Cert.MoeCtxIdeal.Ffn

open Cert.MoeCtxIdeal Cert.MoeCtxIdeal.Gen Cert.MoeCtxIdeal.Value Idealize.ShloMosaic Idealize.ShloMosaic.TcCoe Idealize.SL.Sem
open Cert.MoeIdeal.Ffn (unit)

/-- The call's gathered context tokens by expert, row and column. -/
abbrev rows (x : S16x256x1024.Idx → EReal) : Fin 16 → Fin 256 → Fin 1024 → EReal := fun e s d => x (ix3 e s d)

/-- The zero block a run of steps starts from is zero at every index. -/
theorem pay2_apply (r : Fin 256) (l : Fin 1024) : k0_pay2 (F := Ideal) (ix3 0 r l) = 0 := by
  pointwise [k0_pay2]

/-- One step adds to the accumulator the product of the gated hidden block with the block of the down weights. -/
theorem pay3_apply (x : Vec Ideal S1x256x1024 .bf16) (g u : Vec Ideal S1x1x1024x256 .f32)
    (acc : Vec Ideal S1x256x1024 .f32) (w : Vec Ideal S1x1x256x1024 .f32) (r : Fin 256) (l : Fin 1024) :
    k0_pay3 (F := Ideal) x g u acc w (ix3 0 r l)
      = acc (ix3 0 r l) + ∑ h : Fin 256,
          ((∑ d : Fin 1024, x (ix3 0 r d) * g (ix4 0 0 d h))
            * Ideal.logistic (∑ d : Fin 1024, x (ix3 0 r d) * g (ix4 0 0 d h))
            * (∑ d : Fin 1024, x (ix3 0 r d) * u (ix4 0 0 d h))) * w (ix4 0 0 h l) := by
  pointwise [k0_pay3]

/-- The last step of a run multiplies each row by its gate. -/
theorem pay1_apply (a : Vec Ideal S1x256x1024 .f32) (g : Vec Ideal S1x256x1 .f32) (r : Fin 256) (l : Fin 1024) :
    k0_pay1 (F := Ideal) a g (ix3 0 r l) = a (ix3 0 r l) * g (ix3 0 r 0) := by
  pointwise [k0_pay1]

/-- The grid's coordinates that the windows' block indices are read off, point by point. -/
theorem idx_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 4) = 0 ∧ win0_2.index t (1 : Fin 4) = t.val / 8 ∧ win0_2.index t (2 : Fin 4) = 0 ∧ win0_2.index t (3 : Fin 4) = t.val % 8)
    ∧ (win0_3.index t (0 : Fin 4) = 0 ∧ win0_3.index t (1 : Fin 4) = t.val / 8 ∧ win0_3.index t (2 : Fin 4) = 0 ∧ win0_3.index t (3 : Fin 4) = t.val % 8)
    ∧ (win0_4.index t (0 : Fin 4) = 0 ∧ win0_4.index t (1 : Fin 4) = t.val / 8 ∧ win0_4.index t (2 : Fin 4) = t.val % 8 ∧ win0_4.index t (3 : Fin 4) = 0) :=
  (by decide +kernel : ∀ t : Fin grid0.N, _)

variable (m : (ℓ : Loc nD τ sig) → Buf (Elt Ideal) ℓ)

/-- The tokens' block at a grid point, read at an index. -/
theorem iblk0_apply (c : Dev nD) (t : Fin cfg0.N) (r : Fin 256) (d : Fin 1024) (e : Fin 16) (s : Fin 256)
    (he : e.val = t.val / 8) (hs : s.val = r.val) :
    (iblk m c 0 t : Vec Ideal S1x256x1024 .bf16) (ix3 0 r d)
      = (m ((c : Thread nD τ).loc main_arg0) : S16x256x1024.Idx → EReal) (ix3 e s d) := by
  obtain ⟨⟨h0, h1, h2⟩, -⟩ := idx_facts t
  unfold iblk
  rw [View.read_apply]
  show V m c main_arg0 _ = m (c.tc.loc main_arg0) _
  unfold V
  exact congrArg (m (c.tc.loc main_arg0)) (Place.emb_eq win0_0 t (ix3 0 r d) (ix3 e s d) (Place.at3 (by omega) (by omega) (by omega)))

/-- The gates' block at a grid point, read at an index. -/
theorem iblk1_apply (c : Dev nD) (t : Fin cfg0.N) (r : Fin 256) (e : Fin 16) (s : Fin 256)
    (he : e.val = t.val / 8) (hs : s.val = r.val) :
    (iblk m c 1 t : Vec Ideal S1x256x1 .f32) (ix3 0 r 0)
      = (m ((c : Thread nD τ).loc main_arg1) : S16x256x1.Idx → EReal) (ix3 e s 0) := by
  obtain ⟨-, ⟨h0, h1, h2⟩, -⟩ := idx_facts t
  unfold iblk
  rw [View.read_apply]
  show V m c main_arg1 _ = m (c.tc.loc main_arg1) _
  unfold V
  exact congrArg (m (c.tc.loc main_arg1)) (Place.emb_eq win0_1 t (ix3 0 r 0) (ix3 e s 0) (Place.at3 (by omega) (by omega) (by omega)))

/-- The gate weights' block at a grid point, read at an index. -/
theorem iblk2_apply (c : Dev nD) (t : Fin cfg0.N) (d : Fin 1024) (h : Fin 256) (e : Fin 16) (k : Fin 2048)
    (he : e.val = t.val / 8) (hk : k.val = t.val % 8 * 256 + h.val) :
    (iblk m c 2 t : Vec Ideal S1x1x1024x256 .f32) (ix4 0 0 d h)
      = (m ((c : Thread nD τ).loc main_arg2) : S2x16x1024x2048.Idx → EReal) (ix4 0 e d k) := by
  obtain ⟨-, -, ⟨h0, h1, h2, h3⟩, -⟩ := idx_facts t
  unfold iblk
  rw [View.read_apply]
  show V m c main_arg2 _ = m (c.tc.loc main_arg2) _
  unfold V
  exact congrArg (m (c.tc.loc main_arg2)) (Place.emb_eq win0_2 t (ix4 0 0 d h) (ix4 0 e d k) (Place.at4 (by omega) (by omega) (by omega) (by omega)))

/-- The up weights' block at a grid point, read at an index. -/
theorem iblk3_apply (c : Dev nD) (t : Fin cfg0.N) (d : Fin 1024) (h : Fin 256) (e : Fin 16) (k : Fin 2048)
    (he : e.val = t.val / 8) (hk : k.val = t.val % 8 * 256 + h.val) :
    (iblk m c 3 t : Vec Ideal S1x1x1024x256 .f32) (ix4 0 0 d h)
      = (m ((c : Thread nD τ).loc main_arg3) : S2x16x1024x2048.Idx → EReal) (ix4 0 e d k) := by
  obtain ⟨-, -, -, ⟨h0, h1, h2, h3⟩, -⟩ := idx_facts t
  unfold iblk
  rw [View.read_apply]
  show V m c main_arg3 _ = m (c.tc.loc main_arg3) _
  unfold V
  exact congrArg (m (c.tc.loc main_arg3)) (Place.emb_eq win0_3 t (ix4 0 0 d h) (ix4 0 e d k) (Place.at4 (by omega) (by omega) (by omega) (by omega)))

/-- The down weights' block at a grid point, read at an index. -/
theorem iblk4_apply (c : Dev nD) (t : Fin cfg0.N) (h : Fin 256) (l : Fin 1024) (e : Fin 16) (k : Fin 2048)
    (he : e.val = t.val / 8) (hk : k.val = t.val % 8 * 256 + h.val) :
    (iblk m c 4 t : Vec Ideal S1x1x256x1024 .f32) (ix4 0 0 h l)
      = (m ((c : Thread nD τ).loc main_arg4) : S2x16x2048x1024.Idx → EReal) (ix4 0 e k l) := by
  obtain ⟨-, -, -, -, ⟨h0, h1, h2, h3⟩⟩ := idx_facts t
  unfold iblk
  rw [View.read_apply]
  show V m c main_arg4 _ = m (c.tc.loc main_arg4) _
  unfold V
  exact congrArg (m (c.tc.loc main_arg4)) (Place.emb_eq win0_4 t (ix4 0 0 h l) (ix4 0 e k l) (Place.at4 (by omega) (by omega) (by omega) (by omega)))

/-- What grid point `n` adds at row `r`, column `l` of its block. -/
def part (c : Dev nD) (n : ℕ) (i : S1x256x1024.Idx) : EReal :=
  if h : n < 128 then ∑ q : Fin 256, unit 0 (rows (m ((c : Thread nD τ).loc main_arg0))) (m ((c : Thread nD τ).loc main_arg2))
    (m ((c : Thread nD τ).loc main_arg3)) (m ((c : Thread nD τ).loc main_arg4))
    ⟨n / 8, by omega⟩ ⟨(i 1).val, by have h1 : (i 1).val < 256 := (i 1).isLt; omega⟩ (i 2) ⟨n % 8 * 256 + q.val, by omega⟩
  else 0

/-- The body's step at a grid point, its blocks read from the arguments: the accumulator plus the point's part. -/
theorem step_apply (c : Dev nD) (t : Fin cfg0.N) (acc : Vec Ideal S1x256x1024 .f32) (i : S1x256x1024.Idx) :
    k0_pay3 (F := Ideal) (iblk m c 0 t) (iblk m c 2 t) (iblk m c 3 t) acc (iblk m c 4 t) i = acc i + part m c t.val i := by
  have hN : t.val < 128 := lt_of_lt_of_eq t.isLt (show cfg0.N = 128 from N_0)
  obtain ⟨r, l, rfl⟩ : ∃ (r : Fin 256) (l : Fin 1024), i = ix3 0 r l := ⟨i 1, i 2, by
    rw [eq_ix3 i]; congr 1; exact Fin.ext (by have : (i 0).val < 1 := (i 0).isLt; show (i 0).val = 0; omega)⟩
  rw [pay3_apply]
  unfold part
  rw [dif_pos hN]
  refine congrArg _ (Finset.sum_congr rfl fun h _ => ?_)
  unfold unit
  simp only [iblk0_apply m c t r _ ⟨t.val / 8, by omega⟩ ⟨r.val, by omega⟩ rfl rfl,
    iblk2_apply m c t _ h ⟨t.val / 8, by omega⟩ ⟨t.val % 8 * 256 + h.val, by omega⟩ rfl rfl,
    iblk3_apply m c t _ h ⟨t.val / 8, by omega⟩ ⟨t.val % 8 * 256 + h.val, by omega⟩ rfl rfl,
    iblk4_apply m c t h l ⟨t.val / 8, by omega⟩ ⟨t.val % 8 * 256 + h.val, by omega⟩ rfl rfl]
  rfl

/-- THE ARRAY AFTER THE RUN, element by element: the sum over the whole hidden axis of the units' contributions, times the
    row's gate. -/
theorem G5_apply (c : Dev nD) (e : Fin 16) (s : Fin 256) (l : Fin 1024) :
    G5 m c (ix3 e s l)
      = (∑ k : Fin 2048, unit 0 (rows (m ((c : Thread nD τ).loc main_arg0))) (m ((c : Thread nD τ).loc main_arg2))
          (m ((c : Thread nD τ).loc main_arg3)) (m ((c : Thread nD τ).loc main_arg4)) e s l k)
        * (m ((c : Thread nD τ).loc main_arg1) : S16x256x1.Idx → EReal) (ix3 e s 0) := by
  have hN : cfg0.N = 128 := N_0
  have hr : run5Of (ix3 e s l) = e.val := by
    show 1 * (e.val / 1 - 0) + 1 * (s.val / 256 - 0) + 1 * (l.val / 1024 - 0) = _
    omega
  have hl : loc5Of (ix3 e s l) = ix3 0 ⟨s.val % 256, by omega⟩ l := by
    funext a; apply Fin.ext
    match a with
    | ⟨0, _⟩ => show e.val % 1 = 0; omega
    | ⟨1, _⟩ => rfl
    | ⟨2, _⟩ => show l.val % 1024 = l.val; omega
  have hb : 8 * run5Of (ix3 e s l) + 7 < cfg0.N := by rw [hr, hN]; omega
  unfold G5
  rw [dif_pos hb, hl]
  generalize hR : run5Of (ix3 e s l) = R at hb hr ⊢
  rw [Pipeline.accAt_succ]
  have hs7 : step5 m c (8 * R + (6 + 1)) hb (Pipeline.accAt (reset5 m c) (step5 m c) (8 * R) 6 (Nat.lt_of_succ_lt hb))
      = k0_pay1 (k0_pay3 (iblk m c 0 ⟨8 * R + 7, hb⟩) (iblk m c 2 ⟨8 * R + 7, hb⟩) (iblk m c 3 ⟨8 * R + 7, hb⟩)
          (Pipeline.accAt (reset5 m c) (step5 m c) (8 * R) 6 (Nat.lt_of_succ_lt hb)) (iblk m c 4 ⟨8 * R + 7, hb⟩)) (iblk m c 1 ⟨8 * R + 7, hb⟩) := by
    unfold step5
    rw [if_neg (by omega), if_pos (by omega)]
  refine (congrFun hs7 _).trans ?_
  rw [pay1_apply, step_apply,
    iblk1_apply m c ⟨8 * R + 7, hb⟩ _ e s (by show e.val = (8 * R + 7) / 8; omega)
      (by show s.val = s.val % 256; omega),
    Pipeline.accAt_add_apply (reset5 m c) (step5 m c) (fun _ => (0 : EReal)) (part m c) (8 * R) 6
      (fun h i => by
        unfold reset5; rw [step_apply]
        obtain ⟨r, l', rfl⟩ : ∃ (r : Fin 256) (l' : Fin 1024), i = ix3 0 r l' := ⟨i 1, i 2, by
          rw [eq_ix3 i]; congr 1; exact Fin.ext (by have : (i 0).val < 1 := (i 0).isLt; show (i 0).val = 0; omega)⟩
        rw [pay2_apply])
      (fun n h acc i h1 h2 => by
        unfold step5
        rw [if_pos (by omega), step_apply]) 6 le_rfl (Nat.lt_of_succ_lt hb)]
  congr 1
  rw [zero_add, ← Finset.sum_range_succ (fun q => part m c (8 * R + q) _) 7, Finset.sum_range,
    Fin.sum_univ_tiles 8 256 rfl]
  refine Finset.sum_congr rfl fun f _ => ?_
  have hf : f.val < 8 := f.isLt
  unfold part
  rw [dif_pos (by omega)]
  refine Finset.sum_congr rfl fun q _ => ?_
  congr 1
  · exact Fin.ext (by show (8 * R + f.val) / 8 = e.val; omega)
  · exact Fin.ext (by show s.val % 256 = s.val; omega)
  · exact Fin.ext (by show (8 * R + f.val) % 8 * 256 + q.val = f.val * 256 + q.val; omega)

end Cert.MoeCtxIdeal.Ffn

end
-- ==== Proof.MoeCtxRefValue.lean ====
/- The reference of the context tokens' expert feed-forward over the extended reals, element by element. -/
module

public import proofs.«01_k».proof.Proof.MoeCtxValue
public import proofs.«01_k».proof.Proof.Gen.MoeCtxRefIdeal.Run
public import proofs.«01_k».proof.Proof.Gen.MoeCtxRefIdeal.Read

@[expose] public section

set_option maxRecDepth 16384

noncomputable section

namespace Cert.MoeCtxRefIdeal.Ffn

open Cert.MoeCtxRefIdeal Cert.MoeCtxRefIdeal.Gen Cert.MoeCtxRefIdeal.Read Idealize.ShloMosaic Idealize.ShloMosaic.TcCoe Idealize.SL.Sem

/-- THE REFERENCE'S RESULT, element by element: the sum over the hidden axis of the units' contributions, times the
    row's gate. -/
theorem value_apply (x0 : S16x256x1024.Idx → EReal) (x1 : S16x256x1.Idx → EReal) (x2 x3 : S2x16x1024x2048.Idx → EReal)
    (x4 : S2x16x2048x1024.Idx → EReal) (e : Fin 16) (s : Fin 256) (l : Fin 1024) :
    val_main_v13 (F := Ideal) x0 x1 x2 x3 x4 (ix3 e s l)
      = (∑ k : Fin 2048, Cert.MoeIdeal.Ffn.unit 0 (Cert.MoeCtxIdeal.Ffn.rows x0) x2 x3 x4 e s l k) * x1 (ix3 e s 0) := by
  pointwise [val_main_v13, val_main_v12, val_main_v11, val_main_v10, val_main_v9, val_main_v8, val_main_v7, val_main_v6,
    val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  rfl

end Cert.MoeCtxRefIdeal.Ffn

end
-- ==== Proof.MoeMoreClaim.lean ====
/- The value claims of the expert feed-forward's other two calls: the last layer's and the context tokens'. -/
module

public import proofs.«01_k».proof.Defs
public import proofs.«01_k».proof.Proof.MoeLastRefValue
public import proofs.«01_k».proof.Proof.MoeCtxRefValue
public import Idealize.ShloMosaic.Lib.Claim

@[expose] public section

set_option maxRecDepth 16384

noncomputable section

namespace Cert.Proof

open Idealize.ShloMosaic Idealize.ShloMosaic.TcCoe Idealize.SL.Sem

/-- The array the last layer's expert feed-forward leaves is the reference's result on the same arguments. -/
theorem moe_last_result (m : (ℓ : Loc Cert.MoeLastIdeal.nD Cert.MoeLastIdeal.τ Cert.MoeLastIdeal.sig) → Buf (Elt Ideal) ℓ) (c : Dev Cert.MoeLastIdeal.nD) :
    Cert.MoeLastRefIdeal.Read.val_main_v13 (F := Ideal) (m ((c.tc : Thread Cert.MoeLastIdeal.nD Cert.MoeLastIdeal.τ).loc Cert.MoeLastIdeal.main_arg0))
        (m ((c.tc : Thread Cert.MoeLastIdeal.nD Cert.MoeLastIdeal.τ).loc Cert.MoeLastIdeal.main_arg1))
        (m ((c.tc : Thread Cert.MoeLastIdeal.nD Cert.MoeLastIdeal.τ).loc Cert.MoeLastIdeal.main_arg2))
        (m ((c.tc : Thread Cert.MoeLastIdeal.nD Cert.MoeLastIdeal.τ).loc Cert.MoeLastIdeal.main_arg3))
        (m ((c.tc : Thread Cert.MoeLastIdeal.nD Cert.MoeLastIdeal.τ).loc Cert.MoeLastIdeal.main_arg4))
      = Cert.MoeLastIdeal.Value.G5 m c := by
  funext i
  rw [eq_ix3 i]
  exact (Cert.MoeLastRefIdeal.Ffn.value_apply _ _ _ _ _ _ _ _).trans (Cert.MoeLastIdeal.Ffn.G5_apply m c _ _ _).symm

/-- Over the extended reals the last layer's expert feed-forward computes its reference, on every input. -/
theorem moe_last_algebraic : Cert.algebraic_MoeLastIdeal_MoeLastRefIdeal := by
  intro m g m' g' _ hargs
  refine ⟨fun c => Cert.MoeLastIdeal.Value.G5 m c, Cert.MoeLastIdeal.Value.run m g, ?_⟩
  refine (θ_run _ _ _).mono (fun r h c => ⟨(h c).1.trans ((Cert.MoeLastRefIdeal.Read.val_main_v13_eq ..).trans ?_), (h c).2⟩)
    (Cert.MoeLastRefIdeal.Value.run m' g')
  obtain ⟨h0, h1, h2, h3, h4⟩ := hargs c
  rw [h0, h1, h2, h3, h4]
  exact moe_last_result m c

/-- The array the context tokens' expert feed-forward leaves is the reference's result on the same arguments. -/
theorem moe_ctx_result (m : (ℓ : Loc Cert.MoeCtxIdeal.nD Cert.MoeCtxIdeal.τ Cert.MoeCtxIdeal.sig) → Buf (Elt Ideal) ℓ) (c : Dev Cert.MoeCtxIdeal.nD) :
    Cert.MoeCtxRefIdeal.Read.val_main_v13 (F := Ideal) (m ((c.tc : Thread Cert.MoeCtxIdeal.nD Cert.MoeCtxIdeal.τ).loc Cert.MoeCtxIdeal.main_arg0))
        (m ((c.tc : Thread Cert.MoeCtxIdeal.nD Cert.MoeCtxIdeal.τ).loc Cert.MoeCtxIdeal.main_arg1))
        (m ((c.tc : Thread Cert.MoeCtxIdeal.nD Cert.MoeCtxIdeal.τ).loc Cert.MoeCtxIdeal.main_arg2))
        (m ((c.tc : Thread Cert.MoeCtxIdeal.nD Cert.MoeCtxIdeal.τ).loc Cert.MoeCtxIdeal.main_arg3))
        (m ((c.tc : Thread Cert.MoeCtxIdeal.nD Cert.MoeCtxIdeal.τ).loc Cert.MoeCtxIdeal.main_arg4))
      = Cert.MoeCtxIdeal.Value.G5 m c := by
  funext i
  rw [eq_ix3 i]
  exact (Cert.MoeCtxRefIdeal.Ffn.value_apply _ _ _ _ _ _ _ _).trans (Cert.MoeCtxIdeal.Ffn.G5_apply m c _ _ _).symm

/-- Over the extended reals the context tokens' expert feed-forward computes its reference, on every input. -/
theorem moe_ctx_algebraic : Cert.algebraic_MoeCtxIdeal_MoeCtxRefIdeal := by
  intro m g m' g' _ hargs
  refine ⟨fun c => Cert.MoeCtxIdeal.Value.G5 m c, Cert.MoeCtxIdeal.Value.run m g, ?_⟩
  refine (θ_run _ _ _).mono (fun r h c => ⟨(h c).1.trans ((Cert.MoeCtxRefIdeal.Read.val_main_v13_eq ..).trans ?_), (h c).2⟩)
    (Cert.MoeCtxRefIdeal.Value.run m' g')
  obtain ⟨h0, h1, h2, h3, h4⟩ := hargs c
  rw [h0, h1, h2, h3, h4]
  exact moe_ctx_result m c

end Cert.Proof

end
-- ==== Proof.Soft.lean ====
/- Softmax over three groups of logits — those of a window, those of a context and one sink — over the extended reals:
   masked logits may be left out of the sums and the maximum, and the normaliser may be divided out of the products one
   by one or once at the end. -/
module

public import Idealize.ShloMosaic.Lib.Pointwise

@[expose] public section

set_option maxRecDepth 16384

noncomputable section

namespace Cert.Soft

open Idealize.ShloMosaic

/-- The largest of the logits: of the window `L`, of the context `C` and the sink `s`. -/
def peak {n : ℕ} (L : Fin n → EReal) (C : Fin 256 → EReal) (s : EReal) : EReal :=
  max (max (Finset.univ.fold max ⊥ L) (Finset.univ.fold max ⊥ C)) s

/-- The normaliser: the sum of the exponentials of all logits less the peak. -/
def mass {n : ℕ} (L : Fin n → EReal) (C : Fin 256 → EReal) (s : EReal) : EReal :=
  (∑ j, Ideal.exp (L j - peak L C s)) + (∑ c, Ideal.exp (C c - peak L C s)) + Ideal.exp (s - peak L C s)

/-- The unnormalised mixture of the window's values `V` and the context's values `W`. -/
def mix {n : ℕ} (L : Fin n → EReal) (C : Fin 256 → EReal) (s : EReal) (V : Fin n → EReal) (W : Fin 256 → EReal) : EReal :=
  (∑ j, Ideal.exp (L j - peak L C s) * V j) + ∑ c, Ideal.exp (C c - peak L C s) * W c

/-- Attention with a sink: the mixture over the normaliser. -/
def attn {n : ℕ} (L : Fin n → EReal) (C : Fin 256 → EReal) (s : EReal) (V : Fin n → EReal) (W : Fin 256 → EReal) : EReal :=
  Ideal.div (mix L C s V W) (mass L C s)

/-- A maximum folded from the bottom is the supremum. -/
theorem fold_max_eq_sup {ι : Type} (t : Finset ι) (f : ι → EReal) : t.fold max ⊥ f = t.sup f := rfl

/-- The exponential is never negative. -/
theorem exp_nonneg (x : EReal) : 0 ≤ Ideal.exp x := by
  induction x with
  | bot => exact le_refl _
  | top => exact le_top
  | coe r => rw [Ideal.exp_coe]; exact_mod_cast (Real.exp_pos r).le

/-- The exponential of a real number is positive. -/
theorem exp_pos (r : ℝ) : 0 < Ideal.exp (r : EReal) := by
  rw [Ideal.exp_coe]; exact_mod_cast Real.exp_pos r

/-- A masked logit weighs nothing once the peak is a real number. -/
theorem exp_masked (r : ℝ) : Ideal.exp (⊥ - (r : EReal)) = 0 := by
  have h : (⊥ : EReal) - (r : EReal) = ⊥ := rfl
  rw [h, Ideal.exp_bot]

/-- Logits none of which is `⊤`, with a real sink, have a real peak. -/
theorem peak_real {n : ℕ} (L : Fin n → EReal) (C : Fin 256 → EReal) (s : ℝ) (hL : ∀ j, L j ≠ ⊤) (hC : ∀ c, C c ≠ ⊤) :
    ∃ r : ℝ, peak L C (s : EReal) = r := by
  have h0 : peak L C (s : EReal) ≠ ⊥ := by
    refine ne_of_gt (lt_of_lt_of_le (EReal.bot_lt_coe s) ?_)
    exact le_max_right _ _
  have h1 : peak L C (s : EReal) ≠ ⊤ := by
    refine ne_of_lt (max_lt (max_lt ?_ ?_) (EReal.coe_lt_top s))
    · rw [fold_max_eq_sup, Finset.sup_lt_iff bot_lt_top]
      exact fun j _ => lt_top_iff_ne_top.2 (hL j)
    · rw [fold_max_eq_sup, Finset.sup_lt_iff bot_lt_top]
      exact fun j _ => lt_top_iff_ne_top.2 (hC j)
  exact ⟨_, (EReal.coe_toReal h1 h0).symm⟩

/-- A nonnegative factor that is not `⊤` comes out of a sum. -/
theorem sum_mul_of_nonneg {ι : Type} (t : Finset ι) (f : ι → EReal) {r : EReal} (h0 : 0 ≤ r) (h1 : r ≠ ⊤) :
    ∑ i ∈ t, f i * r = (∑ i ∈ t, f i) * r := by
  classical
  induction t using Finset.induction_on with
  | empty => simp
  | insert a t ha ih => rw [Finset.sum_insert ha, Finset.sum_insert ha, ih, EReal.right_distrib_of_nonneg_of_ne_top h0 h1]

/-- The normaliser is positive. -/
theorem mass_pos {n : ℕ} (L : Fin n → EReal) (C : Fin 256 → EReal) (s : ℝ) (hL : ∀ j, L j ≠ ⊤) (hC : ∀ c, C c ≠ ⊤) :
    0 < mass L C (s : EReal) := by
  obtain ⟨r, hr⟩ := peak_real L C s hL hC
  unfold mass
  refine lt_of_lt_of_le ?_ (le_add_of_nonneg_left (add_nonneg (Finset.sum_nonneg fun j _ => exp_nonneg _) (Finset.sum_nonneg fun j _ => exp_nonneg _)))
  rw [hr, ← EReal.coe_sub]
  exact exp_pos _

/-- Dividing every weight by the normaliser before the products is dividing their sum by it. -/
theorem attn_of_weights {n : ℕ} (L : Fin n → EReal) (C : Fin 256 → EReal) (s : ℝ) (V : Fin n → EReal) (W : Fin 256 → EReal)
    (hL : ∀ j, L j ≠ ⊤) (hC : ∀ c, C c ≠ ⊤) :
    (∑ j, V j * Ideal.div (Ideal.exp (L j - peak L C (s : EReal))) (mass L C (s : EReal)))
        + (∑ c, W c * Ideal.div (Ideal.exp (C c - peak L C (s : EReal))) (mass L C (s : EReal)))
      = attn L C (s : EReal) V W := by
  have hp := mass_pos L C s hL hC
  have h0 : (0 : EReal) ≤ (mass L C (s : EReal))⁻¹ := EReal.inv_nonneg_of_nonneg hp.le
  have h1 : (mass L C (s : EReal))⁻¹ ≠ ⊤ := (EReal.inv_lt_top _).ne
  have hd (x : EReal) : Ideal.div x (mass L C (s : EReal)) = x * (mass L C (s : EReal))⁻¹ := by
    rw [Ideal.div, if_neg hp.ne']
  have hm (x y : EReal) : x * Ideal.div y (mass L C (s : EReal)) = y * x * (mass L C (s : EReal))⁻¹ := by
    rw [hd, ← mul_assoc, mul_comm x y]
  unfold attn mix
  simp only [hm]
  rw [hd, sum_mul_of_nonneg _ _ h0 h1, sum_mul_of_nonneg _ _ h0 h1, EReal.right_distrib_of_nonneg_of_ne_top h0 h1]

/-- A sum over a list of places is the sum over a longer list, where the places that count correspond and the others
    hold zero. -/
theorem sum_window {n N : ℕ} (P : Fin n → Prop) (f : Fin n → Fin N) (hinj : ∀ i j, P i → P j → f i = f j → i = j)
    (F : Fin n → EReal) (G : Fin N → EReal) (h : ∀ j, P j → F j = G (f j)) (hF : ∀ j, ¬P j → F j = 0)
    (hG : ∀ J, (∀ j, P j → f j ≠ J) → G J = 0) : ∑ j, F j = ∑ J, G J := by
  classical
  have e : ∑ j, F j = ∑ j ∈ Finset.univ.filter P, F j :=
    (Finset.sum_filter_of_ne fun j _ hj => by by_contra hc; exact hj (hF j hc)).symm
  rw [e]
  refine Finset.sum_of_injOn f ?_ (fun _ _ => Finset.mem_coe.2 (Finset.mem_univ _)) ?_ ?_
  · intro i hi j hj hij
    exact hinj i j (Finset.mem_filter.1 (Finset.mem_coe.1 hi)).2 (Finset.mem_filter.1 (Finset.mem_coe.1 hj)).2 hij
  · intro J _ hJ
    refine hG J fun j hj hf => hJ ⟨j, ?_, hf⟩
    exact Finset.mem_coe.2 (Finset.mem_filter.2 ⟨Finset.mem_univ _, hj⟩)
  · intro j hj
    exact h j (Finset.mem_filter.1 hj).2

/-- The maximum over a window is the maximum over the longer list whose other places hold `⊥`. -/
theorem fold_window {n N : ℕ} (P : Fin n → Prop) (f : Fin n → Fin N)
    (F : Fin n → EReal) (G : Fin N → EReal) (h : ∀ j, P j → F j = G (f j)) (hF : ∀ j, ¬P j → F j = ⊥)
    (hG : ∀ J, (∀ j, P j → f j ≠ J) → G J = ⊥) : Finset.univ.fold max ⊥ F = Finset.univ.fold max ⊥ G := by
  classical
  rw [fold_max_eq_sup, fold_max_eq_sup]
  apply le_antisymm
  · refine Finset.sup_le fun j _ => ?_
    by_cases hj : P j
    · rw [h j hj]; exact Finset.le_sup (f := G) (Finset.mem_univ _)
    · rw [hF j hj]; exact bot_le
  · refine Finset.sup_le fun J _ => ?_
    by_cases hJ : ∃ j, P j ∧ f j = J
    · obtain ⟨j, hj, rfl⟩ := hJ
      rw [← h j hj]; exact Finset.le_sup (f := F) (Finset.mem_univ _)
    · rw [hG J fun j hj hf => hJ ⟨j, hj, hf⟩]; exact bot_le

/-- ATTENTION OVER A WINDOW is attention over the whole list with the logits outside the window masked. -/
theorem attn_window {n N : ℕ} (P : Fin n → Prop) (f : Fin n → Fin N) (hinj : ∀ i j, P i → P j → f i = f j → i = j)
    (L V : Fin n → EReal) (L' V' : Fin N → EReal) (C W : Fin 256 → EReal) (s : ℝ)
    (hL : ∀ j, P j → L j = L' (f j)) (hV : ∀ j, P j → V j = V' (f j)) (h0 : ∀ j, ¬P j → L j = ⊥)
    (h1 : ∀ J, (∀ j, P j → f j ≠ J) → L' J = ⊥) (ht : ∀ J, L' J ≠ ⊤) (hC : ∀ c, C c ≠ ⊤) :
    attn L C (s : EReal) V W = attn L' C (s : EReal) V' W := by
  have hp : peak L C (s : EReal) = peak L' C (s : EReal) := by
    unfold peak; rw [fold_window P f L L' hL h0 h1]
  obtain ⟨r, hr⟩ := peak_real L' C s ht hC
  have em : mass L C (s : EReal) = mass L' C (s : EReal) := by
    unfold mass
    rw [hp, hr]
    congr 2
    refine sum_window P f hinj _ _ (fun j hj => by rw [hL j hj]) (fun j hj => by rw [h0 j hj, exp_masked]) (fun J hJ => by rw [h1 J hJ, exp_masked])
  have ex : mix L C (s : EReal) V W = mix L' C (s : EReal) V' W := by
    unfold mix
    rw [hp, hr]
    congr 1
    refine sum_window P f hinj _ _ (fun j hj => by rw [hL j hj, hV j hj]) (fun j hj => by rw [h0 j hj, exp_masked, zero_mul]) (fun J hJ => by rw [h1 J hJ, exp_masked, zero_mul])
  unfold attn
  rw [em, ex]

/-- One row of logits: those of the window, then those of the context, then the sink's. -/
def row {N : ℕ} (L : Fin N → EReal) (C : Fin 256 → EReal) (s : EReal) (j : ℕ) : EReal :=
  if h : j < N then L ⟨j, h⟩ else if h : j - N < 256 then C ⟨j - N, h⟩ else s

/-- A sum over a row is the sum over its three groups. -/
theorem sum_row {N : ℕ} (L : Fin N → EReal) (C : Fin 256 → EReal) (s : EReal) (F : EReal → EReal) :
    ∑ j : Fin (N + 256 + 1), F (row L C s j) = (∑ j, F (L j)) + (∑ c, F (C c)) + F s := by
  rw [Fin.sum_univ_castSucc, Fin.sum_univ_add]
  congr 1
  · congr 1
    · refine Finset.sum_congr rfl fun j _ => ?_
      have hj : (((Fin.castAdd 256 j).castSucc : Fin (N + 256 + 1)) : ℕ) = j.val := rfl
      rw [hj, row, dif_pos j.isLt]
    · refine Finset.sum_congr rfl fun j _ => ?_
      have hj : (((Fin.natAdd N j).castSucc : Fin (N + 256 + 1)) : ℕ) = N + j.val := rfl
      have e : N + j.val - N = j.val := by omega
      rw [hj, row, dif_neg (by omega), dif_pos (by have := j.isLt; omega)]
      congr 2
      exact Fin.ext e
  · have hj : ((Fin.last (N + 256) : Fin (N + 256 + 1)) : ℕ) = N + 256 := rfl
    rw [hj, row, dif_neg (by omega), dif_neg (by omega)]

/-- The maximum of a row is the peak of its three groups. -/
theorem fold_row {N : ℕ} (L : Fin N → EReal) (C : Fin 256 → EReal) (s : EReal) :
    Finset.univ.fold max ⊥ (fun j : Fin (N + 256 + 1) => row L C s j) = peak L C s := by
  unfold peak
  simp only [fold_max_eq_sup]
  apply le_antisymm
  · refine Finset.sup_le fun j _ => ?_
    show row L C s j ≤ _
    unfold row
    split
    · exact le_max_of_le_left (le_max_of_le_left (Finset.le_sup (f := L) (Finset.mem_univ _)))
    · split
      · exact le_max_of_le_left (le_max_of_le_right (Finset.le_sup (f := C) (Finset.mem_univ _)))
      · exact le_max_right _ _
  · refine max_le (max_le ?_ ?_) ?_
    · refine Finset.sup_le fun j _ => ?_
      have e : row L C s ((⟨j.val, by omega⟩ : Fin (N + 256 + 1)) : ℕ) = L j := by rw [row, dif_pos j.isLt]
      rw [← e]; exact Finset.le_sup (f := fun j : Fin (N + 256 + 1) => row L C s j) (Finset.mem_univ _)
    · refine Finset.sup_le fun j _ => ?_
      have hj := j.isLt
      have e : row L C s ((⟨N + j.val, by omega⟩ : Fin (N + 256 + 1)) : ℕ) = C j := by
        rw [row, dif_neg (by simp), dif_pos (by simp)]
        congr 1
        exact Fin.ext (by simp)
      rw [← e]; exact Finset.le_sup (f := fun j : Fin (N + 256 + 1) => row L C s j) (Finset.mem_univ _)
    · have e : row L C s ((⟨N + 256, by omega⟩ : Fin (N + 256 + 1)) : ℕ) = s := by
        rw [row, dif_neg (by simp), dif_neg (by simp)]
      refine e.symm.le.trans ?_; exact Finset.le_sup (f := fun j : Fin (N + 256 + 1) => row L C s j) (Finset.mem_univ _)

end Cert.Soft

end
-- ==== Proof.WinRefScore.lean ====
/- The logits of the window attention's reference over the extended reals, element by element: attention with a sink over all latent
   positions with those further than 128 masked, and over the context. -/
module

public import proofs.«01_k».proof.Proof.Soft
public import proofs.«01_k».proof.Proof.Gen.ReferenceIdeal.Run
public import proofs.«01_k».proof.Proof.Gen.ReferenceIdeal.Read

@[expose] public section

set_option maxRecDepth 16384

noncomputable section

namespace Cert.ReferenceIdeal.Win

open Cert.ReferenceIdeal Cert.ReferenceIdeal.Gen Cert.ReferenceIdeal.Read Idealize.ShloMosaic Idealize.ShloMosaic.TcCoe Idealize.SL.Sem

variable (x0 : S8x4096x256.Idx → EReal) (x1 : S8x4096x768.Idx → EReal) (x2 : S8x256x768.Idx → EReal) (x3 : S4.Idx → EReal)

/-- The product of a query's head with a latent key's head. -/
def score (b : Fin 8) (k g : Fin 2) (s J : Fin 4096) : EReal :=
  ∑ d : Fin 64, x1 (ix3 b J ⟨k.val * 64 + d.val, by omega⟩) * x0 (ix3 b s ⟨g.val * 128 + k.val * 64 + d.val, by omega⟩)

/-- A latent key's logit: the product within 128 positions of the query, masked elsewhere. -/
def near (b : Fin 8) (k g : Fin 2) (s J : Fin 4096) : EReal :=
  if s.val ≤ J.val + 128 ∧ J.val ≤ s.val + 128 then score x0 x1 b k g s J else ⊥

/-- A context key's logit. -/
def ctx (b : Fin 8) (k g : Fin 2) (s : Fin 4096) (c : Fin 256) : EReal :=
  ∑ d : Fin 64, x2 (ix3 b c ⟨k.val * 64 + d.val, by omega⟩) * x0 (ix3 b s ⟨g.val * 128 + k.val * 64 + d.val, by omega⟩)

/-- A head's sink logit. -/
def snk (k g : Fin 2) : EReal := x3 (ix1 ⟨k.val * 2 + g.val, by omega⟩)

/-- The word for minus infinity is the bottom. -/
theorem ofBits_bot : Ideal.ofBits .f32 0xFF800000#32 = ⊥ := by simp [Ideal.ofBits, Ideal.ieee]

/-- The validity bit: the two positions are at most 128 apart. -/
theorem valid_apply (s J : Fin 4096) :
    val_main_v22 (F := Ideal) (ix2 s J) = if s.val ≤ J.val + 128 ∧ J.val ≤ s.val + 128 then 1#1 else 0#1 := by
  pointwise [val_main_v22, val_main_v21, val_main_v20, val_main_v19, val_main_v18, val_main_v17, val_main_v16, val_main_v15,
    val_main_v14, val_main_c]
  have hs := s.isLt
  have hJ := J.isLt
  generalize s.val = a at *
  generalize J.val = e at *
  have key : (IntOp.absi (IntOp.subi (BitVec.ofNat 32 a) (BitVec.ofNat 32 e))).toInt = |(a : Int) - e| := by
    have h1 : (BitVec.ofNat 32 a - BitVec.ofNat 32 e).toInt = (a : Int) - e := by
      rw [BitVec.toInt_sub, BitVec.toInt_ofNat', BitVec.toInt_ofNat']
      simp only [Int.bmod_def]
      norm_num
      omega
    unfold IntOp.absi IntOp.subi
    rw [BitVec.msb_eq_toInt, h1]
    by_cases hlt : (a : Int) - e < 0
    · simp only [hlt, decide_true, if_true]
      rw [BitVec.toInt_neg, h1, abs_of_neg hlt]
      simp only [Int.bmod_def]
      norm_num
      omega
    · simp only [hlt, decide_false, Bool.false_eq_true, if_false]
      rw [h1, abs_of_nonneg (by omega)]
  have h2 : (IntOp.absi (IntOp.subi (BitVec.ofNat 32 a) (BitVec.ofNat 32 e))).sle 128#32 = decide (a ≤ e + 128 ∧ e ≤ a + 128) := by
    rw [BitVec.sle_eq_decide, key]
    have h3 : (128#32 : BitVec 32).toInt = 128 := by decide
    rw [h3]
    refine decide_eq_decide.2 ?_
    rw [abs_le]
    omega
  show BitVec.ofBool ((IntOp.absi (IntOp.subi (BitVec.ofNat 32 a) (BitVec.ofNat 32 e))).sle 128#32) = _
  rw [h2]
  by_cases h : a ≤ e + 128 ∧ e ≤ a + 128 <;> simp [h]

/-- The products of the queries with the latent keys, read at an index. -/
theorem score_apply (b : Fin 8) (k g : Fin 2) (s J : Fin 4096) :
    val_main_v24 (F := Ideal) x0 x1 (ix5 b k g s J) = score x0 x1 b k g s J := by
  pointwise [val_main_v24, val_main_v23, val_main_v4, val_main_v3, val_main_v2, val_main_v1, val_main_v0]
  rfl

/-- The masked products, read at an index. -/
theorem near_apply (b : Fin 8) (k g : Fin 2) (s J : Fin 4096) :
    val_main_v25 (F := Ideal) x0 x1 (ix5 b k g s J) = near x0 x1 b k g s J := by
  unfold val_main_v25
  have h := score_apply x0 x1 b k g s J
  generalize val_main_v24 (F := Ideal) x0 x1 = y at h ⊢
  have hv := valid_apply s J
  have hc : val_main_call0_v1 (F := Ideal) (ix5 b k g s J) = val_main_v22 (F := Ideal) (ix2 s J) := by
    pointwise [val_main_call0_v1]
  have hb : val_main_call0_v2 (F := Ideal) (ix5 b k g s J) = ⊥ := ofBits_bot
  show Scalar.select (val_main_call0_v1 (F := Ideal) (ix5 b k g s J)) (y (ix5 b k g s J)) (val_main_call0_v2 (F := Ideal) (ix5 b k g s J)) = _
  rw [hc, hv, hb, h]
  unfold near
  by_cases h : s.val ≤ J.val + 128 ∧ J.val ≤ s.val + 128
  · rw [if_pos h, if_pos h]; rfl
  · rw [if_neg h, if_neg h]; rfl

/-- The products of the queries with the context keys, read at an index. -/
theorem ctx_apply (b : Fin 8) (k g : Fin 2) (s : Fin 4096) (c : Fin 256) :
    val_main_v27 (F := Ideal) x0 x2 (ix5 b k g s c) = ctx x0 x2 b k g s c := by
  pointwise [val_main_v27, val_main_v26, val_main_v10, val_main_v9, val_main_v8, val_main_v1, val_main_v0]
  rfl

/-- The sink's logits, read at an index. -/
theorem snk_apply (b : Fin 8) (k g : Fin 2) (s : Fin 4096) :
    val_main_v30 (F := Ideal) x3 (ix5 b k g s 0) = snk x3 k g := by
  pointwise [val_main_v30, val_main_v29, val_main_v28]
  rfl

/-- A query head's logits side by side: latent keys, context keys, sink. -/
theorem logits_apply (b : Fin 8) (k g : Fin 2) (s : Fin 4096) (j : Fin 4353) :
    val_main_v31 (F := Ideal) x0 x1 x2 x3 (ix5 b k g s j)
      = Soft.row (near x0 x1 b k g s) (ctx x0 x2 b k g s) (snk x3 k g) j := by
  unfold val_main_v31
  have h1 := near_apply x0 x1 b k g s
  have h2 := ctx_apply x0 x2 b k g s
  have h3 := snk_apply x3 b k g s
  generalize val_main_v25 (F := Ideal) x0 x1 = y1 at h1 ⊢
  generalize val_main_v27 (F := Ideal) x0 x2 = y2 at h2 ⊢
  generalize val_main_v30 (F := Ideal) x3 = y3 at h3 ⊢
  pointwise
  unfold Soft.row
  split
  · exact h1 _
  · split
    · exact h2 _
    · exact (congrArg y3 (congrArg (ix5 b k g s) (Subsingleton.elim _ _))).trans h3

end Cert.ReferenceIdeal.Win

end
-- ==== Proof.WinPre.lean ====
/- What the precondition on the window attention's arguments says: every query, latent key, context key and sink logit is a
   real number; so no logit is infinite. -/
module

public import proofs.«01_k».proof.Pre_finite_logits
public import proofs.«01_k».proof.Proof.WinRefScore
public import Idealize.ShloMosaic.Lib.ReduceAll
public import Idealize.ShloMosaic.Lib.Decide

@[expose] public section

set_option maxRecDepth 16384

noncomputable section

namespace Cert.Pre_finite_logits

open Idealize.ShloMosaic

/-- The shape relations the predicate's operations take. -/
instance facts : Cert.Pre_finite_logits.Facts where
  bitsLt_bf16_f32 := by decide
  bcast_S_S8x4096x256 := by decide
  reducesTo_S8x4096x256_S_d0_1_2 := by decide
  h_S_ := by decide
  slices_S8x4096x768_S8x4096x128_0_0_0 := by decide
  bcast_S_S8x4096x128 := by decide
  reducesTo_S8x4096x128_S_d0_1_2 := by decide
  slices_S8x256x768_S8x256x128_0_0_0 := by decide
  bcast_S_S8x256x128 := by decide
  reducesTo_S8x256x128_S_d0_1_2 := by decide
  bcast_S_S4 := by decide
  reducesTo_S4_S_d0 := by decide

/-- There is one index of a shape without axes. -/
instance : Subsingleton S_.Idx := ⟨fun a b => funext fun x => x.elim0⟩

/-- An absolute value below infinity is that of a real number. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable (x0 : FVec Ideal S8x4096x256 .bf16) (x1 : FVec Ideal S8x4096x768 .bf16) (x2 : FVec Ideal S8x256x768 .bf16) (x3 : FVec Ideal S4 .f32)

/-- THE PRECONDITION, element by element: the queries, both kinds of keys and the sinks are real numbers. -/
theorem reals (h : fn (F := Ideal) x0 x1 x2 x3 = (fun _ => 1#1)) :
    (∀ b s l, ∃ r : ℝ, (x0 (ix3 b s l) : EReal) = r) ∧ (∀ b s (l : Fin 128), ∃ r : ℝ, (x1 (ix3 b s ⟨l.val, by omega⟩) : EReal) = r)
      ∧ (∀ b s (l : Fin 128), ∃ r : ℝ, (x2 (ix3 b s ⟨l.val, by omega⟩) : EReal) = r) ∧ ∀ j, ∃ r : ℝ, (x3 (ix1 j) : EReal) = r := by
  have h := congrFun h (Shape.Idx.first Facts.h_S_)
  unfold fn fn_part1 at h
  dsimp only at h
  obtain ⟨h123, h4⟩ := IntOp.andi_eq_one.1 h
  obtain ⟨h12, h3⟩ := IntOp.andi_eq_one.1 h123
  obtain ⟨h1, h2⟩ := IntOp.andi_eq_one.1 h12
  refine ⟨fun b s l => ?_, fun b s l => ?_, fun b s l => ?_, fun j => ?_⟩
  · exact real_of_lt _ (Host.reduce_andi_all _ _ _ _ _ h1 (ix3 b s l))
  · have e := real_of_lt _ (Host.reduce_andi_all _ _ _ _ _ h2 (ix3 b s l))
    have he : extractStridedSlice S8x4096x128 ![0, 0, 0] x1 Facts.slices_S8x4096x768_S8x4096x128_0_0_0 (ix3 b s l) = x1 (ix3 b s ⟨l.val, by omega⟩) := by
      pointwise
    rw [← he]
    exact e
  · have e := real_of_lt _ (Host.reduce_andi_all _ _ _ _ _ h3 (ix3 b s l))
    have he : extractStridedSlice S8x256x128 ![0, 0, 0] x2 Facts.slices_S8x256x768_S8x256x128_0_0_0 (ix3 b s l) = x2 (ix3 b s ⟨l.val, by omega⟩) := by
      pointwise
    rw [← he]
    exact e
  · exact real_of_lt _ (Host.reduce_andi_all _ _ _ _ _ h4 (ix1 j))

/-- A finite sum of products of real numbers is a real number. -/
theorem real_sum {n : ℕ} (f g : Fin n → EReal) (hf : ∀ i, ∃ r : ℝ, f i = r) (hg : ∀ i, ∃ r : ℝ, g i = r) : ∃ r : ℝ, ∑ i, f i * g i = r := by
  refine Finset.sum_induction (fun i => f i * g i) (fun y : EReal => ∃ r : ℝ, y = (r : EReal)) ?_ ⟨0, rfl⟩ ?_
  · rintro _ _ ⟨a, rfl⟩ ⟨b, rfl⟩
    exact ⟨a + b, (EReal.coe_add a b).symm⟩
  · intro i _
    obtain ⟨a, ha⟩ := hf i
    obtain ⟨b, hb⟩ := hg i
    exact ⟨a * b, by rw [ha, hb, EReal.coe_mul]⟩

/-- So no latent logit is the top, -/
theorem near_ne_top (h : fn (F := Ideal) x0 x1 x2 x3 = (fun _ => 1#1)) (b : Fin 8) (k g : Fin 2) (s J : Fin 4096) :
    ReferenceIdeal.Win.near x0 x1 b k g s J ≠ ⊤ := by
  obtain ⟨hq, hk, -, -⟩ := reals x0 x1 x2 x3 h
  unfold ReferenceIdeal.Win.near
  split
  · obtain ⟨r, hr⟩ := real_sum _ _ (fun d : Fin 64 => hk b J ⟨k.val * 64 + d.val, by omega⟩) (fun d => hq b s ⟨g.val * 128 + k.val * 64 + d.val, by omega⟩)
    exact ne_of_eq_of_ne hr (EReal.coe_ne_top r)
  · exact bot_ne_top

/-- nor is any context logit. -/
theorem ctx_ne_top (h : fn (F := Ideal) x0 x1 x2 x3 = (fun _ => 1#1)) (b : Fin 8) (k g : Fin 2) (s : Fin 4096) (c : Fin 256) :
    ReferenceIdeal.Win.ctx x0 x2 b k g s c ≠ ⊤ := by
  obtain ⟨hq, -, hc, -⟩ := reals x0 x1 x2 x3 h
  obtain ⟨r, hr⟩ := real_sum _ _ (fun d : Fin 64 => hc b c ⟨k.val * 64 + d.val, by omega⟩) (fun d => hq b s ⟨g.val * 128 + k.val * 64 + d.val, by omega⟩)
  exact ne_of_eq_of_ne hr (EReal.coe_ne_top r)

end Cert.Pre_finite_logits

end
-- ==== Proof.WinBlock.lean ====
/- The window attention's body over the extended reals. One sub-block of 128 queries is a short chain of stages — the
   stacked query heads, the masked products with the window's keys, the products with the context's keys, the quotient,
   the layout — and each of the body's four stored values is that chain on its own slices. -/
module

public import proofs.«01_k».proof.Proof.Soft
public import proofs.«01_k».proof.Proof.Gen.KernelIdeal.Value
public import Idealize.ShloMosaic.Lib.Pointwise

@[expose] public section

set_option maxRecDepth 16384

noncomputable section

namespace Cert.KernelIdeal.Win

open Cert.KernelIdeal Cert.KernelIdeal.Gen Cert.KernelIdeal.Value Idealize.ShloMosaic Idealize.ShloMosaic.TcCoe Idealize.SL.Sem

/-- The number of a key's column in the window. -/
def cols : IVec S512x384 32 := iota .tc S512x384 32 [1] iota_S512x384_d1_w32

/-- The mask of the sub-block with number `w`: the band, cut to the latent positions at the two ends. -/
def bits (w : BitVec 32) : IVec S512x384 1 :=
  andi (andi k0_pay7 (cmpi .sge cols (broadcast S512x384 (Scalar.select (Scalar.cmpi .eq w 0#32) 128#32 0#32))))
    (cmpi .slt cols (broadcast S512x384 (Scalar.select (Scalar.cmpi .eq w 31#32) 256#32 384#32)))

/-- The four query heads one under the other, each with zeros on the lanes of the other key head. -/
def stack (a b : FVec Ideal S128x128 .bf16) : FVec Ideal S512x128 .bf16 :=
  concatenate S512x128 0
    [⟨S128x128, select k0_pay8 a (broadcast S128x128 (Scalar.ofBits .bf16 0x0000#16))⟩,
     ⟨S128x128, select k0_pay8 b (broadcast S128x128 (Scalar.ofBits .bf16 0x0000#16))⟩,
     ⟨S128x128, select k0_pay8 (broadcast S128x128 (Scalar.ofBits .bf16 0x0000#16)) a⟩,
     ⟨S128x128, select k0_pay8 (broadcast S128x128 (Scalar.ofBits .bf16 0x0000#16)) b⟩]
    concatenates_S128x128_S128x128_S128x128_S128x128_S512x128_d0

/-- The window's logits: the products where the mask allows, the mask's value elsewhere. -/
def near (w : BitVec 32) (q : FVec Ideal S512x128 .bf16) (kk : FVec Ideal S384x128 .bf16) : FVec Ideal S512x384 .f32 :=
  select (bits w) (matmul dot_S512x128_S384x128_S512x384_1_1_0_0_n_n none q kk (constant S512x384 .f32 0x00000000#32))
    (broadcast S512x384 (Named.named κ "mask" 0xF149F2CA#32))

/-- The context's logits. -/
def ctx (q : FVec Ideal S512x128 .bf16) (kc : FVec Ideal S256x128 .bf16) : FVec Ideal S512x256 .f32 :=
  matmul dot_S512x128_S256x128_S512x256_1_1_0_0_n_n none q kc (constant S512x256 .f32 0x00000000#32)

/-- Each row's largest logit. -/
def peak (S : FVec Ideal S512x384 .f32) (C : FVec Ideal S512x256 .f32) (z : FVec Ideal S512x1 .f32) : FVec Ideal S512x1 .f32 :=
  maximumf (maximumf
    (shapeCast S512x1 (multiReduction .maximumf [1] S512 S 0xFF800000#32 reduces_S512x384_S512 (.inl rfl) rfl) shapeCasts_S512_S512x1)
    (shapeCast S512x1 (multiReduction .maximumf [1] S512 C 0xFF800000#32 reduces_S512x256_S512 (.inl rfl) rfl) shapeCasts_S512_S512x1)) z

/-- The window's weights. -/
def wts (S : FVec Ideal S512x384 .f32) (p : FVec Ideal S512x1 .f32) : FVec Ideal S512x384 .f32 :=
  exp (subf S (broadcastTo S512x384 p broadcasts_S512x1_S512x384))

/-- The context's weights. -/
def cwts (C : FVec Ideal S512x256 .f32) (p : FVec Ideal S512x1 .f32) : FVec Ideal S512x256 .f32 :=
  exp (subf C (broadcastTo S512x256 p broadcasts_S512x1_S512x256))

/-- Each row's normaliser. -/
def mass (E : FVec Ideal S512x384 .f32) (H : FVec Ideal S512x256 .f32) (z p : FVec Ideal S512x1 .f32) : FVec Ideal S512x1 .f32 :=
  addf (addf
    (shapeCast S512x1 (multiReduction .add [1] S512 E 0x00000000#32 reduces_S512x384_S512 (.inl rfl) rfl) shapeCasts_S512_S512x1)
    (shapeCast S512x1 (multiReduction .add [1] S512 H 0x00000000#32 reduces_S512x256_S512 (.inl rfl) rfl) shapeCasts_S512_S512x1))
    (exp (subf z p))

/-- The quotient of the mixed values by the normaliser. -/
def quot (E : FVec Ideal S512x384 .f32) (H : FVec Ideal S512x256 .f32) (M : FVec Ideal S512x1 .f32) (vv : FVec Ideal S384x128 .bf16)
    (vc : FVec Ideal S256x128 .bf16) : FVec Ideal S512x128 .f32 :=
  divf (addf
    (matmul dot_S512x384_S384x128_S512x128_1_0_0_1_n_n none (truncf .bf16 E bitsLt_bf16_f32) vv (constant S512x128 .f32 0x00000000#32))
    (matmul dot_S512x256_S256x128_S512x128_1_0_0_1_n_n none (truncf .bf16 H bitsLt_bf16_f32) vc (constant S512x128 .f32 0x00000000#32)))
    (broadcastTo S512x128 M broadcasts_S512x1_S512x128)

/-- The stacked heads laid out side by side again. -/
def lay (o : FVec Ideal S512x128 .f32) : FVec Ideal S1x128x256 .bf16 :=
  shapeCast S1x128x256 (truncf .bf16 (concatenate S128x256 1
    [⟨S128x128, select k0_pay8 (extractStridedSlice S128x128 ![0, 0] o slices_S512x128_o0_0_S128x128) (extractStridedSlice S128x128 ![256, 0] o slices_S512x128_o256_0_S128x128)⟩,
     ⟨S128x128, select k0_pay8 (extractStridedSlice S128x128 ![128, 0] o slices_S512x128_o128_0_S128x128) (extractStridedSlice S128x128 ![384, 0] o slices_S512x128_o384_0_S128x128)⟩]
    concatenates_S128x128_S128x128_S128x256_d1) bitsLt_bf16_f32) shapeCasts_S128x256_S1x128x256

/-- One row's result from its logits: quotient of the weights of `S`, `C` and `z`. -/
def heads (S : FVec Ideal S512x384 .f32) (C : FVec Ideal S512x256 .f32) (z : FVec Ideal S512x1 .f32) (vv : FVec Ideal S384x128 .bf16)
    (vc : FVec Ideal S256x128 .bf16) : FVec Ideal S512x128 .f32 :=
  quot (wts S (peak S C z)) (cwts C (peak S C z)) (mass (wts S (peak S C z)) (cwts C (peak S C z)) z (peak S C z)) vv vc

/-- ONE SUB-BLOCK: from its two slices of the queries, its slices of the window's keys and values, the context and the sinks. -/
def sub (w : BitVec 32) (a b : FVec Ideal S128x128 .bf16) (kk vv : FVec Ideal S384x128 .bf16) (kc vc : FVec Ideal S256x128 .bf16)
    (z : FVec Ideal S512x1 .f32) : FVec Ideal S1x128x256 .bf16 :=
  lay (heads (near w (stack a b) kk) (ctx (stack a b) kc) z vv vc)

section Pieces
variable (n : BitVec 32) (v1 : FVec Ideal S512x256 .bf16) (v8 v15 : FVec Ideal S768x128 .bf16) (v17 v19 : FVec Ideal S256x128 .bf16)
  (z : FVec Ideal S512x1 .f32)

/-- The first stored value is the chain on the first slices. -/
theorem piece0 :
    k0_pay18 v15 v19 k0_pay8 (k0_pay14 n v1 v8 v17 cols k0_pay7 k0_pay8 z) (k0_pay15 n v1 v8 v17 cols k0_pay7 k0_pay8 z)
        (k0_pay16 n v1 v8 v17 cols k0_pay7 k0_pay8 z) (k0_pay17 n v1 v8 v17 cols k0_pay7 k0_pay8 z)
      = sub (Scalar.addi (Scalar.muli n 4#32) 0#32) (extractStridedSlice S128x128 ![0, 0] v1 slices_S512x256_o0_0_S128x128)
          (extractStridedSlice S128x128 ![0, 128] v1 slices_S512x256_o0_128_S128x128)
          (extractStridedSlice S384x128 ![0, 0] v8 slices_S768x128_o0_0_S384x128)
          (extractStridedSlice S384x128 ![0, 0] v15 slices_S768x128_o0_0_S384x128) v17 v19 z := rfl

/-- The second stored value is the chain on the second slices. -/
theorem piece1 :
    k0_pay23 v15 v17 v19 k0_pay8 z (k0_pay19 n cols k0_pay7) (k0_pay20 v1 k0_pay8) (k0_pay21 v1 v8 k0_pay8) k0_pay22
      = sub (Scalar.addi (Scalar.muli n 4#32) 1#32) (extractStridedSlice S128x128 ![128, 0] v1 slices_S512x256_o128_0_S128x128)
          (extractStridedSlice S128x128 ![128, 128] v1 slices_S512x256_o128_128_S128x128)
          (extractStridedSlice S384x128 ![128, 0] v8 slices_S768x128_o128_0_S384x128)
          (extractStridedSlice S384x128 ![128, 0] v15 slices_S768x128_o128_0_S384x128) v17 v19 z := rfl

/-- The third stored value is the chain on the third slices. -/
theorem piece2 :
    k0_pay33 k0_pay8
        (k0_pay30 v1 v8 v17 cols k0_pay7 k0_pay8 z (Scalar.addi (Scalar.muli n 4#32) 2#32)
          (Scalar.cmpi CmpIPredicate.eq (Scalar.addi (Scalar.muli n 4#32) 2#32) 0#32) 128#32 0#32)
        (k0_pay31 v1 v8 v15 v17 cols k0_pay7 k0_pay8 z (Scalar.addi (Scalar.muli n 4#32) 2#32)
          (Scalar.cmpi CmpIPredicate.eq (Scalar.addi (Scalar.muli n 4#32) 2#32) 0#32) 128#32 0#32)
        (k0_pay32 v1 v8 v17 v19 cols k0_pay7 k0_pay8 z (Scalar.addi (Scalar.muli n 4#32) 2#32)
          (Scalar.cmpi CmpIPredicate.eq (Scalar.addi (Scalar.muli n 4#32) 2#32) 0#32) 128#32 0#32)
      = sub (Scalar.addi (Scalar.muli n 4#32) 2#32) (extractStridedSlice S128x128 ![256, 0] v1 slices_S512x256_o256_0_S128x128)
          (extractStridedSlice S128x128 ![256, 128] v1 slices_S512x256_o256_128_S128x128)
          (extractStridedSlice S384x128 ![256, 0] v8 slices_S768x128_o256_0_S384x128)
          (extractStridedSlice S384x128 ![256, 0] v15 slices_S768x128_o256_0_S384x128) v17 v19 z := rfl

/-- The fourth stored value is the chain on the fourth slices. -/
theorem piece3 :
    k0_pay1 v15 v19 k0_pay8 z (k0_pay35 n v1 v8 cols k0_pay7 k0_pay8) (k0_pay36 v1 v17 k0_pay8)
        (k0_pay37 n v1 v8 cols k0_pay7 k0_pay8) (k0_pay38 v1 v17 k0_pay8)
      = sub (Scalar.addi (Scalar.muli n 4#32) 3#32) (extractStridedSlice S128x128 ![384, 0] v1 slices_S512x256_o384_0_S128x128)
          (extractStridedSlice S128x128 ![384, 128] v1 slices_S512x256_o384_128_S128x128)
          (extractStridedSlice S384x128 ![384, 0] v8 slices_S768x128_o384_0_S384x128)
          (extractStridedSlice S384x128 ![384, 0] v15 slices_S768x128_o384_0_S384x128) v17 v19 z := rfl
end Pieces

/-- A word of a small number is that number. -/
theorem toInt_small {a : ℕ} (h : a < 2 ^ 31) : (BitVec.ofNat 32 a).toInt = a := by
  rw [BitVec.toInt_ofNat']
  simp only [Int.bmod_def]
  norm_num
  omega

/-- Comparing words of small numbers is comparing the numbers. -/
theorem sle_small {a b : ℕ} (ha : a < 2 ^ 31) (hb : b < 2 ^ 31) : (BitVec.ofNat 32 a).sle (BitVec.ofNat 32 b) = decide (a ≤ b) := by
  rw [BitVec.sle_eq_decide, toInt_small ha, toInt_small hb]
  exact decide_eq_decide.2 (by omega)

/-- Comparing words of small numbers strictly is comparing the numbers strictly. -/
theorem slt_small {a b : ℕ} (ha : a < 2 ^ 31) (hb : b < 2 ^ 31) : (BitVec.ofNat 32 a).slt (BitVec.ofNat 32 b) = decide (a < b) := by
  rw [BitVec.slt_eq_decide, toInt_small ha, toInt_small hb]
  exact decide_eq_decide.2 (by omega)

/-- The lanes below 64 are marked. -/
theorem lane_apply (r l : Fin 128) : k0_pay8 (ix2 r l) = if l.val < 64 then 1#1 else 0#1 := by
  pointwise [k0_pay8]
  show BitVec.ofBool ((BitVec.ofNat 32 l.val).slt (BitVec.ofNat 32 64)) = _
  rw [slt_small (by omega) (by omega)]
  by_cases h : l.val < 64 <;> simp [h]

/-- The word for minus infinity is the bottom. -/
theorem ofBits_bot : Ideal.ofBits .f32 0xFF800000#32 = ⊥ := by simp [Ideal.ofBits, Ideal.ieee]

/-- A bit chosen by a proposition is its truth value as a word. -/
theorem ite_bit (P : Prop) [Decidable P] : (if P then 1#1 else 0#1) = BitVec.ofBool (decide P) := by
  by_cases h : P <;> simp [h]

/-- The bitwise and of two truth values. -/
theorem and_bit (p q : Bool) : IntOp.andi (BitVec.ofBool p) (BitVec.ofBool q) = BitVec.ofBool (p && q) := by
  cases p <;> cases q <;> rfl

/-- The low seven bits of a word are its remainder by 128. -/
theorem low_bits {a : ℕ} (h : a < 512) : IntOp.andi (BitVec.ofNat 32 a) 127#32 = BitVec.ofNat 32 (a % 128) := by
  have e : ∀ r : Fin 512, IntOp.andi (BitVec.ofNat 32 r.val) 127#32 = BitVec.ofNat 32 (r.val % 128) := by decide +kernel
  exact e ⟨a, h⟩

/-- The band's bit: between the row's own number in its group of 128 and 256 further. -/
theorem band_apply (r : Fin 512) (j : Fin 384) :
    k0_pay7 (ix2 r j) = if r.val % 128 ≤ j.val ∧ j.val ≤ r.val % 128 + 256 then 1#1 else 0#1 := by
  pointwise [k0_pay7]
  have e : IntOp.addi (BitVec.ofNat 32 (r.val % 128)) 256#32 = BitVec.ofNat 32 (r.val % 128 + 256) := (BitVec.ofNat_add _ _).symm
  rw [low_bits r.isLt, e, ite_bit]
  show IntOp.andi (BitVec.ofBool ((BitVec.ofNat 32 (r.val % 128)).sle (BitVec.ofNat 32 j.val)))
    (BitVec.ofBool ((BitVec.ofNat 32 j.val).sle (BitVec.ofNat 32 (r.val % 128 + 256)))) = _
  rw [sle_small (by omega) (by omega), sle_small (by omega) (by omega), and_bit, ← Bool.decide_and]

/-- The mask's bit: the band, from column 128 in the first sub-block of all and up to column 256 in the last. -/
theorem bits_apply (w : ℕ) (hw : w < 32) (r : Fin 512) (j : Fin 384) :
    bits (BitVec.ofNat 32 w) (ix2 r j)
      = if (r.val % 128 ≤ j.val ∧ j.val ≤ r.val % 128 + 256) ∧ (w = 0 → 128 ≤ j.val) ∧ (w = 31 → j.val < 256) then 1#1 else 0#1 := by
  have h := band_apply r j
  unfold bits cols
  generalize k0_pay7 = y at h ⊢
  pointwise
  have e0 : ∀ w : Fin 32, Scalar.select (Scalar.cmpi CmpIPredicate.eq (BitVec.ofNat 32 w.val) 0#32) 128#32 0#32
      = BitVec.ofNat 32 (if w.val = 0 then 128 else 0) := by decide
  have e1 : ∀ w : Fin 32, Scalar.select (Scalar.cmpi CmpIPredicate.eq (BitVec.ofNat 32 w.val) 31#32) 256#32 384#32
      = BitVec.ofNat 32 (if w.val = 31 then 256 else 384) := by decide
  rw [h, e0 ⟨w, hw⟩, e1 ⟨w, hw⟩, ite_bit, ite_bit]
  show IntOp.andi (IntOp.andi _ (BitVec.ofBool ((BitVec.ofNat 32 (if w = 0 then 128 else 0)).sle (BitVec.ofNat 32 j.val))))
    (BitVec.ofBool ((BitVec.ofNat 32 j.val).slt (BitVec.ofNat 32 (if w = 31 then 256 else 384)))) = _
  rw [sle_small (by split <;> omega) (by omega), slt_small (by omega) (by split <;> omega), and_bit, and_bit, ← Bool.decide_and,
    ← Bool.decide_and]
  congr 1
  refine decide_eq_decide.2 ?_
  have hj := j.isLt
  split <;> split <;> constructor <;> intro hh <;> refine ⟨?_, ?_⟩ <;> omega

/-- Reading an array at equal coordinates. -/
theorem read2 {α : Type} {n m : ℕ} (o : (⟨2, ![n, m]⟩ : Shape).Idx → α) {a a' : Fin n} {b b' : Fin m} (h : a.val = a'.val)
    (h' : b.val = b'.val) : o (ix2 a b) = o (ix2 a' b') := by
  rw [Fin.ext h, Fin.ext h']

/-- Four blocks of 128 rows one under the other, read in the block of query group `g` and key head `k`. -/
theorem four_apply (A B C D : FVec Ideal S128x128 .bf16) (r : Fin 512) (d : Fin 128) (g k : Fin 2) (i : Fin 128)
    (hr : r.val = g.val * 128 + k.val * 256 + i.val) :
    (concatenate S512x128 0 [⟨S128x128, A⟩, ⟨S128x128, B⟩, ⟨S128x128, C⟩, ⟨S128x128, D⟩]
        concatenates_S128x128_S128x128_S128x128_S128x128_S512x128_d0 : FVec Ideal S512x128 .bf16) (ix2 r d)
      = if k.val = 0 then (if g.val = 0 then A (ix2 i d) else B (ix2 i d)) else (if g.val = 0 then C (ix2 i d) else D (ix2 i d)) := by
  pointwise
  have hi := i.isLt
  have hg := g.isLt
  have hk := k.isLt
  split
  · refine (read2 A (a' := i) (b' := d) (by dsimp only; omega) rfl).trans ?_; rw [if_pos (show k.val = 0 by omega), if_pos (show g.val = 0 by omega)]
  · split
    · refine (read2 B (a' := i) (b' := d) (by dsimp only; omega) rfl).trans ?_; rw [if_pos (show k.val = 0 by omega), if_neg (show ¬g.val = 0 by omega)]
    · split
      · refine (read2 C (a' := i) (b' := d) (by dsimp only; omega) rfl).trans ?_; rw [if_neg (show ¬k.val = 0 by omega), if_pos (show g.val = 0 by omega)]
      · refine (read2 D (a' := i) (b' := d) (by dsimp only; omega) rfl).trans ?_; rw [if_neg (show ¬k.val = 0 by omega), if_neg (show ¬g.val = 0 by omega)]

/-- The stacked heads: in the group of query group `g` and key head `k` the lanes of that key head hold the query's, the
    others zero. -/
theorem stack_apply (a b : FVec Ideal S128x128 .bf16) (r : Fin 512) (d : Fin 128) (g k : Fin 2) (i : Fin 128)
    (hr : r.val = g.val * 128 + k.val * 256 + i.val) :
    stack a b (ix2 r d) = if d.val / 64 = k.val then (if g.val = 0 then a (ix2 i d) else b (ix2 i d)) else 0 := by
  unfold stack
  rw [four_apply _ _ _ _ r d g k i hr]
  have hz : (Scalar.ofBits .bf16 0x0000#16 : Ideal .bf16) = (0 : EReal) := Ideal.ofBits_zero_bf16
  have s1 (x y : FVec Ideal S128x128 .bf16) : select k0_pay8 x y (ix2 i d) = if d.val < 64 then x (ix2 i d) else y (ix2 i d) := by
    show Scalar.select (k0_pay8 (ix2 i d)) (x (ix2 i d)) (y (ix2 i d)) = _
    rw [lane_apply]
    by_cases h : d.val < 64
    · rw [if_pos h, if_pos h]; rfl
    · rw [if_neg h, if_neg h]; rfl
  simp only [s1]
  have hd := d.isLt
  have hk := k.isLt
  have hb : (broadcast S128x128 (Scalar.ofBits .bf16 0x0000#16 : Ideal .bf16) : FVec Ideal S128x128 .bf16) (ix2 i d) = (0 : EReal) := hz
  simp only [hb]
  by_cases h0 : k.val = 0
  · by_cases h2 : d.val < 64
    · simp only [if_pos h0, if_pos h2, if_pos (show d.val / 64 = k.val by omega)]
    · simp only [if_pos h0, if_neg h2, if_neg (show ¬d.val / 64 = k.val by omega), ite_self]
  · by_cases h2 : d.val < 64
    · simp only [if_neg h0, if_pos h2, if_neg (show ¬d.val / 64 = k.val by omega), ite_self]
    · simp only [if_neg h0, if_neg h2, if_pos (show d.val / 64 = k.val by omega)]

/-- A sum over 128 lanes whose terms vanish off one half is the sum over that half. -/
theorem sum_half (k : Fin 2) (f h : Fin 128 → EReal) :
    ∑ d : Fin 128, (if d.val / 64 = k.val then f d else 0) * h d
      = ∑ d : Fin 64, f ⟨k.val * 64 + d.val, by omega⟩ * h ⟨k.val * 64 + d.val, by omega⟩ := by
  refine (Soft.sum_window (fun _ => True) (fun d : Fin 64 => (⟨k.val * 64 + d.val, by omega⟩ : Fin 128)) ?_ _ _ ?_ ?_ ?_).symm
  · intro i j _ _ hij
    have := congrArg Fin.val hij
    exact Fin.ext (by dsimp only at this; omega)
  · intro d _
    have hd := d.isLt
    rw [if_pos (by dsimp only; omega)]
  · intro d hd; exact absurd trivial hd
  · intro d hd
    rw [if_neg, zero_mul]
    intro e
    exact hd ⟨d.val - k.val * 64, by omega⟩ trivial (Fin.ext (by dsimp only; omega))

/-- The window's logits at a row and a column. -/
theorem near_apply (w : BitVec 32) (q : FVec Ideal S512x128 .bf16) (kk : FVec Ideal S384x128 .bf16) (r : Fin 512) (j : Fin 384) :
    near w q kk (ix2 r j) = Scalar.select (bits w (ix2 r j)) (∑ d : Fin 128, q (ix2 r d) * kk (ix2 j d)) ⊥ := by
  unfold near
  have hm : (Named.named κ "mask" 0xF149F2CA#32 : Ideal .f32) = ⊥ := IdealRules.named_const.ideal_named_scalar _ _ _ _ rfl
  rw [hm]
  generalize bits w = y
  pointwise

/-- The context's logits at a row and a column. -/
theorem ctx_apply (q : FVec Ideal S512x128 .bf16) (kc : FVec Ideal S256x128 .bf16) (r : Fin 512) (j : Fin 256) :
    ctx q kc (ix2 r j) = ∑ d : Fin 128, q (ix2 r d) * kc (ix2 j d) := by
  unfold ctx
  pointwise

/-- A row's result is attention with a sink over the row's logits. -/
theorem heads_apply (S : FVec Ideal S512x384 .f32) (C : FVec Ideal S512x256 .f32) (z : FVec Ideal S512x1 .f32) (vv : FVec Ideal S384x128 .bf16)
    (vc : FVec Ideal S256x128 .bf16) (r : Fin 512) (l : Fin 128) :
    heads S C z vv vc (ix2 r l)
      = Soft.attn (fun j => S (ix2 r j)) (fun c => C (ix2 r c)) (z (ix2 r 0)) (fun j => vv (ix2 j l)) (fun c => vc (ix2 c l)) := by
  unfold heads quot mass wts cwts peak
  pointwise
  simp only [ofBits_bot]
  rfl

/-- The row of the stacked heads that an output lane of a query is read from. -/
theorem lay_apply (o : FVec Ideal S512x128 .f32) (i : Fin 128) (l : Fin 256) :
    lay o (ix3 0 i l) = o (ix2 ⟨l.val / 128 * 128 + l.val / 64 % 2 * 256 + i.val, by omega⟩ ⟨l.val % 128, by omega⟩) := by
  unfold lay
  have h := lane_apply
  generalize k0_pay8 = y at h ⊢
  pointwise
  simp only [h]
  have hi := i.isLt
  have hl := l.isLt
  split
  · by_cases h2 : l.val < 64
    · rw [if_pos h2]; exact read2 o (by dsimp only; omega) (by dsimp only; omega)
    · rw [if_neg h2]; exact read2 o (by dsimp only; omega) (by dsimp only; omega)
  · by_cases h2 : l.val - 128 < 64
    · rw [if_pos h2]; exact read2 o (by dsimp only; omega) (by dsimp only; omega)
    · rw [if_neg h2]; exact read2 o (by dsimp only; omega) (by dsimp only; omega)

/-- The number of a row's group of 128, as the body computes it, for every row. -/
theorem group_word : ∀ r : Fin 512,
    (Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 r.val) 128#32) 0#32))
      (IntOp.subi (IntOp.divsi ArithUnit.vector (BitVec.ofNat 32 r.val) 128#32) 1#32)
      (IntOp.divsi ArithUnit.vector (BitVec.ofNat 32 r.val) 128#32) : BitVec 32) = BitVec.ofNat 32 (r.val / 128) := by
  decide +kernel

/-- A row's sink is the one of its group of 128 rows. -/
theorem sink_apply (a b c d : EReal) (r : Fin 512) :
    k0_pay9 (F := Ideal) a b c d (ix2 r 0)
      = if r.val < 128 then a else if r.val < 256 then b else if r.val < 384 then c else d := by
  pointwise [k0_pay9]
  rw [group_word r]
  obtain ⟨e, he⟩ : ∃ e : Fin 4, r.val / 128 = e.val := ⟨⟨r.val / 128, by omega⟩, rfl⟩
  rw [he]
  match e, he with
  | ⟨0, _⟩, he => have h : r.val / 128 = 0 := he; rw [if_pos (by omega)]; rfl
  | ⟨1, _⟩, he => have h : r.val / 128 = 1 := he; rw [if_neg (by omega), if_pos (by omega)]; rfl
  | ⟨2, _⟩, he => have h : r.val / 128 = 2 := he; rw [if_neg (by omega), if_neg (by omega), if_pos (by omega)]; rfl
  | ⟨3, _⟩, he => have h : r.val / 128 = 3 := he; rw [if_neg (by omega), if_neg (by omega), if_neg (by omega)]; rfl

end Cert.KernelIdeal.Win

end
-- ==== Proof.WinPoint.lean ====
/- What one grid point of the window attention writes: for each of its 512 queries and each lane, attention with a sink
   over the point's keys and values. -/
module

public import proofs.«01_k».proof.Proof.WinBlock

@[expose] public section

set_option maxRecDepth 16384

noncomputable section

namespace Cert.KernelIdeal.Win

open Cert.KernelIdeal Cert.KernelIdeal.Gen Cert.KernelIdeal.Value Idealize.ShloMosaic Idealize.ShloMosaic.TcCoe Idealize.SL.Sem

/-- Whether a query of sub-block `w` at row `i` attends to the window's column `j`. -/
def sees (w : ℕ) (i : Fin 128) (j : Fin 384) : Prop :=
  (i.val ≤ j.val ∧ j.val ≤ i.val + 256) ∧ (w = 0 → 128 ≤ j.val) ∧ (w = 31 → j.val < 256)

instance (w : ℕ) (i : Fin 128) (j : Fin 384) : Decidable (sees w i j) := by unfold sees; infer_instance

/-- One element of a sub-block's result: attention with a sink over the window's columns the query sees and the context. -/
theorem sub_apply (w : ℕ) (hw : w < 32) (a b : FVec Ideal S128x128 .bf16) (kk vv : FVec Ideal S384x128 .bf16) (kc vc : FVec Ideal S256x128 .bf16)
    (z : FVec Ideal S512x1 .f32) (i : Fin 128) (l : Fin 256) (k g : Fin 2) (d : Fin 64) (hk : k.val = l.val / 64 % 2)
    (hg : g.val = l.val / 128) (hd : d.val = l.val % 64) :
    sub (BitVec.ofNat 32 w) a b kk vv kc vc z (ix3 0 i l)
      = Soft.attn
          (fun j : Fin 384 => if sees w i j then
            ∑ e : Fin 64, (if g.val = 0 then a (ix2 i ⟨k.val * 64 + e.val, by omega⟩) else b (ix2 i ⟨k.val * 64 + e.val, by omega⟩))
              * kk (ix2 j ⟨k.val * 64 + e.val, by omega⟩) else ⊥)
          (fun c : Fin 256 =>
            ∑ e : Fin 64, (if g.val = 0 then a (ix2 i ⟨k.val * 64 + e.val, by omega⟩) else b (ix2 i ⟨k.val * 64 + e.val, by omega⟩))
              * kc (ix2 c ⟨k.val * 64 + e.val, by omega⟩))
          (z (ix2 ⟨g.val * 128 + k.val * 256 + i.val, by omega⟩ 0))
          (fun j => vv (ix2 j ⟨k.val * 64 + d.val, by omega⟩)) (fun c => vc (ix2 c ⟨k.val * 64 + d.val, by omega⟩)) := by
  unfold sub
  have hl := l.isLt
  have hi := i.isLt
  rw [lay_apply]
  refine (read2 _ (a' := ⟨g.val * 128 + k.val * 256 + i.val, by omega⟩) (b' := ⟨k.val * 64 + d.val, by omega⟩)
    (by dsimp only; omega) (by dsimp only; omega)).trans ?_
  rw [heads_apply]
  have hs (e : Fin 128) : stack a b (ix2 ⟨g.val * 128 + k.val * 256 + i.val, by omega⟩ e)
      = if e.val / 64 = k.val then (if g.val = 0 then a (ix2 i e) else b (ix2 i e)) else 0 := stack_apply a b _ e g k i rfl
  have hm : (g.val * 128 + k.val * 256 + i.val) % 128 = i.val := by omega
  congr 1
  · funext j
    rw [near_apply, bits_apply w hw]
    simp only [hs, hm]
    rw [sum_half k (fun e => if g.val = 0 then a (ix2 i e) else b (ix2 i e)) (fun e => kk (ix2 j e))]
    by_cases h : sees w i j
    · have h' : (i.val ≤ j.val ∧ j.val ≤ i.val + 256) ∧ (w = 0 → 128 ≤ j.val) ∧ (w = 31 → j.val < 256) := h
      rw [if_pos h, if_pos h']; rfl
    · have h' : ¬((i.val ≤ j.val ∧ j.val ≤ i.val + 256) ∧ (w = 0 → 128 ≤ j.val) ∧ (w = 31 → j.val < 256)) := h
      rw [if_neg h, if_neg h']; rfl
  · funext c
    rw [ctx_apply]
    simp only [hs]
    exact sum_half k (fun e => if g.val = 0 then a (ix2 i e) else b (ix2 i e)) (fun e => kc (ix2 c e))

/-- The window's rows: the 128 before the point's, the point's 512, the 128 after. -/
def cat (p : Vec Ideal S1x128x128 .bf16) (o : Vec Ideal S1x512x128 .bf16) (n : Vec Ideal S1x128x128 .bf16) (R : Fin 768) (d : Fin 128) : EReal :=
  if h : R.val < 128 then p (ix3 0 ⟨R.val, h⟩ d)
  else if h2 : R.val < 640 then o (ix3 0 ⟨R.val - 128, by omega⟩ d)
  else n (ix3 0 ⟨R.val - 640, by omega⟩ d)

/-- The window's keys put one under the other, read at an index. -/
theorem keys_apply (p : Vec Ideal S1x128x128 .bf16) (o : Vec Ideal S1x512x128 .bf16) (n : Vec Ideal S1x128x128 .bf16) (R : Fin 768) (d : Fin 128) :
    k0_pay3 p o n (ix2 R d) = cat p o n R d := by
  pointwise [k0_pay3]
  unfold cat
  split
  · rfl
  · split
    · rw [dif_pos (by omega)]
    · rw [dif_neg (by omega)]; rfl

/-- The window's values put one under the other, read at an index. -/
theorem vals_apply (p : Vec Ideal S1x128x128 .bf16) (o : Vec Ideal S1x512x128 .bf16) (n : Vec Ideal S1x128x128 .bf16) (R : Fin 768) (d : Fin 128) :
    k0_pay4 p o n (ix2 R d) = cat p o n R d := keys_apply p o n R d

/-- A stored block of 128 rows, read at one of its rows. -/
theorem canon_hit (off : ℕ) (inb : ∀ x, (![0, off, 0] : Fin 3 → ℕ) x + S1x128x256.size x ≤ S1x512x256.size x)
    (w : S1x128x256.Idx → Elt Ideal .bf16) (L : List (View.Piece (Elt Ideal) S1x512x256 .bf16)) (R : Fin 512) (i : Fin 128) (l : Fin 256)
    (hR : R.val = off + i.val) :
    View.canon ((⟨Rect.unit (s := S1x512x256) ![0, off, 0] S1x128x256.size inb, w⟩ : View.Piece (Elt Ideal) S1x512x256 .bf16) :: L) (ix3 0 R l) = w (ix3 0 i l) := by
  have he : (Rect.unit (s := S1x512x256) ![0, off, 0] S1x128x256.size inb).emb (ix3 0 i l) = ix3 0 R l := by
    funext x; apply Fin.ext
    match x with
    | ⟨0, _⟩ => rfl
    | ⟨1, _⟩ => show off + 1 * i.val = R.val; omega
    | ⟨2, _⟩ => show 0 + 1 * l.val = l.val; omega
  rw [← he]
  exact View.canon_cons_emb (Rect.unit (s := S1x512x256) ![0, off, 0] S1x128x256.size inb) w L (ix3 0 i l)

/-- A stored block of 128 rows, read above its rows. -/
theorem canon_miss (off : ℕ) (inb : ∀ x, (![0, off, 0] : Fin 3 → ℕ) x + S1x128x256.size x ≤ S1x512x256.size x)
    (w : S1x128x256.Idx → Elt Ideal .bf16) (L : List (View.Piece (Elt Ideal) S1x512x256 .bf16)) (R : Fin 512) (l : Fin 256) (hR : R.val < off) :
    View.canon ((⟨Rect.unit (s := S1x512x256) ![0, off, 0] S1x128x256.size inb, w⟩ : View.Piece (Elt Ideal) S1x512x256 .bf16) :: L) (ix3 0 R l) = View.canon L (ix3 0 R l) := by
  refine View.canon_cons_of_not_mem _ L ?_
  intro hm
  obtain ⟨i, hi, he⟩ := (LoadRect.mem_set _).mp hm (1 : Fin 3)
  have he' : R.val = off + 1 * i := he
  omega

/-- The number of a sub-block, as the body computes it from the point's second coordinate. -/
theorem word : ∀ (n : Fin 8) (s : Fin 4), Scalar.addi (Scalar.muli (BitVec.ofNat 32 n.val) 4#32) (BitVec.ofNat 32 s.val) = BitVec.ofNat 32 (n.val * 4 + s.val) := by
  decide +kernel

/-- The four query heads' sink logits, in the order of the stacked rows. -/
def sinks (x0 : Vec Ideal S4 .f32) : FVec Ideal S512x1 .f32 :=
  k0_pay9 (View.ld x0 (Rect.unit ![0] ![1] inb_S4_S1_0) (Shape.Idx.first (by decide))) (View.ld x0 (Rect.unit ![1] ![1] inb_S4_S1_1) (Shape.Idx.first (by decide)))
    (View.ld x0 (Rect.unit ![2] ![1] inb_S4_S1_2) (Shape.Idx.first (by decide))) (View.ld x0 (Rect.unit ![3] ![1] inb_S4_S1_3) (Shape.Idx.first (by decide)))

/-- The sub-block's queries, the lanes from `o` on. -/
def qsub (x1 : Vec Ideal S1x512x256 .bf16) (o : ℕ) (s : Fin 4) : FVec Ideal S128x128 .bf16 :=
  fun i => if h : s.val * 128 + (i 0).val < 512 ∧ o + (i 1).val < 256 then x1 (ix3 0 ⟨s.val * 128 + (i 0).val, h.1⟩ ⟨o + (i 1).val, h.2⟩) else 0

/-- The rows of the window that the sub-block sees. -/
def ksub (v : FVec Ideal S768x128 .bf16) (s : Fin 4) : FVec Ideal S384x128 .bf16 :=
  fun i => v (ix2 ⟨s.val * 128 + (i 0).val, by have h : (i 0).val < 384 := (i 0).isLt; omega⟩ (i 1))

/-- The slices of the queries are the sub-blocks' queries. -/
theorem qsub_eq (x1 : Vec Ideal S1x512x256 .bf16) (p o : ℕ) (s : Fin 4) (hp : p = s.val * 128) (ho : o ≤ 128)
    (h : S512x256.Slices ![p, o] S128x128) : extractStridedSlice S128x128 ![p, o] (k0_pay2 (F := Ideal) x1) h = qsub x1 o s := by
  subst hp
  funext i
  rw [eq_ix2 i]
  have h0 : (i 0).val < 128 := (i 0).isLt
  have h1 : (i 1).val < 128 := (i 1).isLt
  have hs := s.isLt
  pointwise [k0_pay2]
  unfold qsub
  rw [dif_pos (by constructor <;> dsimp <;> omega)]

/-- The slices of the window's rows are the sub-blocks' rows. -/
theorem ksub_eq (v : FVec Ideal S768x128 .bf16) (p : ℕ) (s : Fin 4) (hp : p = s.val * 128)
    (h : S768x128.Slices ![p, 0] S384x128) : extractStridedSlice S384x128 ![p, 0] v h = ksub v s := by
  subst hp
  funext i
  rw [eq_ix2 i]
  pointwise
  unfold ksub
  exact read2 v rfl (by simp)

/-- One row of one stored block is the sub-block's chain on its slices. -/
theorem out_eq (c : Dev nD) (i : grid0.Coords) (arg2 : Memref sig .tc .smem S4 .f32) (harg2 : arg2.IsWhole) (arg3 : Memref sig .tc .vmem S1x512x256 .bf16) (harg3 : arg3.IsWhole) (arg4 : Memref sig .tc .vmem S1x128x128 .bf16) (harg4 : arg4.IsWhole) (arg5 : Memref sig .tc .vmem S1x512x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x512x128 .bf16) (harg8 : arg8.IsWhole) (arg9 : Memref sig .tc .vmem S1x128x128 .bf16) (harg9 : arg9.IsWhole) (arg10 : Memref sig .tc .vmem S1x256x128 .bf16) (harg10 : arg10.IsWhole) (arg11 : Memref sig .tc .vmem S1x256x128 .bf16) (harg11 : arg11.IsWhole) (arg12 : Memref sig .tc .vmem S1x512x256 .bf16) (harg12 : arg12.IsWhole)
    (x0 : Vec Ideal S4 .f32) (x1 : Vec Ideal S1x512x256 .bf16) (x2 : Vec Ideal S1x128x128 .bf16) (x3 : Vec Ideal S1x512x128 .bf16) (x4 : Vec Ideal S1x128x128 .bf16) (x5 : Vec Ideal S1x128x128 .bf16) (x6 : Vec Ideal S1x512x128 .bf16) (x7 : Vec Ideal S1x128x128 .bf16) (x8 : Vec Ideal S1x256x128 .bf16) (x9 : Vec Ideal S1x256x128 .bf16)
    (s : Fin 4) (r : Fin 128) (l : Fin 256) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9
        (ix3 0 ⟨s.val * 128 + r.val, by omega⟩ l)
      = sub (BitVec.ofNat 32 ((i 1).val * 4 + s.val)) (qsub x1 0 s) (qsub x1 128 s) (ksub (k0_pay3 x2 x3 x4) s) (ksub (k0_pay4 x5 x6 x7) s)
          (k0_pay5 x8) (k0_pay6 x9) (sinks x0) (ix3 0 r l) := by
  have hz3 : (![0,0,0] : Fin 3 → Nat) = fun _ => 0 := funext fun a => by fin_cases a <;> rfl
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A; dsimp only; sl_unfold_words
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x256) hz3, View.ld_unit_zero (S := S1x512x128) hz3, View.ld_unit_zero (S := S1x128x128) hz3, View.ld_unit_zero (S := S1x256x128) hz3, shapeCast_self]
  have hw (s : Fin 4) : Scalar.addi (Scalar.muli (BitVec.ofNat 32 (i 1).val) 4#32) (BitVec.ofNat 32 s.val) = BitVec.ofNat 32 ((i 1).val * 4 + s.val) := word (i 1) s
  match s with
  | ⟨3, _⟩ =>
    refine (canon_hit 384 _ _ _ _ r l rfl).trans ?_
    refine (congrFun (piece3 _ _ _ _ _ _ _) _).trans ?_
    rw [qsub_eq x1 384 0 ⟨3, by omega⟩ rfl (by omega), qsub_eq x1 384 128 ⟨3, by omega⟩ rfl (by omega), ksub_eq _ 384 ⟨3, by omega⟩ rfl, ksub_eq _ 384 ⟨3, by omega⟩ rfl, ← hw ⟨3, by omega⟩]
    rfl
  | ⟨2, _⟩ =>
    refine (canon_miss 384 _ _ _ _ l (by dsimp only; omega)).trans ((canon_hit 256 _ _ _ _ r l rfl).trans ?_)
    refine (congrFun (piece2 _ _ _ _ _ _ _) _).trans ?_
    rw [qsub_eq x1 256 0 ⟨2, by omega⟩ rfl (by omega), qsub_eq x1 256 128 ⟨2, by omega⟩ rfl (by omega), ksub_eq _ 256 ⟨2, by omega⟩ rfl, ksub_eq _ 256 ⟨2, by omega⟩ rfl, ← hw ⟨2, by omega⟩]
    rfl
  | ⟨1, _⟩ =>
    refine (canon_miss 384 _ _ _ _ l (by dsimp only; omega)).trans ((canon_miss 256 _ _ _ _ l (by dsimp only; omega)).trans ((canon_hit 128 _ _ _ _ r l rfl).trans ?_))
    refine (congrFun (piece1 _ _ _ _ _ _ _) _).trans ?_
    rw [qsub_eq x1 128 0 ⟨1, by omega⟩ rfl (by omega), qsub_eq x1 128 128 ⟨1, by omega⟩ rfl (by omega), ksub_eq _ 128 ⟨1, by omega⟩ rfl, ksub_eq _ 128 ⟨1, by omega⟩ rfl, ← hw ⟨1, by omega⟩]
    rfl
  | ⟨0, _⟩ =>
    refine (canon_miss 384 _ _ _ _ l (by dsimp only; omega)).trans ((canon_miss 256 _ _ _ _ l (by dsimp only; omega)).trans ((canon_miss 128 _ _ _ _ l (by dsimp only; omega)).trans ((canon_hit 0 _ _ _ _ r l rfl).trans ?_)))
    refine (congrFun (piece0 _ _ _ _ _ _ _) _).trans ?_
    rw [qsub_eq x1 0 0 ⟨0, by omega⟩ rfl (by omega), qsub_eq x1 0 128 ⟨0, by omega⟩ rfl (by omega), ksub_eq _ 0 ⟨0, by omega⟩ rfl, ksub_eq _ 0 ⟨0, by omega⟩ rfl, ← hw ⟨0, by omega⟩]
    rfl

/-- A query's lane, read from the two slices. -/
theorem qlane (x1 : Vec Ideal S1x512x256 .bf16) (s : Fin 4) (r : Fin 128) (g k : Fin 2) (e : Fin 64) :
    (if g.val = 0 then qsub x1 0 s (ix2 r ⟨k.val * 64 + e.val, by omega⟩) else qsub x1 128 s (ix2 r ⟨k.val * 64 + e.val, by omega⟩))
      = x1 (ix3 0 ⟨s.val * 128 + r.val, by omega⟩ ⟨g.val * 128 + k.val * 64 + e.val, by omega⟩) := by
  have hs := s.isLt
  have hr := r.isLt
  have hk := k.isLt
  have hg := g.isLt
  have he := e.isLt
  by_cases h : g.val = 0
  · rw [if_pos h]
    unfold qsub
    rw [dif_pos (by constructor <;> dsimp <;> omega)]
    congr 2
    exact Fin.ext (by dsimp; omega)
  · rw [if_neg h]
    unfold qsub
    rw [dif_pos (by constructor <;> dsimp <;> omega)]
    congr 2
    exact Fin.ext (by dsimp; omega)

/-- A row's sink logit. -/
theorem sinks_apply (x0 : Vec Ideal S4 .f32) (k g : Fin 2) (r : Fin 128) :
    sinks x0 (ix2 ⟨g.val * 128 + k.val * 256 + r.val, by omega⟩ 0) = x0 (ix1 ⟨k.val * 2 + g.val, by omega⟩) := by
  unfold sinks
  have hr := r.isLt
  rw [sink_apply]
  have e (a : ℕ) (ha : a < 4) (h : k.val * 2 + g.val = a) (inb : ∀ x, (![a] : Fin 1 → ℕ) x + (![1] : Fin 1 → ℕ) x ≤ S4.size x) (hp) :
      View.ld x0 (Rect.unit (s := S4) ![a] ![1] inb) (Shape.Idx.first hp) = x0 (ix1 ⟨k.val * 2 + g.val, by omega⟩) := by
    show x0 _ = x0 _
    congr 1
    funext x
    apply Fin.ext
    match x with
    | ⟨0, _⟩ => show a + 1 * 0 = k.val * 2 + g.val; omega
  have hk := k.isLt
  have hg := g.isLt
  dsimp only
  split
  · exact e 0 (by omega) (by omega) _ _
  · split
    · exact e 1 (by omega) (by omega) _ _
    · split
      · exact e 2 (by omega) (by omega) _ _
      · exact e 3 (by omega) (by omega) _ _

/-- The context block without its unit axis. -/
theorem cblock_apply (x : Vec Ideal S1x256x128 .bf16) (c : Fin 256) (d : Fin 128) : k0_pay5 x (ix2 c d) = x (ix3 0 c d) := by
  pointwise [k0_pay5]

/-- ONE POINT'S RESULT, element by element: for the query in row `s * 128 + r`, attention with a sink over the 384 rows of
    the window that start at row `s * 128`, where the query sees them, and over the context. -/
theorem point_apply (c : Dev nD) (i : grid0.Coords) (arg2 : Memref sig .tc .smem S4 .f32) (harg2 : arg2.IsWhole) (arg3 : Memref sig .tc .vmem S1x512x256 .bf16) (harg3 : arg3.IsWhole) (arg4 : Memref sig .tc .vmem S1x128x128 .bf16) (harg4 : arg4.IsWhole) (arg5 : Memref sig .tc .vmem S1x512x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x512x128 .bf16) (harg8 : arg8.IsWhole) (arg9 : Memref sig .tc .vmem S1x128x128 .bf16) (harg9 : arg9.IsWhole) (arg10 : Memref sig .tc .vmem S1x256x128 .bf16) (harg10 : arg10.IsWhole) (arg11 : Memref sig .tc .vmem S1x256x128 .bf16) (harg11 : arg11.IsWhole) (arg12 : Memref sig .tc .vmem S1x512x256 .bf16) (harg12 : arg12.IsWhole)
    (x0 : Vec Ideal S4 .f32) (x1 : Vec Ideal S1x512x256 .bf16) (x2 : Vec Ideal S1x128x128 .bf16) (x3 : Vec Ideal S1x512x128 .bf16) (x4 : Vec Ideal S1x128x128 .bf16) (x5 : Vec Ideal S1x128x128 .bf16) (x6 : Vec Ideal S1x512x128 .bf16) (x7 : Vec Ideal S1x128x128 .bf16) (x8 : Vec Ideal S1x256x128 .bf16) (x9 : Vec Ideal S1x256x128 .bf16)
    (s : Fin 4) (r : Fin 128) (l : Fin 256) (k g : Fin 2) (d : Fin 64) (hk : k.val = l.val / 64 % 2)
    (hg : g.val = l.val / 128) (hd : d.val = l.val % 64) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9
        (ix3 0 ⟨s.val * 128 + r.val, by omega⟩ l)
      = Soft.attn
          (fun j : Fin 384 => if sees ((i 1).val * 4 + s.val) r j then
            ∑ e : Fin 64, x1 (ix3 0 ⟨s.val * 128 + r.val, by omega⟩ ⟨g.val * 128 + k.val * 64 + e.val, by omega⟩)
              * cat x2 x3 x4 ⟨s.val * 128 + j.val, by omega⟩ ⟨k.val * 64 + e.val, by omega⟩ else ⊥)
          (fun c : Fin 256 =>
            ∑ e : Fin 64, x1 (ix3 0 ⟨s.val * 128 + r.val, by omega⟩ ⟨g.val * 128 + k.val * 64 + e.val, by omega⟩)
              * x8 (ix3 0 c ⟨k.val * 64 + e.val, by omega⟩))
          (x0 (ix1 ⟨k.val * 2 + g.val, by omega⟩))
          (fun j => cat x5 x6 x7 ⟨s.val * 128 + j.val, by omega⟩ ⟨k.val * 64 + d.val, by omega⟩)
          (fun c => x9 (ix3 0 c ⟨k.val * 64 + d.val, by omega⟩)) := by
  have hi : (i 1).val < 8 := (i 1).isLt
  rw [out_eq, sub_apply _ (by omega) _ _ _ _ _ _ _ r l k g d hk hg hd]
  simp only [qlane, sinks_apply, cblock_apply]
  have h6 (x : Vec Ideal S1x256x128 .bf16) : k0_pay6 x = k0_pay5 x := rfl
  have hK (j : Fin 384) (e : Fin 128) : ksub (k0_pay3 x2 x3 x4) s (ix2 j e) = cat x2 x3 x4 ⟨s.val * 128 + j.val, by omega⟩ e := keys_apply _ _ _ _ _
  have hV (j : Fin 384) (e : Fin 128) : ksub (k0_pay4 x5 x6 x7) s (ix2 j e) = cat x5 x6 x7 ⟨s.val * 128 + j.val, by omega⟩ e := vals_apply _ _ _ _ _
  simp only [h6, hK, hV, cblock_apply]

end Cert.KernelIdeal.Win

end
-- ==== Proof.WinValue.lean ====
/- The array the window attention leaves, element by element: each query attends to the latent keys at most 128 positions
   away and to the context, with a sink. -/
module

public import proofs.«01_k».proof.Proof.WinPoint
public import proofs.«01_k».proof.Proof.Place

@[expose] public section

set_option maxRecDepth 16384

noncomputable section

namespace Cert.KernelIdeal.Win

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The block each window holds at a grid point. -/
theorem idx_facts : ∀ t : Fin cfg0.N, (grid0.coords t 1).val = t.val % 8 ∧
    (win0_0.index t (0 : Fin 1) = 0) ∧
    (win0_1.index t (0 : Fin 3) = t.val / 8 ∧ win0_1.index t (1 : Fin 3) = t.val % 8 ∧ win0_1.index t (2 : Fin 3) = 0) ∧
    (win0_2.index t (0 : Fin 3) = t.val / 8 ∧ win0_2.index t (1 : Fin 3) = (t.val % 8 * 4 - 1) ∧ win0_2.index t (2 : Fin 3) = 0) ∧
    (win0_3.index t (0 : Fin 3) = t.val / 8 ∧ win0_3.index t (1 : Fin 3) = t.val % 8 ∧ win0_3.index t (2 : Fin 3) = 0) ∧
    (win0_4.index t (0 : Fin 3) = t.val / 8 ∧ win0_4.index t (1 : Fin 3) = (min 31 (t.val % 8 * 4 + 4)) ∧ win0_4.index t (2 : Fin 3) = 0) ∧
    (win0_5.index t (0 : Fin 3) = t.val / 8 ∧ win0_5.index t (1 : Fin 3) = (t.val % 8 * 4 - 1) ∧ win0_5.index t (2 : Fin 3) = 1) ∧
    (win0_6.index t (0 : Fin 3) = t.val / 8 ∧ win0_6.index t (1 : Fin 3) = t.val % 8 ∧ win0_6.index t (2 : Fin 3) = 1) ∧
    (win0_7.index t (0 : Fin 3) = t.val / 8 ∧ win0_7.index t (1 : Fin 3) = (min 31 (t.val % 8 * 4 + 4)) ∧ win0_7.index t (2 : Fin 3) = 1) ∧
    (win0_8.index t (0 : Fin 3) = t.val / 8 ∧ win0_8.index t (1 : Fin 3) = 0 ∧ win0_8.index t (2 : Fin 3) = 0) ∧
    (win0_9.index t (0 : Fin 3) = t.val / 8 ∧ win0_9.index t (1 : Fin 3) = 0 ∧ win0_9.index t (2 : Fin 3) = 1) ∧
    (win0_10.index t (0 : Fin 3) = t.val / 8 ∧ win0_10.index t (1 : Fin 3) = t.val % 8 ∧ win0_10.index t (2 : Fin 3) = 0) :=
  (by decide +kernel : ∀ t : Fin grid0.N, _)

/-- The block of the queries at a grid point, read at an index. -/
theorem iblk1_apply (c : Dev nD) (t : Fin cfg0.N) (r : Fin 512) (d : Fin 256) (b : Fin 8) (J : Fin 4096)
    (hb : b.val = t.val / 8) (hJ : J.val = t.val % 8 * 512 + r.val) :
    (iblk m c 1 t : Vec Ideal S1x512x256 .bf16) (ix3 0 r d)
      = (m ((c : Thread nD τ).loc main_arg0) : S8x4096x256.Idx → EReal) (ix3 b J d) := by
  obtain ⟨-, -, ⟨h0, h1, h2⟩, -, -, -, -, -, -, -, -, -⟩ := idx_facts t
  have hJlt := J.isLt
  have hrlt := r.isLt
  unfold iblk
  rw [View.read_apply]
  show V m c main_arg0 _ = m (c.tc.loc main_arg0) _
  unfold V
  exact congrArg (m (c.tc.loc main_arg0)) (Place.emb_eq win0_1 t (ix3 0 r d) (ix3 b J d) (Place.at3 (by omega) (by omega) (by omega)))

/-- The block of the keys before the point at a grid point, read at an index. -/
theorem iblk2_apply (c : Dev nD) (t : Fin cfg0.N) (r : Fin 128) (d : Fin 128) (b : Fin 8) (J : Fin 4096)
    (hb : b.val = t.val / 8) (hJ : J.val + 128 = t.val % 8 * 512 + r.val) :
    (iblk m c 2 t : Vec Ideal S1x128x128 .bf16) (ix3 0 r d)
      = (m ((c : Thread nD τ).loc main_arg1) : S8x4096x768.Idx → EReal) (ix3 b J ⟨0 + d.val, by omega⟩) := by
  obtain ⟨-, -, -, ⟨h0, h1, h2⟩, -, -, -, -, -, -, -, -⟩ := idx_facts t
  have hJlt := J.isLt
  have hrlt := r.isLt
  unfold iblk
  rw [View.read_apply]
  show V m c main_arg1 _ = m (c.tc.loc main_arg1) _
  unfold V
  exact congrArg (m (c.tc.loc main_arg1)) (Place.emb_eq win0_2 t (ix3 0 r d) (ix3 b J ⟨0 + d.val, by omega⟩) (Place.at3 (by omega) (by omega) (by dsimp only; omega)))

/-- The block of the point's keys at a grid point, read at an index. -/
theorem iblk3_apply (c : Dev nD) (t : Fin cfg0.N) (r : Fin 512) (d : Fin 128) (b : Fin 8) (J : Fin 4096)
    (hb : b.val = t.val / 8) (hJ : J.val = t.val % 8 * 512 + r.val) :
    (iblk m c 3 t : Vec Ideal S1x512x128 .bf16) (ix3 0 r d)
      = (m ((c : Thread nD τ).loc main_arg1) : S8x4096x768.Idx → EReal) (ix3 b J ⟨0 + d.val, by omega⟩) := by
  obtain ⟨-, -, -, -, ⟨h0, h1, h2⟩, -, -, -, -, -, -, -⟩ := idx_facts t
  have hJlt := J.isLt
  have hrlt := r.isLt
  unfold iblk
  rw [View.read_apply]
  show V m c main_arg1 _ = m (c.tc.loc main_arg1) _
  unfold V
  exact congrArg (m (c.tc.loc main_arg1)) (Place.emb_eq win0_3 t (ix3 0 r d) (ix3 b J ⟨0 + d.val, by omega⟩) (Place.at3 (by omega) (by omega) (by dsimp only; omega)))

/-- The block of the keys after the point at a grid point, read at an index. -/
theorem iblk4_apply (c : Dev nD) (t : Fin cfg0.N) (r : Fin 128) (d : Fin 128) (b : Fin 8) (J : Fin 4096)
    (hb : b.val = t.val / 8) (hJ : J.val = t.val % 8 * 512 + 512 + r.val) :
    (iblk m c 4 t : Vec Ideal S1x128x128 .bf16) (ix3 0 r d)
      = (m ((c : Thread nD τ).loc main_arg1) : S8x4096x768.Idx → EReal) (ix3 b J ⟨0 + d.val, by omega⟩) := by
  obtain ⟨-, -, -, -, -, ⟨h0, h1, h2⟩, -, -, -, -, -, -⟩ := idx_facts t
  have hJlt := J.isLt
  have hrlt := r.isLt
  unfold iblk
  rw [View.read_apply]
  show V m c main_arg1 _ = m (c.tc.loc main_arg1) _
  unfold V
  exact congrArg (m (c.tc.loc main_arg1)) (Place.emb_eq win0_4 t (ix3 0 r d) (ix3 b J ⟨0 + d.val, by omega⟩) (Place.at3 (by omega) (by omega) (by dsimp only; omega)))

/-- The block of the values before the point at a grid point, read at an index. -/
theorem iblk5_apply (c : Dev nD) (t : Fin cfg0.N) (r : Fin 128) (d : Fin 128) (b : Fin 8) (J : Fin 4096)
    (hb : b.val = t.val / 8) (hJ : J.val + 128 = t.val % 8 * 512 + r.val) :
    (iblk m c 5 t : Vec Ideal S1x128x128 .bf16) (ix3 0 r d)
      = (m ((c : Thread nD τ).loc main_arg1) : S8x4096x768.Idx → EReal) (ix3 b J ⟨128 + d.val, by omega⟩) := by
  obtain ⟨-, -, -, -, -, -, ⟨h0, h1, h2⟩, -, -, -, -, -⟩ := idx_facts t
  have hJlt := J.isLt
  have hrlt := r.isLt
  unfold iblk
  rw [View.read_apply]
  show V m c main_arg1 _ = m (c.tc.loc main_arg1) _
  unfold V
  exact congrArg (m (c.tc.loc main_arg1)) (Place.emb_eq win0_5 t (ix3 0 r d) (ix3 b J ⟨128 + d.val, by omega⟩) (Place.at3 (by omega) (by omega) (by dsimp only; omega)))

/-- The block of the point's values at a grid point, read at an index. -/
theorem iblk6_apply (c : Dev nD) (t : Fin cfg0.N) (r : Fin 512) (d : Fin 128) (b : Fin 8) (J : Fin 4096)
    (hb : b.val = t.val / 8) (hJ : J.val = t.val % 8 * 512 + r.val) :
    (iblk m c 6 t : Vec Ideal S1x512x128 .bf16) (ix3 0 r d)
      = (m ((c : Thread nD τ).loc main_arg1) : S8x4096x768.Idx → EReal) (ix3 b J ⟨128 + d.val, by omega⟩) := by
  obtain ⟨-, -, -, -, -, -, -, ⟨h0, h1, h2⟩, -, -, -, -⟩ := idx_facts t
  have hJlt := J.isLt
  have hrlt := r.isLt
  unfold iblk
  rw [View.read_apply]
  show V m c main_arg1 _ = m (c.tc.loc main_arg1) _
  unfold V
  exact congrArg (m (c.tc.loc main_arg1)) (Place.emb_eq win0_6 t (ix3 0 r d) (ix3 b J ⟨128 + d.val, by omega⟩) (Place.at3 (by omega) (by omega) (by dsimp only; omega)))

/-- The block of the values after the point at a grid point, read at an index. -/
theorem iblk7_apply (c : Dev nD) (t : Fin cfg0.N) (r : Fin 128) (d : Fin 128) (b : Fin 8) (J : Fin 4096)
    (hb : b.val = t.val / 8) (hJ : J.val = t.val % 8 * 512 + 512 + r.val) :
    (iblk m c 7 t : Vec Ideal S1x128x128 .bf16) (ix3 0 r d)
      = (m ((c : Thread nD τ).loc main_arg1) : S8x4096x768.Idx → EReal) (ix3 b J ⟨128 + d.val, by omega⟩) := by
  obtain ⟨-, -, -, -, -, -, -, -, ⟨h0, h1, h2⟩, -, -, -⟩ := idx_facts t
  have hJlt := J.isLt
  have hrlt := r.isLt
  unfold iblk
  rw [View.read_apply]
  show V m c main_arg1 _ = m (c.tc.loc main_arg1) _
  unfold V
  exact congrArg (m (c.tc.loc main_arg1)) (Place.emb_eq win0_7 t (ix3 0 r d) (ix3 b J ⟨128 + d.val, by omega⟩) (Place.at3 (by omega) (by omega) (by dsimp only; omega)))

/-- The block of the context keys at a grid point, read at an index. -/
theorem iblk8_apply (c : Dev nD) (t : Fin cfg0.N) (r : Fin 256) (d : Fin 128) (b : Fin 8) (J : Fin 256)
    (hb : b.val = t.val / 8) (hJ : J.val = r.val) :
    (iblk m c 8 t : Vec Ideal S1x256x128 .bf16) (ix3 0 r d)
      = (m ((c : Thread nD τ).loc main_arg2) : S8x256x768.Idx → EReal) (ix3 b J ⟨0 + d.val, by omega⟩) := by
  obtain ⟨-, -, -, -, -, -, -, -, -, ⟨h0, h1, h2⟩, -, -⟩ := idx_facts t
  have hJlt := J.isLt
  have hrlt := r.isLt
  unfold iblk
  rw [View.read_apply]
  show V m c main_arg2 _ = m (c.tc.loc main_arg2) _
  unfold V
  exact congrArg (m (c.tc.loc main_arg2)) (Place.emb_eq win0_8 t (ix3 0 r d) (ix3 b J ⟨0 + d.val, by omega⟩) (Place.at3 (by omega) (by omega) (by dsimp only; omega)))

/-- The block of the context values at a grid point, read at an index. -/
theorem iblk9_apply (c : Dev nD) (t : Fin cfg0.N) (r : Fin 256) (d : Fin 128) (b : Fin 8) (J : Fin 256)
    (hb : b.val = t.val / 8) (hJ : J.val = r.val) :
    (iblk m c 9 t : Vec Ideal S1x256x128 .bf16) (ix3 0 r d)
      = (m ((c : Thread nD τ).loc main_arg2) : S8x256x768.Idx → EReal) (ix3 b J ⟨128 + d.val, by omega⟩) := by
  obtain ⟨-, -, -, -, -, -, -, -, -, -, ⟨h0, h1, h2⟩, -⟩ := idx_facts t
  have hJlt := J.isLt
  have hrlt := r.isLt
  unfold iblk
  rw [View.read_apply]
  show V m c main_arg2 _ = m (c.tc.loc main_arg2) _
  unfold V
  exact congrArg (m (c.tc.loc main_arg2)) (Place.emb_eq win0_9 t (ix3 0 r d) (ix3 b J ⟨128 + d.val, by omega⟩) (Place.at3 (by omega) (by omega) (by dsimp only; omega)))

/-- The sinks at a grid point. -/
theorem iblk0_apply (c : Dev nD) (t : Fin cfg0.N) (j : Fin 4) :
    (iblk m c 0 t : Vec Ideal S4 .f32) (ix1 j) = (m ((c : Thread nD τ).loc main_arg3) : S4.Idx → EReal) (ix1 j) := by
  obtain ⟨-, h0, -, -, -, -, -, -, -, -, -, -⟩ := idx_facts t
  unfold iblk
  rw [View.read_apply]
  show V m c main_arg3 _ = m (c.tc.loc main_arg3) _
  unfold V
  exact congrArg (m (c.tc.loc main_arg3)) (Place.emb_eq win0_0 t (ix1 j) (ix1 j) (Place.at1 (by omega)))

end Cert.KernelIdeal.Win

end
-- ==== Proof.WinArray.lean ====
/- The array the window attention leaves, element by element: each query attends to the latent keys at most 128 positions
   away and to the context, with a sink. -/
module

public import proofs.«01_k».proof.Proof.WinValue
public import proofs.«01_k».proof.Proof.WinRefScore
public import proofs.«01_k».proof.Proof.Place

@[expose] public section

set_option maxRecDepth 16384

noncomputable section

namespace Cert.KernelIdeal.Win

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The queries the call is given. -/
def Q (c : Dev nD) : S8x4096x256.Idx → EReal := m ((c : Thread nD τ).loc main_arg0)
/-- The latent keys and values the call is given. -/
def KV (c : Dev nD) : S8x4096x768.Idx → EReal := m ((c : Thread nD τ).loc main_arg1)
/-- The context keys and values the call is given. -/
def CKV (c : Dev nD) : S8x256x768.Idx → EReal := m ((c : Thread nD τ).loc main_arg2)
/-- The sink logits the call is given. -/
def SK (c : Dev nD) : S4.Idx → EReal := m ((c : Thread nD τ).loc main_arg3)

/-- The window's keys at a grid point are the latent keys from 128 positions before the point's first query on. -/
theorem catk_apply (c : Dev nD) (t : Fin cfg0.N) (R : Fin 768) (d : Fin 128) (b : Fin 8) (J : Fin 4096) (hb : b.val = t.val / 8)
    (hJ : J.val + 128 = t.val % 8 * 512 + R.val) :
    cat (iblk m c 2 t) (iblk m c 3 t) (iblk m c 4 t) R d = KV m c (ix3 b J ⟨0 + d.val, by omega⟩) := by
  unfold cat
  split
  · exact iblk2_apply m c t _ d b J hb hJ
  · split
    · exact iblk3_apply m c t _ d b J hb (by dsimp only; omega)
    · exact iblk4_apply m c t _ d b J hb (by dsimp only; omega)

/-- The window's values at a grid point, likewise. -/
theorem catv_apply (c : Dev nD) (t : Fin cfg0.N) (R : Fin 768) (d : Fin 128) (b : Fin 8) (J : Fin 4096) (hb : b.val = t.val / 8)
    (hJ : J.val + 128 = t.val % 8 * 512 + R.val) :
    cat (iblk m c 5 t) (iblk m c 6 t) (iblk m c 7 t) R d = KV m c (ix3 b J ⟨128 + d.val, by omega⟩) := by
  unfold cat
  split
  · exact iblk5_apply m c t _ d b J hb hJ
  · split
    · exact iblk6_apply m c t _ d b J hb (by dsimp only; omega)
    · exact iblk7_apply m c t _ d b J hb (by dsimp only; omega)

/-- The latent position of column `j` of sub-block `w`'s window, where there is one. -/
def pos (w : ℕ) (j : Fin 384) : Fin 4096 := ⟨min 4095 (w * 128 + j.val - 128), by omega⟩

/-- A column a query sees stands for the latent position 128 before. -/
theorem pos_sees (w : ℕ) (hw : w < 32) (r : Fin 128) (j : Fin 384) (h : sees w r j) : (pos w j).val + 128 = w * 128 + j.val := by
  obtain ⟨⟨h1, h2⟩, h3, h4⟩ := h
  have hj := j.isLt
  show min 4095 (w * 128 + j.val - 128) + 128 = _
  omega

/-- THE ARRAY AFTER THE RUN, element by element, where no logit is `⊤` and the sink's logit is a real number. -/
theorem array_apply (c : Dev nD) (b : Fin 8) (S : Fin 4096) (l : Fin 256) (k g : Fin 2) (d : Fin 64) (hk : k.val = l.val / 64 % 2)
    (hg : g.val = l.val / 128) (hd : d.val = l.val % 64) (x : ℝ) (hx : ReferenceIdeal.Win.snk (SK m c) k g = x)
    (hL : ∀ J, ReferenceIdeal.Win.near (Q m c) (KV m c) b k g S J ≠ ⊤) (hC : ∀ e, ReferenceIdeal.Win.ctx (Q m c) (CKV m c) b k g S e ≠ ⊤) :
    ((dats m 0 c).arrAt 10 cfg0.N : S8x4096x256.Idx → EReal) (ix3 b S l)
      = Soft.attn (ReferenceIdeal.Win.near (Q m c) (KV m c) b k g S) (ReferenceIdeal.Win.ctx (Q m c) (CKV m c) b k g S)
          (ReferenceIdeal.Win.snk (SK m c) k g) (fun J => KV m c (ix3 b J ⟨128 + (k.val * 64 + d.val), by omega⟩))
          (fun e => CKV m c (ix3 b e ⟨128 + (k.val * 64 + d.val), by omega⟩)) := by
  have hN : cfg0.N = 64 := N_0
  have hS := S.isLt
  have hbl := b.isLt
  obtain ⟨t, ht⟩ : ∃ t : Fin cfg0.N, t.val = b.val * 8 + S.val / 512 := ⟨⟨b.val * 8 + S.val / 512, by rw [hN]; omega⟩, rfl⟩
  obtain ⟨s, hs⟩ : ∃ s : Fin 4, s.val = S.val % 512 / 128 := ⟨⟨S.val % 512 / 128, by omega⟩, rfl⟩
  obtain ⟨r, hr⟩ : ∃ r : Fin 128, r.val = S.val % 128 := ⟨⟨S.val % 128, by omega⟩, rfl⟩
  have htb : b.val = t.val / 8 := by omega
  have hblk := congrFun (blocks10 m c t (flush0_10 t)) (ix3 0 ⟨s.val * 128 + r.val, by omega⟩ l)
  obtain ⟨hc1, -, -, -, -, -, -, -, -, -, -, ⟨h0, h1, h2⟩⟩ := idx_facts t
  rw [View.read_apply] at hblk
  have he : ((cfg0.win 10).blk t).view.emb (ix3 0 ⟨s.val * 128 + r.val, by omega⟩ l) = ix3 b S l :=
    Place.emb_eq win0_10 t (ix3 0 ⟨s.val * 128 + r.val, by omega⟩ l) (ix3 b S l) (Place.at3 (by omega) (by dsimp only; omega) (by omega))
  refine (congrArg ((dats m 0 c).arrAt 10 cfg0.N : S8x4096x256.Idx → EReal) he.symm).trans (hblk.trans ?_)
  rw [flushed10_A]
  refine (point_apply c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (iblk m c 0 t) (iblk m c 1 t) (iblk m c 2 t) (iblk m c 3 t) (iblk m c 4 t) (iblk m c 5 t) (iblk m c 6 t)
    (iblk m c 7 t) (iblk m c 8 t) (iblk m c 9 t) s r l k g d hk hg hd).trans ?_
  obtain ⟨w, hw⟩ : ∃ w : ℕ, w = S.val / 128 := ⟨_, rfl⟩
  have hcw : ((grid0.coords t) 1).val * 4 + s.val = w := by omega
  have hq (e : Fin 256) : (iblk m c 1 t : Vec Ideal S1x512x256 .bf16) (ix3 0 ⟨s.val * 128 + r.val, by omega⟩ e) = Q m c (ix3 b S e) :=
    iblk1_apply m c t _ e b S htb (by dsimp only; omega)
  have h8 (j : Fin 256) (e : Fin 128) : (iblk m c 8 t : Vec Ideal S1x256x128 .bf16) (ix3 0 j e) = CKV m c (ix3 b j ⟨0 + e.val, by omega⟩) :=
    iblk8_apply m c t j e b j htb rfl
  have h9 (j : Fin 256) (e : Fin 128) : (iblk m c 9 t : Vec Ideal S1x256x128 .bf16) (ix3 0 j e) = CKV m c (ix3 b j ⟨128 + e.val, by omega⟩) :=
    iblk9_apply m c t j e b j htb rfl
  have hs0 : (iblk m c 0 t : Vec Ideal S4 .f32) (ix1 ⟨k.val * 2 + g.val, by omega⟩) = ReferenceIdeal.Win.snk (SK m c) k g := iblk0_apply m c t _
  have hctx : (fun j : Fin 256 => ∑ e : Fin 64, Q m c (ix3 b S ⟨g.val * 128 + k.val * 64 + e.val, by omega⟩)
      * CKV m c (ix3 b j ⟨0 + (k.val * 64 + e.val), by omega⟩)) = ReferenceIdeal.Win.ctx (Q m c) (CKV m c) b k g S := by
    funext j
    unfold ReferenceIdeal.Win.ctx
    refine Finset.sum_congr rfl fun e _ => ?_
    rw [mul_comm]
    congr 2
    congr 1
    exact Fin.ext (by dsimp only; omega)
  simp only [hq, h8, h9, hcw]
  rw [hctx, hs0, hx]
  refine Soft.attn_window (sees w r) (pos w) ?_ _ _ _ _ _ _ x ?_ ?_ ?_ ?_ hL hC
  · intro i j hi hj hij
    have e1 := pos_sees w (by omega) r i hi
    have e2 := pos_sees w (by omega) r j hj
    rw [hij] at e1
    exact Fin.ext (by omega)
  · intro j hj
    have e1 := pos_sees w (by omega) r j hj
    have hj' := hj
    obtain ⟨⟨j1, j2⟩, j3, j4⟩ := hj'
    rw [if_pos hj]
    unfold ReferenceIdeal.Win.near
    rw [if_pos (by constructor <;> omega)]
    unfold ReferenceIdeal.Win.score
    refine Finset.sum_congr rfl fun e _ => ?_
    rw [catk_apply m c t _ _ b (pos w j) htb (by dsimp only; omega), mul_comm]
    congr 2
    congr 1
    exact Fin.ext (by dsimp only; omega)
  · intro j hj
    have e1 := pos_sees w (by omega) r j hj
    exact catv_apply m c t _ _ b (pos w j) htb (by dsimp only; omega)
  · intro j hj
    rw [if_neg hj]
  · intro J hJ
    unfold ReferenceIdeal.Win.near
    rw [if_neg]
    intro hcond
    have hJl := J.isLt
    obtain ⟨j, hjv⟩ : ∃ j : Fin 384, j.val + w * 128 = J.val + 128 := ⟨⟨J.val + 128 - w * 128, by omega⟩, by dsimp only; omega⟩
    have hsj : sees w r j := by
      unfold sees
      refine ⟨⟨?_, ?_⟩, ?_, ?_⟩ <;> omega
    exact hJ j hsj (Fin.ext (by have := pos_sees w (by omega) r j hsj; omega))

end Cert.KernelIdeal.Win

end
-- ==== Proof.WinRefWeight.lean ====
/- The weights of the window attention's reference over the extended reals, element by element: attention with a sink over all latent
   positions with those further than 128 masked, and over the context. -/
module

public import proofs.«01_k».proof.Proof.WinRefScore
public import proofs.«01_k».proof.Proof.Gen.ReferenceIdeal.Run
public import proofs.«01_k».proof.Proof.Gen.ReferenceIdeal.Read

@[expose] public section

set_option maxRecDepth 16384

noncomputable section

namespace Cert.ReferenceIdeal.Win

open Cert.ReferenceIdeal Cert.ReferenceIdeal.Gen Cert.ReferenceIdeal.Read Idealize.ShloMosaic Idealize.ShloMosaic.TcCoe Idealize.SL.Sem

variable (x0 : S8x4096x256.Idx → EReal) (x1 : S8x4096x768.Idx → EReal) (x2 : S8x256x768.Idx → EReal) (x3 : S4.Idx → EReal)

/-- The largest logit of a query head. -/
theorem peak_apply (b : Fin 8) (k g : Fin 2) (s : Fin 4096) :
    val_main_v32 (F := Ideal) x0 x1 x2 x3 (ix4 b k g s)
      = Soft.peak (near x0 x1 b k g s) (ctx x0 x2 b k g s) (snk x3 k g) := by
  unfold val_main_v32
  have h := logits_apply x0 x1 x2 x3 b k g s
  generalize val_main_v31 (F := Ideal) x0 x1 x2 x3 = y at h ⊢
  pointwise [val_main_cst_0]
  simp only [h]
  rw [ofBits_bot]
  exact Soft.fold_row _ _ _

/-- The larger of the bottom and a value is the value. -/
theorem maximumf_bot (a b p : EReal) (ha : a = ⊥) (hb : b = p) : FloatOps.maximumf (F := Ideal) (φ := .f32) a b = p := by
  subst ha hb
  exact max_eq_right bot_le

/-- The floor under the maximum is the bottom. -/
theorem floor_apply (i : S8x2x2x4096.Idx) : val_main_v33 (F := Ideal) i = ⊥ :=
  (val_main_v33_apply (F := Ideal) i).trans ((val_main_cst_1_apply (F := Ideal) _).trans ofBits_bot)

/-- The subtracted maximum: the largest logit, since nothing lies below the bottom. -/
theorem peakm_apply (b : Fin 8) (k g : Fin 2) (s : Fin 4096) :
    val_main_v34 (F := Ideal) x0 x1 x2 x3 (ix4 b k g s)
      = Soft.peak (near x0 x1 b k g s) (ctx x0 x2 b k g s) (snk x3 k g) :=
  (val_main_v34_apply (F := Ideal) x0 x1 x2 x3 (ix4 b k g s)).trans
    (maximumf_bot _ _ _ (floor_apply (ix4 b k g s)) (peak_apply x0 x1 x2 x3 b k g s))

/-- The subtracted maximum, broadcast along the logits. -/
theorem peakb_apply (b : Fin 8) (k g : Fin 2) (s : Fin 4096) (j : Fin 4353) :
    val_main_v36 (F := Ideal) x0 x1 x2 x3 (ix5 b k g s j)
      = Soft.peak (near x0 x1 b k g s) (ctx x0 x2 b k g s) (snk x3 k g) := by
  unfold val_main_v36 val_main_v35
  have h := peakm_apply x0 x1 x2 x3 b k g s
  generalize val_main_v34 (F := Ideal) x0 x1 x2 x3 = y at h ⊢
  pointwise
  exact h

/-- The exponential weight of one logit before the division. -/
theorem weight_apply (b : Fin 8) (k g : Fin 2) (s : Fin 4096) (j : Fin 4353) :
    val_main_v38 (F := Ideal) x0 x1 x2 x3 (ix5 b k g s j)
      = Ideal.exp (Soft.row (near x0 x1 b k g s) (ctx x0 x2 b k g s) (snk x3 k g) j
          - Soft.peak (near x0 x1 b k g s) (ctx x0 x2 b k g s) (snk x3 k g)) := by
  unfold val_main_v38 val_main_v37
  have h1 := logits_apply x0 x1 x2 x3 b k g s j
  have h2 := peakb_apply x0 x1 x2 x3 b k g s j
  generalize val_main_v31 (F := Ideal) x0 x1 x2 x3 = y1 at h1 ⊢
  generalize val_main_v36 (F := Ideal) x0 x1 x2 x3 = y2 at h2 ⊢
  pointwise
  rw [h1, h2]

/-- The softmax weight of one logit. -/
theorem prob_apply (b : Fin 8) (k g : Fin 2) (s : Fin 4096) (j : Fin 4353) :
    val_main_v42 (F := Ideal) x0 x1 x2 x3 (ix5 b k g s j)
      = Ideal.div (Ideal.exp (Soft.row (near x0 x1 b k g s) (ctx x0 x2 b k g s) (snk x3 k g) j
          - Soft.peak (near x0 x1 b k g s) (ctx x0 x2 b k g s) (snk x3 k g)))
          (Soft.mass (near x0 x1 b k g s) (ctx x0 x2 b k g s) (snk x3 k g)) := by
  unfold val_main_v42 val_main_v41 val_main_v40 val_main_v39
  have h := weight_apply x0 x1 x2 x3 b k g s
  generalize val_main_v38 (F := Ideal) x0 x1 x2 x3 = y at h ⊢
  pointwise [val_main_cst_2]
  simp only [h]
  congr 1
  exact Soft.sum_row (N := 4096) _ _ _ (fun x => Ideal.exp (x - Soft.peak (near x0 x1 b k g s) (ctx x0 x2 b k g s) (snk x3 k g)))

end Cert.ReferenceIdeal.Win

end
-- ==== Proof.WinRefSums.lean ====
/- The last sums of the window attention's reference over the extended reals, element by element: attention with a sink over all latent
   positions with those further than 128 masked, and over the context. -/
module

public import proofs.«01_k».proof.Proof.WinRefScore
public import proofs.«01_k».proof.Proof.Gen.ReferenceIdeal.Run
public import proofs.«01_k».proof.Proof.Gen.ReferenceIdeal.Read

@[expose] public section

set_option maxRecDepth 16384

noncomputable section

namespace Cert.ReferenceIdeal.Win

open Cert.ReferenceIdeal Cert.ReferenceIdeal.Gen Cert.ReferenceIdeal.Read Idealize.ShloMosaic Idealize.ShloMosaic.TcCoe Idealize.SL.Sem

variable (x0 : S8x4096x256.Idx → EReal) (x1 : S8x4096x768.Idx → EReal) (x2 : S8x256x768.Idx → EReal) (x3 : S4.Idx → EReal)

/-- A latent value, for one output lane of a head. -/
def val (b : Fin 8) (k : Fin 2) (d : Fin 64) (J : Fin 4096) : EReal := x1 (ix3 b J ⟨128 + (k.val * 64 + d.val), by omega⟩)

/-- A context value, for one output lane of a head. -/
def cval (b : Fin 8) (k : Fin 2) (d : Fin 64) (c : Fin 256) : EReal := x2 (ix3 b c ⟨128 + (k.val * 64 + d.val), by omega⟩)

/-- The result before the sums over the weights are put together. -/
theorem sums_apply (b : Fin 8) (s : Fin 4096) (l : Fin 256) :
    val_main_v53 (F := Ideal) x0 x1 x2 x3 (ix3 b s l)
      = (∑ J : Fin 4096, val x1 b ⟨l.val / 64 % 2, by omega⟩ ⟨l.val % 64, by omega⟩ J
            * val_main_v42 (F := Ideal) x0 x1 x2 x3 (ix5 b ⟨l.val / 64 % 2, by omega⟩ ⟨l.val / 128, by omega⟩ s ⟨J.val, by omega⟩))
        + ∑ c : Fin 256, cval x2 b ⟨l.val / 64 % 2, by omega⟩ ⟨l.val % 64, by omega⟩ c
            * val_main_v42 (F := Ideal) x0 x1 x2 x3 (ix5 b ⟨l.val / 64 % 2, by omega⟩ ⟨l.val / 128, by omega⟩ s ⟨4096 + c.val, by omega⟩) := by
  unfold val_main_v53 val_main_v52 val_main_v51 val_main_v50 val_main_v49 val_main_v48 val_main_v47 val_main_v46 val_main_v45
    val_main_v44 val_main_v43
  generalize val_main_v42 (F := Ideal) x0 x1 x2 x3 = y
  pointwise [val_main_v13, val_main_v12, val_main_v11, val_main_v7, val_main_v6, val_main_v5]
  rfl

end Cert.ReferenceIdeal.Win

end
-- ==== Proof.WinRefValue.lean ====
/- The window attention's reference over the extended reals, element by element: attention with a sink over all latent
   positions with those further than 128 masked, and over the context. -/
module

public import proofs.«01_k».proof.Proof.WinRefWeight
public import proofs.«01_k».proof.Proof.WinRefSums
public import proofs.«01_k».proof.Proof.Gen.ReferenceIdeal.Run
public import proofs.«01_k».proof.Proof.Gen.ReferenceIdeal.Read

@[expose] public section

set_option maxRecDepth 16384

noncomputable section

namespace Cert.ReferenceIdeal.Win

open Cert.ReferenceIdeal Cert.ReferenceIdeal.Gen Cert.ReferenceIdeal.Read Idealize.ShloMosaic Idealize.ShloMosaic.TcCoe Idealize.SL.Sem

/-- A row begins with the window's logits. -/
theorem row_near (L : Fin 4096 → EReal) (C : Fin 256 → EReal) (s : EReal) (j : Fin 4096) : Soft.row L C s j.val = L j := by
  rw [Soft.row, dif_pos j.isLt]

/-- The context's logits follow those of the window. -/
theorem row_ctx (L : Fin 4096 → EReal) (C : Fin 256 → EReal) (s : EReal) (c : Fin 256) : Soft.row L C s (4096 + c.val) = C c := by
  have e : (⟨4096 + c.val - 4096, by omega⟩ : Fin 256) = c := Fin.ext (by simp)
  rw [Soft.row, dif_neg (by omega), dif_pos (show 4096 + c.val - 4096 < 256 by omega), e]

variable (x0 : S8x4096x256.Idx → EReal) (x1 : S8x4096x768.Idx → EReal) (x2 : S8x256x768.Idx → EReal) (x3 : S4.Idx → EReal)

/-- THE REFERENCE'S RESULT, element by element, where no logit is `⊤` and the sink's logit is a real number: attention
    with a sink over the latent positions within 128 and over the context. -/
theorem value_apply (b : Fin 8) (s : Fin 4096) (l : Fin 256) (k g : Fin 2) (d : Fin 64) (hk : k.val = l.val / 64 % 2)
    (hg : g.val = l.val / 128) (hd : d.val = l.val % 64) (r : ℝ) (hr : snk x3 k g = r)
    (hL : ∀ J, near x0 x1 b k g s J ≠ ⊤) (hC : ∀ c, ctx x0 x2 b k g s c ≠ ⊤) :
    val_main_v53 (F := Ideal) x0 x1 x2 x3 (ix3 b s l)
      = Soft.attn (near x0 x1 b k g s) (ctx x0 x2 b k g s) (snk x3 k g) (val x1 b k d) (cval x2 b k d) := by
  rw [sums_apply]
  have ek : (⟨l.val / 64 % 2, by omega⟩ : Fin 2) = k := Fin.ext hk.symm
  have eg : (⟨l.val / 128, by omega⟩ : Fin 2) = g := Fin.ext hg.symm
  have ed : (⟨l.val % 64, by omega⟩ : Fin 64) = d := Fin.ext hd.symm
  rw [ek, eg, ed]
  simp only [prob_apply]
  rw [hr, ← Soft.attn_of_weights _ _ r _ _ hL hC]
  refine congrArg₂ (fun x y : EReal => x + y) (Finset.sum_congr rfl fun J _ => ?_) (Finset.sum_congr rfl fun c _ => ?_)
  · rw [row_near]
  · rw [row_ctx]

end Cert.ReferenceIdeal.Win

end
-- ==== Proof.WinClaim.lean ====
/- The window attention's value claim: the call's array and the reference's result are one function of the arguments. -/
module

public import proofs.«01_k».proof.Defs
public import proofs.«01_k».proof.Proof.WinPre
public import proofs.«01_k».proof.Proof.WinArray
public import proofs.«01_k».proof.Proof.WinRefValue
public import Idealize.ShloMosaic.Lib.Claim

@[expose] public section

set_option maxRecDepth 16384

noncomputable section

namespace Cert.Proof

open Idealize.ShloMosaic Idealize.ShloMosaic.TcCoe Idealize.SL.Sem

/-- The array the window attention leaves is the reference's result on the same arguments, where these are real numbers. -/
theorem win_result (m : (ℓ : Loc Cert.KernelIdeal.nD Cert.KernelIdeal.τ Cert.KernelIdeal.sig) → Buf (Elt Ideal) ℓ) (c : Dev Cert.KernelIdeal.nD)
    (hpre : Cert.Pre_finite_logits.fn (F := Ideal) (Cert.KernelIdeal.Win.Q m c) (Cert.KernelIdeal.Win.KV m c) (Cert.KernelIdeal.Win.CKV m c)
      (Cert.KernelIdeal.Win.SK m c) = (fun _ => 1#1)) :
    Cert.ReferenceIdeal.Read.val_main_v53 (F := Ideal) (Cert.KernelIdeal.Win.Q m c) (Cert.KernelIdeal.Win.KV m c) (Cert.KernelIdeal.Win.CKV m c)
        (Cert.KernelIdeal.Win.SK m c)
      = (Cert.KernelIdeal.Gen.dats m 0 c).arrAt 10 Cert.KernelIdeal.cfg0.N := by
  funext i
  obtain ⟨b, s, l, rfl⟩ : ∃ (b : Fin 8) (s : Fin 4096) (l : Fin 256), i = ix3 b s l := ⟨i 0, i 1, i 2, eq_ix3 i⟩
  have hl := l.isLt
  obtain ⟨-, -, -, hs⟩ := Cert.Pre_finite_logits.reals _ _ _ _ hpre
  obtain ⟨k, hk⟩ : ∃ k : Fin 2, k.val = l.val / 64 % 2 := ⟨⟨l.val / 64 % 2, by omega⟩, rfl⟩
  obtain ⟨g, hg⟩ : ∃ g : Fin 2, g.val = l.val / 128 := ⟨⟨l.val / 128, by omega⟩, rfl⟩
  obtain ⟨d, hd⟩ : ∃ d : Fin 64, d.val = l.val % 64 := ⟨⟨l.val % 64, by omega⟩, rfl⟩
  obtain ⟨r, hr⟩ := hs ⟨k.val * 2 + g.val, by omega⟩
  have hL := Cert.Pre_finite_logits.near_ne_top _ _ _ _ hpre b k g s
  have hC := Cert.Pre_finite_logits.ctx_ne_top _ _ _ _ hpre b k g s
  exact (Cert.ReferenceIdeal.Win.value_apply _ _ _ _ b s l k g d hk hg hd r hr hL hC).trans
    (Cert.KernelIdeal.Win.array_apply m c b s l k g d hk hg hd r hr hL hC).symm

/-- Over the extended reals the window attention computes its reference, on every input whose queries, keys and sinks are
    real numbers. -/
theorem win_algebraic : Cert.algebraic_KernelIdeal_ReferenceIdeal_pre_finite_logits := by
  intro m g m' g' hpre hargs
  refine ⟨fun c => (Cert.KernelIdeal.Gen.dats m 0 c).arrAt 10 Cert.KernelIdeal.cfg0.N, Cert.KernelIdeal.Value.run_blocks m g, ?_⟩
  refine (θ_run _ _ _).mono (fun r h c => ⟨(h c).1.trans ((Cert.ReferenceIdeal.Read.val_main_v53_eq ..).trans ?_), (h c).2⟩)
    (Cert.ReferenceIdeal.Value.run m' g')
  obtain ⟨h0, h1, h2, h3⟩ := hargs c
  rw [h0, h1, h2, h3]
  exact win_result m c (hpre c)

end Cert.Proof

end
-- ==== Proof.ProjSpec.lean ====
/- The input projection as plain functions: a token's modulated norm, its products with the weights' columns, the short
   convolution along the tokens, and the rotation of a lane by the angle of its token. -/
module

public import Idealize.ShloMosaic.Lib.Pointwise
public import Idealize.ShloMosaic.Lib.KernelVsHost

@[expose] public section

noncomputable section

namespace Cert.Inproj

open Idealize.ShloMosaic

/-- A token's lane after the norm, the gain and the modulation. -/
def nrm (x g sh sc : Fin 1024 → EReal) (k : Fin 1024) : EReal :=
  x k * Ideal.rsqrt (Ideal.div (∑ j, x j * x j) (Ideal.ofBits FTy.f32 0x44800000#32) + Ideal.ofBits FTy.f32 0x358637BD#32)
    * g k * (1 + sc k) + sh k

/-- A token's product with one column of the weights. -/
def prj (x g sh sc w : Fin 1024 → EReal) : EReal := ∑ k, nrm x g sh sc k * w k

/-- Three neighbours, each with its weight, and the bias. -/
def conv (a b c u v w d : EReal) : EReal := a * u + b * v + c * w + d

/-- A lane of the first quarter of its half, rotated with the lane of the second quarter. -/
def rotA (t t' c s : EReal) : EReal := t * c - t' * s

/-- A lane of the second quarter of its half, rotated with the lane of the first quarter. -/
def rotB (t t' c s : EReal) : EReal := t' * s + t * c

/-- Multiplying the other quarter by minus the sine and adding a zero term is the first quarter's rotation. -/
theorem rotA_of (t a b c s : EReal) : t * c + a * (-s) + b * 0 = rotA t a c s := by
  unfold rotA
  rw [mul_zero, add_zero, mul_neg, sub_eq_add_neg]

/-- Adding a zero term before the other quarter's term is the second quarter's rotation. -/
theorem rotB_of (t a b c s : EReal) : t * c + a * 0 + b * s = rotB t b c s := by
  unfold rotB
  rw [mul_zero, add_zero, add_comm]

/-- The token before, or zero before the first. -/
def prev {N : ℕ} (p : Fin N → EReal) (s : Fin N) : EReal := if s.val = 0 then 0 else p ⟨s.val - 1, by omega⟩

/-- The token after, or zero after the last. -/
def next {N : ℕ} (p : Fin N → EReal) (s : Fin N) : EReal := if h : s.val + 1 = N then 0 else p ⟨s.val + 1, by omega⟩

/-- Rows padded by a zero row at either end: zero before the first token and after the last. -/
theorem padded {N : ℕ} (y : (⟨3, ![8, N, 768]⟩ : Shape).Idx → EReal) {u : Shape} (v : u.Idx → EReal)
    (hp : (⟨3, ![8, N, 768]⟩ : Shape).Pads (![0, 1, 0] : Fin 3 → ℕ) ![0, 1, 0] ![0, 0, 0] ⟨3, ![8, N + 2, 768]⟩) (hu : 0 < u.numel)
    (hv : ∀ i, v i = 0) (b : Fin 8) (t : Fin (N + 2)) (l : Fin 768) :
    pad ⟨3, ![8, N + 2, 768]⟩ ![0, 1, 0] ![0, 1, 0] ![0, 0, 0] y v hp hu (ix3 b t l)
      = if h : 1 ≤ t.val ∧ t.val ≤ N then y (ix3 b ⟨t.val - 1, by omega⟩ l) else 0 := by
  by_cases h : 1 ≤ t.val ∧ t.val ≤ N
  · rw [dif_pos h]
    refine pad_apply_of_inside _ _ _ _ _ _ _ _ (ix3 b ⟨t.val - 1, by omega⟩ l) ?_
    intro a
    match a with
    | ⟨0, _⟩ => show b.val = 0 + b.val * (0 + 1); omega
    | ⟨1, _⟩ => show t.val = 1 + (t.val - 1) * (0 + 1); omega
    | ⟨2, _⟩ => show l.val = 0 + l.val * (0 + 1); omega
  · rw [dif_neg h]
    refine (pad_apply_of_not_inside _ _ _ _ _ _ _ _ (1 : Fin 3) ?_).trans (hv _)
    show ¬(1 ≤ t.val ∧ (t.val - 1) % (0 + 1) = 0 ∧ (t.val - 1) / (0 + 1) < N)
    have := t.isLt
    omega

/-- In a sequence with a zero at either end, three entries in a row are a token with the tokens before and after it. -/
theorem neighbours {N : ℕ} (p : Fin N → EReal) (z : Fin (N + 2) → EReal)
    (hz : ∀ t, z t = if h : 1 ≤ t.val ∧ t.val ≤ N then p ⟨t.val - 1, by omega⟩ else 0) (s : Fin N) :
    z ⟨s.val, by omega⟩ = prev p s ∧ z ⟨1 + s.val, by omega⟩ = p s ∧ z ⟨2 + s.val, by omega⟩ = next p s := by
  have hs := s.isLt
  refine ⟨?_, ?_, ?_⟩
  · rw [hz]
    unfold prev
    by_cases h : s.val = 0
    · rw [if_pos h, dif_neg (by dsimp only; omega)]
    · rw [if_neg h, dif_pos (by dsimp only; omega)]
  · rw [hz, dif_pos (by dsimp only; omega)]
    exact congrArg p (Fin.ext (by dsimp only; omega))
  · rw [hz]
    unfold next
    by_cases h : s.val + 1 = N
    · rw [dif_pos h, dif_neg (by dsimp only; omega)]
    · rw [dif_neg h, dif_pos (by dsimp only; omega)]
      exact congrArg p (Fin.ext (by dsimp only; omega))

/-- A column of a token's products rotated by the token's angle for the column's lane in its head. -/
def rot (f : Fin 2304 → EReal) (co si : Fin 64 → EReal) (c : Fin 2304) : EReal :=
  if c.val % 32 < 16 then rotA (f c) (f ⟨min 2303 (c.val + 16), by omega⟩) (co ⟨c.val % 64, by omega⟩) (si ⟨c.val % 64, by omega⟩)
  else rotB (f c) (f ⟨c.val - 16, by omega⟩) (co ⟨c.val % 64, by omega⟩) (si ⟨c.val % 64, by omega⟩)

/-- The rotation by three products, each with a factor that is zero where it does not count. -/
theorem rot_of (f : Fin 2304 → EReal) (co si : Fin 64 → EReal) (c u d : Fin 2304) (C U D : EReal) (q : Fin 64) (hq : q.val = c.val % 64)
    (hu : c.val % 32 < 16 → u.val = c.val + 16) (hd : ¬ c.val % 32 < 16 → d.val = c.val - 16) (hC : C = co q)
    (hU : U = if q.val % 32 < 16 then -(si q) else 0) (hD : D = if q.val % 32 < 16 then 0 else si q) :
    f c * C + f u * U + f d * D = rot f co si c := by
  obtain ⟨qv, hqv⟩ := q
  dsimp only at hq
  subst hq
  subst hC hU hD
  unfold rot
  have e : c.val % 64 % 32 = c.val % 32 := by omega
  dsimp only
  rw [e]
  by_cases h : c.val % 32 < 16
  · have hu' : u = ⟨min 2303 (c.val + 16), by omega⟩ := Fin.ext (by have := hu h; have := u.isLt; dsimp only; omega)
    rw [if_pos h, if_pos h, if_pos h, ← hu', rotA_of]
  · have hd' : d = ⟨c.val - 16, by omega⟩ := Fin.ext (by have := hd h; dsimp only; omega)
    rw [if_neg h, if_neg h, if_neg h, ← hd', rotB_of]

/-- The rotation at a lane of a first quarter. -/
theorem rot_lo (f : Fin 2304 → EReal) (co si : Fin 64 → EReal) (c d : Fin 2304) (q : Fin 64) (hc : c.val % 32 < 16) (hd : d.val = c.val + 16)
    (hq : q.val = c.val % 64) : rotA (f c) (f d) (co q) (si q) = rot f co si c := by
  have hq' : q = ⟨c.val % 64, Nat.mod_lt _ (by decide)⟩ := Fin.ext hq
  have hd' : d = ⟨min 2303 (c.val + 16), by omega⟩ := Fin.ext (by have := d.isLt; dsimp only; omega)
  unfold rot
  rw [if_pos hc, ← hd', ← hq']

/-- The rotation at a lane of a second quarter. -/
theorem rot_hi (f : Fin 2304 → EReal) (co si : Fin 64 → EReal) (c d : Fin 2304) (q : Fin 64) (hc : ¬ c.val % 32 < 16) (hd : d.val = c.val - 16)
    (hq : q.val = c.val % 64) : rotB (f c) (f d) (co q) (si q) = rot f co si c := by
  have hq' : q = ⟨c.val % 64, Nat.mod_lt _ (by decide)⟩ := Fin.ext hq
  have hd' : d = ⟨c.val - 16, by omega⟩ := Fin.ext hd
  unfold rot
  rw [if_neg hc, ← hd', ← hq']

/-- A token's product with a column of the weights, from the arguments. -/
def tok (x : (⟨3, ![8, 4096, 1024]⟩ : Shape).Idx → EReal) (sh sc : (⟨3, ![8, 1, 1024]⟩ : Shape).Idx → EReal)
    (g : (⟨2, ![1, 1024]⟩ : Shape).Idx → EReal) (w : (⟨2, ![1024, 2304]⟩ : Shape).Idx → EReal) (b : Fin 8) (s : Fin 4096) (c : Fin 2304) : EReal :=
  prj (fun k => x (ix3 b s k)) (fun k => g (ix2 0 k)) (fun k => sh (ix3 b 0 k)) (fun k => sc (ix3 b 0 k)) (fun k => w (ix2 k c))

end Cert.Inproj

end
-- ==== Proof.ProjBlock.lean ====
/- The input projection's body over the extended reals: each value it stores, read at an index. -/
module

public import proofs.«01_k».proof.Proof.ProjSpec
public import proofs.«01_k».proof.Proof.Gen.ProjIdeal.Skeleton

@[expose] public section

set_option maxRecDepth 16384

noncomputable section

namespace Cert.ProjIdeal.Pr

open Cert.ProjIdeal Cert.ProjIdeal.Gen Idealize.ShloMosaic Idealize.ShloMosaic.TcCoe Idealize.SL.Sem
open Cert.Inproj

/-- The block's product is each token's product with each column. -/
theorem pay4_apply (v0 : Vec Ideal S1x512x1024 .f32) (v2 : Vec Ideal S1x1024 .f32) (v3 v5 : Vec Ideal S1x1x1024 .f32)
    (v26 : Vec Ideal S1024x2304 .bf16) (r : Fin 512) (l : Fin 2304) :
    k0_pay4 (F := Ideal) v0 v2 v3 v5 v26 (ix2 r l)
      = prj (fun k => v0 (ix3 0 r k)) (fun k => v2 (ix2 0 k)) (fun k => v3 (ix3 0 0 k)) (fun k => v5 (ix3 0 0 k))
          (fun k => v26 (ix2 k l)) := by
  unfold prj nrm
  pointwise [k0_pay4]

/-- The tokens next to the block: the eight before it, then the eight after it. -/
def halo (v32 : FVec Ideal S16x1024 .f32) (v33 : Vec Ideal S1x1024 .f32) (v34 v36 : Vec Ideal S1x1x1024 .f32)
    (v57 : Vec Ideal S1024x768 .bf16) : FVec Ideal S16x768 .f32 :=
  matmul (φ₂ := .bf16) dot_S16x1024_S1024x768_S16x768_1_0_0_1_n_n none
    (truncf .bf16
      (addf (mulf (mulf (mulf v32 (broadcastTo S16x1024
            (rsqrt (addf (divf (shapeCast S16x1 (multiReduction .add [1] S16 (mulf v32 v32) 0x00000000#32 reduces_S16x1024_S16 (.inl rfl) rfl) shapeCasts_S16_S16x1)
              (broadcast S16x1 (Scalar.ofBits (F := Ideal) .f32 0x44800000#32))) (broadcast S16x1 (Scalar.ofBits (F := Ideal) .f32 0x358637BD#32))))
            broadcasts_S16x1_S16x1024)) (broadcastTo S16x1024 v33 broadcasts_S1x1024_S16x1024))
          (broadcastTo S16x1024 (addf (broadcast S1x1024 (Scalar.ofBits (F := Ideal) .f32 0x3F800000#32)) (shapeCast S1x1024 v36 shapeCasts_S1x1x1024_S1x1024)) broadcasts_S1x1024_S16x1024))
        (broadcastTo S16x1024 (shapeCast S1x1024 v34 shapeCasts_S1x1x1024_S1x1024) broadcasts_S1x1024_S16x1024)) bitsLt_bf16_f32)
    v57 (constant S16x768 .f32 0x00000000#32)

/-- A neighbouring token's product with one of the convolved columns. -/
theorem halo_apply (v32 : FVec Ideal S16x1024 .f32) (v33 : Vec Ideal S1x1024 .f32) (v34 v36 : Vec Ideal S1x1x1024 .f32)
    (v57 : Vec Ideal S1024x768 .bf16) (r : Fin 16) (l : Fin 768) :
    halo v32 v33 v34 v36 v57 (ix2 r l)
      = prj (fun k => v32 (ix2 r k)) (fun k => v33 (ix2 0 k)) (fun k => v34 (ix3 0 0 k)) (fun k => v36 (ix3 0 0 k))
          (fun k => v57 (ix2 k l)) := by
  unfold prj nrm
  pointwise [halo]

/-- The two neighbouring blocks, one under the other. -/
theorem pay5_lo (a b : Vec Ideal S1x8x1024 .f32) (k : Fin 1024) : k0_pay5 (F := Ideal) a b (ix2 7 k) = a (ix3 0 7 k) := by
  pointwise [k0_pay5]

/-- The two neighbouring blocks, one under the other. -/
theorem pay5_hi (a b : Vec Ideal S1x8x1024 .f32) (k : Fin 1024) : k0_pay5 (F := Ideal) a b (ix2 8 k) = b (ix3 0 0 k) := by
  pointwise [k0_pay5]

/-- Choosing by a comparison of two words. -/
theorem select_eq (n k : BitVec 32) (a b : EReal) : Scalar.select (Scalar.cmpi .eq n k) a b = if n = k then a else b := by
  by_cases h : n = k
  · subst h; rw [if_pos rfl]; simp [Scalar.select, Scalar.cmpi, IntOp.cmpi]
  · have h' : (n == k) = false := by simpa using h
    rw [if_neg h]; simp [Scalar.select, Scalar.cmpi, IntOp.cmpi, h']

/-- The block's convolved columns between its neighbours', zeros where the sequence ends. -/
def ext (n : BitVec 32) (v27 : FVec Ideal S512x2304 .f32) (v58 : FVec Ideal S16x768 .f32) : FVec Ideal S528x768 .f32 :=
  concatenate S528x768 0
    [⟨S8x768, Scalar.select (Scalar.cmpi .eq n 0#32) (broadcast S8x768 (Scalar.ofBits (F := Ideal) .f32 0x00000000#32))
        (extractStridedSlice S8x768 ![0, 0] v58 slices_S16x768_o0_0_S8x768)⟩,
     ⟨S512x768, extractStridedSlice S512x768 ![0, 0] v27 slices_S512x2304_o0_0_S512x768⟩,
     ⟨S8x768, Scalar.select (Scalar.cmpi .eq n 7#32) (broadcast S8x768 (Scalar.ofBits (F := Ideal) .f32 0x00000000#32))
        (extractStridedSlice S8x768 ![8, 0] v58 slices_S16x768_o8_0_S8x768)⟩]
    concatenates_S8x768_S512x768_S8x768_S528x768_d0

/-- The body's extended block is that one. -/
theorem pay6_eq (n : BitVec 32) (v27 : FVec Ideal S512x2304 .f32) (v32 : FVec Ideal S16x1024 .f32) (v33 : Vec Ideal S1x1024 .f32)
    (v34 v36 : Vec Ideal S1x1x1024 .f32) (v57 : Vec Ideal S1024x768 .bf16) :
    k0_pay6 (F := Ideal) n v27 v32 v33 v34 v36 v57 = ext n v27 (halo v32 v33 v34 v36 v57) := rfl

/-- Row `8 + r` of the extended block is the block's row `r`. -/
theorem ext_mid (n : BitVec 32) (v27 : FVec Ideal S512x2304 .f32) (v58 : FVec Ideal S16x768 .f32) (r : Fin 512) (l : Fin 768) :
    ext n v27 v58 (ix2 ⟨8 + r.val, by omega⟩ l) = v27 (ix2 r ⟨l.val, by omega⟩) := by
  pointwise [ext]

/-- Row 7 of the extended block is the token before the block, or zero at the first block. -/
theorem ext_lo (n : BitVec 32) (v27 : FVec Ideal S512x2304 .f32) (v58 : FVec Ideal S16x768 .f32) (l : Fin 768) :
    ext n v27 v58 (ix2 ⟨7, by omega⟩ l) = if n = 0#32 then 0 else v58 (ix2 7 l) := by
  rw [← select_eq]
  pointwise [ext]

/-- Row 520 of the extended block is the token after the block, or zero at the last block. -/
theorem ext_hi (n : BitVec 32) (v27 : FVec Ideal S512x2304 .f32) (v58 : FVec Ideal S16x768 .f32) (l : Fin 768) :
    ext n v27 v58 (ix2 ⟨520, by omega⟩ l) = if n = 7#32 then 0 else v58 (ix2 8 l) := by
  rw [← select_eq]
  pointwise [ext]

/-- The stored convolution: each row with the rows before and after it in the extended block. -/
theorem pay9_apply (n : BitVec 32) (e : FVec Ideal S528x768 .f32) (v70 v73 v78 v83 : Vec Ideal S1x768 .f32) (r : Fin 512) (l : Fin 768) :
    k0_pay9 (F := Ideal) e (dynamicRotate 0 1#32 none e rotates_S528x768_d0) (k0_pay8 v70) v73 v78 v83 (ix3 0 r l)
      = conv (e (ix2 ⟨7 + r.val, by omega⟩ l)) (e (ix2 ⟨8 + r.val, by omega⟩ l)) (e (ix2 ⟨9 + r.val, by omega⟩ l))
          (v70 (ix2 0 l)) (v73 (ix2 0 l)) (v78 (ix2 0 l)) (v83 (ix2 0 l)) := by
  unfold conv
  have h7 : (⟨(8 + r.val + 528 - 1) % 528, Nat.mod_lt _ (by omega)⟩ : Fin 528) = ⟨7 + r.val, by omega⟩ :=
    Fin.ext (show (8 + r.val + 528 - 1) % 528 = 7 + r.val by omega)
  have h9 : (⟨(8 + r.val + 528 - 527) % 528, Nat.mod_lt _ (by omega)⟩ : Fin 528) = ⟨9 + r.val, by omega⟩ :=
    Fin.ext (show (8 + r.val + 528 - 527) % 528 = 9 + r.val by omega)
  rw [← h7, ← h9]
  pointwise [k0_pay9, k0_pay8]

/-- The pooled columns are stored as they are. -/
theorem pay10_apply (p : FVec Ideal S512x2304 .f32) (r : Fin 512) (l : Fin 256) :
    k0_pay10 (F := Ideal) p (ix3 0 r l) = p (ix2 r ⟨768 + l.val, by omega⟩) := by
  pointwise [k0_pay10]

/-- The neighbourhood queries are stored scaled. -/
theorem pay2_apply (p : FVec Ideal S512x2304 .f32) (r : Fin 512) (l : Fin 256) :
    k0_pay2 (F := Ideal) p (ix3 0 r l) = p (ix2 r ⟨1280 + l.val, by omega⟩) * Ideal.ofBits FTy.f32 0x3E000000#32 := by
  pointwise [k0_pay2]

/-- The window queries are stored rotated and scaled: the first pair of heads. -/
theorem pay1_lo (p : FVec Ideal S512x2304 .f32) (c u d : Vec Ideal S512x128 .f32) (r : Fin 512) (l : Fin 128) :
    k0_pay1 (F := Ideal) (k0_pay15 p c u) (k0_pay16 p d) (ix3 0 r ⟨l.val, by omega⟩)
      = (p (ix2 r ⟨1024 + l.val, by omega⟩) * c (ix2 r l) + p (ix2 r ⟨1024 + (l.val + 256 - 240) % 256, by omega⟩) * u (ix2 r l)
          + p (ix2 r ⟨1024 + (l.val + 256 - 16) % 256, by omega⟩) * d (ix2 r l)) * Ideal.ofBits FTy.f32 0x3E000000#32 := by
  pointwise [k0_pay1, k0_pay15, k0_pay16, k0_pay13, k0_pay14, k0_pay11]

/-- The window queries are stored rotated and scaled: the second pair of heads. -/
theorem pay1_hi (p : FVec Ideal S512x2304 .f32) (c u d : Vec Ideal S512x128 .f32) (r : Fin 512) (l : Fin 128) :
    k0_pay1 (F := Ideal) (k0_pay15 p c u) (k0_pay16 p d) (ix3 0 r ⟨128 + l.val, by omega⟩)
      = (p (ix2 r ⟨1024 + (128 + l.val), by omega⟩) * c (ix2 r l)
          + p (ix2 r ⟨1024 + (128 + l.val + 256 - 240) % 256, by omega⟩) * u (ix2 r l)
          + p (ix2 r ⟨1024 + (128 + l.val + 256 - 16) % 256, by omega⟩) * d (ix2 r l)) * Ideal.ofBits FTy.f32 0x3E000000#32 := by
  pointwise [k0_pay1, k0_pay15, k0_pay16, k0_pay13, k0_pay14, k0_pay11]

/-- The window keys are stored rotated. -/
theorem pay3_lo (p : FVec Ideal S512x2304 .f32) (c u d : Vec Ideal S512x128 .f32) (r : Fin 512) (l : Fin 128) :
    k0_pay3 (F := Ideal) p (k0_pay12 p) c (k0_pay13 u) (k0_pay14 d) (ix3 0 r ⟨l.val, by omega⟩)
      = p (ix2 r ⟨1536 + l.val, by omega⟩) * c (ix2 r l) + p (ix2 r ⟨1536 + (l.val + 128 - 112) % 128, by omega⟩) * u (ix2 r l)
          + p (ix2 r ⟨1536 + (l.val + 128 - 16) % 128, by omega⟩) * d (ix2 r l) := by
  pointwise [k0_pay3, k0_pay12, k0_pay13, k0_pay14]

/-- The other keys and the values are stored as they are. -/
theorem pay3_hi (p : FVec Ideal S512x2304 .f32) (c u d : Vec Ideal S512x128 .f32) (r : Fin 512) (l : Fin 640) :
    k0_pay3 (F := Ideal) p (k0_pay12 p) c (k0_pay13 u) (k0_pay14 d) (ix3 0 r ⟨128 + l.val, by omega⟩)
      = p (ix2 r ⟨1664 + l.val, by omega⟩) := by
  pointwise [k0_pay3, k0_pay12, k0_pay13, k0_pay14]

end Cert.ProjIdeal.Pr

end
-- ==== Proof.ProjPoint.lean ====
/- What one grid point of the input projection stores, element by element, from the blocks it is given. -/
module

public import proofs.«01_k».proof.Proof.ProjBlock
public import proofs.«01_k».proof.Proof.Gen.ProjIdeal.Value
public import Idealize.ShloMosaic.Lib.Pipeline.ValueKit.Acc

@[expose] public section

set_option maxRecDepth 16384

noncomputable section

namespace Cert.ProjIdeal.Pr

open Cert.ProjIdeal Cert.ProjIdeal.Gen Cert.ProjIdeal.Value Idealize.ShloMosaic Idealize.ShloMosaic.TcCoe Idealize.SL.Sem
open Cert.Inproj

/-- Row `7 + r` of the extended block is the token before the block's row `r`. -/
theorem ext_prev (n : ℕ) (hn : n < 8) (v27 : FVec Ideal S512x2304 .f32) (v58 : FVec Ideal S16x768 .f32) (r : Fin 512) (l : Fin 768)
    (p : Fin 4096 → EReal) (h27 : ∀ r : Fin 512, v27 (ix2 r ⟨l.val, by omega⟩) = p ⟨n * 512 + r.val, by omega⟩)
    (h58 : n ≠ 0 → v58 (ix2 7 l) = p ⟨n * 512 - 1, by omega⟩) :
    ext (BitVec.ofNat 32 n) v27 v58 (ix2 ⟨7 + r.val, by omega⟩ l) = prev p ⟨n * 512 + r.val, by omega⟩ := by
  have hr := r.isLt
  unfold prev
  by_cases h0 : r.val = 0
  · have e : (⟨7 + r.val, by omega⟩ : Fin 528) = ⟨7, by omega⟩ := Fin.ext (by dsimp only; omega)
    rw [e, ext_lo]
    by_cases hn0 : n = 0
    · rw [if_pos (by rw [hn0]), if_pos (by dsimp only; omega)]
    · rw [if_neg (fun h => hn0 (by have := congrArg BitVec.toNat h; simp at this; omega)), if_neg (by dsimp only; omega), h58 hn0]
      exact congrArg p (Fin.ext (by dsimp only; omega))
  · have e : (⟨7 + r.val, by omega⟩ : Fin 528) = ⟨8 + (⟨r.val - 1, by omega⟩ : Fin 512).val, by dsimp only; omega⟩ :=
      Fin.ext (by dsimp only; omega)
    rw [e, ext_mid, h27, if_neg (by dsimp only; omega)]
    exact congrArg p (Fin.ext (by dsimp only; omega))

/-- Row `8 + r` of the extended block is the token of the block's row `r`. -/
theorem ext_self (n : ℕ) (hn : n < 8) (v27 : FVec Ideal S512x2304 .f32) (v58 : FVec Ideal S16x768 .f32) (r : Fin 512) (l : Fin 768)
    (p : Fin 4096 → EReal) (h27 : ∀ r : Fin 512, v27 (ix2 r ⟨l.val, by omega⟩) = p ⟨n * 512 + r.val, by omega⟩) :
    ext (BitVec.ofNat 32 n) v27 v58 (ix2 ⟨8 + r.val, by omega⟩ l) = p ⟨n * 512 + r.val, by omega⟩ := by
  rw [ext_mid, h27]

/-- Row `9 + r` of the extended block is the token after the block's row `r`. -/
theorem ext_next (n : ℕ) (hn : n < 8) (v27 : FVec Ideal S512x2304 .f32) (v58 : FVec Ideal S16x768 .f32) (r : Fin 512) (l : Fin 768)
    (p : Fin 4096 → EReal) (h27 : ∀ r : Fin 512, v27 (ix2 r ⟨l.val, by omega⟩) = p ⟨n * 512 + r.val, by omega⟩)
    (h58 : ∀ h : n ≠ 7, v58 (ix2 8 l) = p ⟨n * 512 + 512, by omega⟩) :
    ext (BitVec.ofNat 32 n) v27 v58 (ix2 ⟨9 + r.val, by omega⟩ l) = next p ⟨n * 512 + r.val, by omega⟩ := by
  have hr := r.isLt
  unfold next
  by_cases h0 : r.val = 511
  · have e : (⟨9 + r.val, by omega⟩ : Fin 528) = ⟨520, by omega⟩ := Fin.ext (by dsimp only; omega)
    rw [e, ext_hi]
    by_cases hn0 : n = 7
    · rw [if_pos (by rw [hn0]), dif_pos (by dsimp only; omega)]
    · rw [if_neg (fun h => hn0 (by have := congrArg BitVec.toNat h; simp at this; omega)), dif_neg (by dsimp only; omega), h58 hn0]
      exact congrArg p (Fin.ext (by dsimp only; omega))
  · have e : (⟨9 + r.val, by omega⟩ : Fin 528) = ⟨8 + (⟨r.val + 1, by omega⟩ : Fin 512).val, by dsimp only; omega⟩ :=
      Fin.ext (by dsimp only; omega)
    rw [e, ext_mid, h27, dif_neg (by dsimp only; omega)]
    exact congrArg p (Fin.ext (by dsimp only; omega))

section Point
variable (i : grid0.Coords) (x0 : Vec Ideal S1x512x1024 .f32) (x1 x2 : Vec Ideal S1x8x1024 .f32) (x3 x4 : Vec Ideal S1x1x1024 .f32)
  (x5 : Vec Ideal S1x1024 .f32) (x6 : Vec Ideal S1024x2304 .bf16) (x7 : Vec Ideal S3x768 .f32) (x8 : Vec Ideal S1x768 .f32)
  (x9 x10 x11 : Vec Ideal S512x128 .f32)

/-- The block's products. -/
theorem prod_apply (r : Fin 512) (l : Fin 2304) :
    k0_pay17 i x0 x1 x2 x3 x4 x5 x6 x7 x8 x9 x10 x11 (ix2 r l)
      = prj (fun k => x0 (ix3 0 r k)) (fun k => x5 (ix2 0 k)) (fun k => x3 (ix3 0 0 k)) (fun k => x4 (ix3 0 0 k)) (fun k => x6 (ix2 k l)) := by
  unfold k0_pay17
  simp (disch := decide) only [View.ld_unit_lit']
  exact pay4_apply _ _ _ _ _ _ _

/-- The weights' convolved columns, read at an index. -/
theorem cols_apply (k : Fin 1024) (l : Fin 768) : View.ld x6 r0_5 (ix2 k l) = x6 (ix2 k ⟨l.val, by omega⟩) := by
  show x6 _ = x6 _
  refine congrArg x6 ?_
  funext a
  apply Fin.ext
  match a with
  | ⟨0, _⟩ => show 0 + 1 * k.val = k.val; omega
  | ⟨1, _⟩ => show 0 + 1 * l.val = l.val; omega

/-- The first row of the convolution's weights. -/
theorem tap0_apply (l : Fin 768) : View.ld x7 r0_6 (ix2 0 l) = x7 (ix2 0 l) := by
  show x7 _ = x7 _
  refine congrArg x7 ?_
  funext a
  apply Fin.ext
  match a with
  | ⟨0, _⟩ => rfl
  | ⟨1, _⟩ => show 0 + 1 * l.val = l.val; omega

/-- The second row of the convolution's weights. -/
theorem tap1_apply (l : Fin 768) : View.ld x7 r0_7 (ix2 0 l) = x7 (ix2 1 l) := by
  show x7 _ = x7 _
  refine congrArg x7 ?_
  funext a
  apply Fin.ext
  match a with
  | ⟨0, _⟩ => rfl
  | ⟨1, _⟩ => show 0 + 1 * l.val = l.val; omega

/-- The third row of the convolution's weights. -/
theorem tap2_apply (l : Fin 768) : View.ld x7 r0_8 (ix2 0 l) = x7 (ix2 2 l) := by
  show x7 _ = x7 _
  refine congrArg x7 ?_
  funext a
  apply Fin.ext
  match a with
  | ⟨0, _⟩ => rfl
  | ⟨1, _⟩ => show 0 + 1 * l.val = l.val; omega

/-- The convolution's block: each token's column with the tokens before and after it, from one sequence of products. -/
theorem out12_apply (n : ℕ) (hn : n < 8) (hi : (i 0).val = n) (r : Fin 512) (l : Fin 768) (p : Fin 4096 → EReal)
    (hp : ∀ r : Fin 512, prj (fun k => x0 (ix3 0 r k)) (fun k => x5 (ix2 0 k)) (fun k => x3 (ix3 0 0 k)) (fun k => x4 (ix3 0 0 k))
      (fun k => x6 (ix2 k ⟨l.val, by omega⟩)) = p ⟨n * 512 + r.val, by omega⟩)
    (hlo : n ≠ 0 → prj (fun k => x1 (ix3 0 7 k)) (fun k => x5 (ix2 0 k)) (fun k => x3 (ix3 0 0 k)) (fun k => x4 (ix3 0 0 k))
      (fun k => x6 (ix2 k ⟨l.val, by omega⟩)) = p ⟨n * 512 - 1, by omega⟩)
    (hhi : ∀ h : n ≠ 7, prj (fun k => x2 (ix3 0 0 k)) (fun k => x5 (ix2 0 k)) (fun k => x3 (ix3 0 0 k)) (fun k => x4 (ix3 0 0 k))
      (fun k => x6 (ix2 k ⟨l.val, by omega⟩)) = p ⟨n * 512 + 512, by omega⟩) :
    out0_12 i x0 x1 x2 x3 x4 x5 x6 x7 x8 x9 x10 x11 (ix3 0 r l)
      = conv (prev p ⟨n * 512 + r.val, by omega⟩) (p ⟨n * 512 + r.val, by omega⟩) (next p ⟨n * 512 + r.val, by omega⟩)
          (x7 (ix2 0 l)) (x7 (ix2 1 l)) (x7 (ix2 2 l)) (x8 (ix2 0 l)) := by
  have h27 := fun r : Fin 512 => (prod_apply i x0 x1 x2 x3 x4 x5 x6 x7 x8 x9 x10 x11 r ⟨l.val, by omega⟩).trans (hp r)
  have h32 (k : Fin 1024) : k0_pay18 i x0 x1 x2 x3 x4 x5 x6 x7 x8 x9 x10 x11 (ix2 7 k) = x1 (ix3 0 7 k) := by
    unfold k0_pay18
    simp (disch := decide) only [View.ld_unit_lit']
    exact pay5_lo _ _ _
  have h32' (k : Fin 1024) : k0_pay18 i x0 x1 x2 x3 x4 x5 x6 x7 x8 x9 x10 x11 (ix2 8 k) = x2 (ix3 0 0 k) := by
    unfold k0_pay18
    simp (disch := decide) only [View.ld_unit_lit']
    exact pay5_hi _ _ _
  revert h27 h32 h32'
  unfold out0_12 k0_pay7
  simp (disch := decide) only [View.ld_unit_lit', View.canon_cons_unit_lit', pay6_eq]
  generalize k0_pay17 i x0 x1 x2 x3 x4 x5 x6 x7 x8 x9 x10 x11 = v27
  generalize k0_pay18 i x0 x1 x2 x3 x4 x5 x6 x7 x8 x9 x10 x11 = v32
  intro h27 h32 h32'
  have hh (y : Fin 16) := (halo_apply v32 x5 x3 x4 (View.ld x6 r0_5) y l).trans
    (congrArg (prj _ _ _ _) (funext fun k => cols_apply x6 k l))
  have h7 := hh 7
  have h8 := hh 8
  simp only [h32] at h7
  simp only [h32'] at h8
  revert h7 h8
  generalize halo v32 x5 x3 x4 (View.ld x6 r0_5) = v58
  intro h7 h8
  rw [hi]
  refine (pay9_apply (BitVec.ofNat 32 n) _ _ _ _ _ r l).trans ?_
  rw [ext_prev n hn v27 v58 r l p h27 (fun h => h7.trans (hlo h)), ext_self n hn v27 v58 r l p h27,
    ext_next n hn v27 v58 r l p h27 (fun h => h8.trans (hhi h)), tap0_apply, tap1_apply, tap2_apply]

/-- The pooled block. -/
theorem out13_apply (r : Fin 512) (l : Fin 256) :
    out0_13 i x0 x1 x2 x3 x4 x5 x6 x7 x8 x9 x10 x11 (ix3 0 r l)
      = prj (fun k => x0 (ix3 0 r k)) (fun k => x5 (ix2 0 k)) (fun k => x3 (ix3 0 0 k)) (fun k => x4 (ix3 0 0 k))
          (fun k => x6 (ix2 k ⟨768 + l.val, by omega⟩)) := by
  unfold out0_13
  simp (disch := decide) only [View.canon_cons_unit_lit']
  rw [pay10_apply, prod_apply]

/-- The neighbourhood queries' block. -/
theorem out15_apply (r : Fin 512) (l : Fin 256) :
    out0_15 i x0 x1 x2 x3 x4 x5 x6 x7 x8 x9 x10 x11 (ix3 0 r l)
      = prj (fun k => x0 (ix3 0 r k)) (fun k => x5 (ix2 0 k)) (fun k => x3 (ix3 0 0 k)) (fun k => x4 (ix3 0 0 k))
          (fun k => x6 (ix2 k ⟨1280 + l.val, by omega⟩)) * Ideal.ofBits FTy.f32 0x3E000000#32 := by
  unfold out0_15
  simp (disch := decide) only [View.canon_cons_unit_lit']
  rw [pay2_apply, prod_apply]

/-- The window queries' block, from one token's products and the tables' rows. -/
theorem out14_apply (r : Fin 512) (l : Fin 256) (f : Fin 2304 → EReal) (co si : Fin 64 → EReal)
    (hf : ∀ c : Fin 2304, prj (fun k => x0 (ix3 0 r k)) (fun k => x5 (ix2 0 k)) (fun k => x3 (ix3 0 0 k)) (fun k => x4 (ix3 0 0 k))
      (fun k => x6 (ix2 k c)) = f c)
    (hc : ∀ l : Fin 128, x9 (ix2 r l) = co ⟨l.val % 64, by omega⟩)
    (hu : ∀ l : Fin 128, x10 (ix2 r l) = if l.val % 64 % 32 < 16 then -(si ⟨l.val % 64, by omega⟩) else 0)
    (hd : ∀ l : Fin 128, x11 (ix2 r l) = if l.val % 64 % 32 < 16 then 0 else si ⟨l.val % 64, by omega⟩) :
    out0_14 i x0 x1 x2 x3 x4 x5 x6 x7 x8 x9 x10 x11 (ix3 0 r l)
      = rot f co si ⟨1024 + l.val, by omega⟩ * Ideal.ofBits FTy.f32 0x3E000000#32 := by
  have hp := fun c : Fin 2304 => (prod_apply i x0 x1 x2 x3 x4 x5 x6 x7 x8 x9 x10 x11 r c).trans (hf c)
  revert hp
  unfold out0_14
  simp (disch := decide) only [View.ld_unit_lit', View.canon_cons_unit_lit']
  generalize k0_pay17 i x0 x1 x2 x3 x4 x5 x6 x7 x8 x9 x10 x11 = v27
  intro hp
  have hl := l.isLt
  by_cases h : l.val < 128
  · refine (pay1_lo v27 x9 x10 x11 r ⟨l.val, h⟩).trans ?_
    rw [hp, hp, hp]
    refine congrArg (· * Ideal.ofBits FTy.f32 0x3E000000#32) ?_
    exact rot_of f co si ⟨1024 + l.val, by omega⟩ ⟨1024 + (l.val + 256 - 240) % 256, by omega⟩ ⟨1024 + (l.val + 256 - 16) % 256, by omega⟩ _ _ _
      ⟨l.val % 64, by omega⟩ (by dsimp only; omega) (by dsimp only; omega) (by dsimp only; omega) (hc _) (hu _) (hd _)
  · obtain ⟨l', hl'⟩ : ∃ l' : Fin 128, l.val = 128 + l'.val := ⟨⟨l.val - 128, by omega⟩, by dsimp only; omega⟩
    clear hl h
    obtain rfl : l = ⟨128 + l'.val, Nat.add_lt_add_left l'.isLt 128⟩ := Fin.ext hl'
    refine (pay1_hi v27 x9 x10 x11 r l').trans ?_
    rw [hp, hp, hp]
    refine congrArg (· * Ideal.ofBits FTy.f32 0x3E000000#32) ?_
    exact rot_of f co si ⟨1024 + (128 + l'.val), by omega⟩ ⟨1024 + (128 + l'.val + 256 - 240) % 256, by omega⟩
      ⟨1024 + (128 + l'.val + 256 - 16) % 256, by omega⟩ _ _ _
      ⟨l'.val % 64, by omega⟩ (by dsimp only; omega) (by dsimp only; omega) (by dsimp only; omega) (hc _) (hu _) (hd _)

/-- The keys' and values' block, from one token's products and the tables' rows. -/
theorem out16_apply (r : Fin 512) (l : Fin 768) (f : Fin 2304 → EReal) (co si : Fin 64 → EReal)
    (hf : ∀ c : Fin 2304, prj (fun k => x0 (ix3 0 r k)) (fun k => x5 (ix2 0 k)) (fun k => x3 (ix3 0 0 k)) (fun k => x4 (ix3 0 0 k))
      (fun k => x6 (ix2 k c)) = f c)
    (hc : ∀ l : Fin 128, x9 (ix2 r l) = co ⟨l.val % 64, by omega⟩)
    (hu : ∀ l : Fin 128, x10 (ix2 r l) = if l.val % 64 % 32 < 16 then -(si ⟨l.val % 64, by omega⟩) else 0)
    (hd : ∀ l : Fin 128, x11 (ix2 r l) = if l.val % 64 % 32 < 16 then 0 else si ⟨l.val % 64, by omega⟩) :
    out0_16 i x0 x1 x2 x3 x4 x5 x6 x7 x8 x9 x10 x11 (ix3 0 r l)
      = if l.val < 128 then rot f co si ⟨1536 + l.val, by omega⟩ else f ⟨1536 + l.val, by omega⟩ := by
  have hp := fun c : Fin 2304 => (prod_apply i x0 x1 x2 x3 x4 x5 x6 x7 x8 x9 x10 x11 r c).trans (hf c)
  revert hp
  unfold out0_16
  simp (disch := decide) only [View.ld_unit_lit', View.canon_cons_unit_lit']
  generalize k0_pay17 i x0 x1 x2 x3 x4 x5 x6 x7 x8 x9 x10 x11 = v27
  intro hp
  have hl := l.isLt
  by_cases h : l.val < 128
  · rw [if_pos h]
    refine (pay3_lo v27 x9 x10 x11 r ⟨l.val, h⟩).trans ?_
    rw [hp, hp, hp]
    exact rot_of f co si ⟨1536 + l.val, by omega⟩ ⟨1536 + (l.val + 128 - 112) % 128, by omega⟩ ⟨1536 + (l.val + 128 - 16) % 128, by omega⟩ _ _ _
      ⟨l.val % 64, by omega⟩ (by dsimp only; omega) (by dsimp only; omega) (by dsimp only; omega) (hc _) (hu _) (hd _)
  · rw [if_neg h]
    obtain ⟨l', hl'⟩ : ∃ l' : Fin 640, l.val = 128 + l'.val := ⟨⟨l.val - 128, by omega⟩, by dsimp only; omega⟩
    clear hl h
    obtain rfl : l = ⟨128 + l'.val, Nat.add_lt_add_left l'.isLt 128⟩ := Fin.ext hl'
    refine (pay3_hi v27 x9 x10 x11 r l').trans ?_
    rw [hp]
    exact congrArg f (Fin.ext (by dsimp only; omega))

end Point

end Cert.ProjIdeal.Pr

end
-- ==== Proof.ProjHost.lean ====
/- The rotation's tables that the input projection's call makes from its cosines and sines before its kernel runs. -/
module

public import proofs.«01_k».proof.Proof.ProjSpec
public import proofs.«01_k».proof.Proof.Gen.ProjIdeal.Value
public import Idealize.ShloMosaic.Lib.Claim

@[expose] public section

set_option maxRecDepth 16384

noncomputable section

namespace Cert.ProjIdeal.Pr

open Cert.ProjIdeal Cert.ProjIdeal.Gen Cert.ProjIdeal.Value Idealize.ShloMosaic Idealize.ShloMosaic.TcCoe Idealize.SL.Sem
open Cert.Inproj

/-- A table of 64 lanes twice side by side. -/
def tile (a : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 a shapeCasts_S4096x64_S1x4096x1x64)) shapeCasts_S1x4096x2x64_S4096x128

/-- Which lanes are of the first quarter of their half. -/
def first : IVec S64 1 := fun i => lit0 (S64.rowMajor i)

/-- The lanes' choice at every token. -/
def firsts : IVec S4096x64 1 :=
  broadcastInDim S4096x64 ![0, 1] bcast_S1x64_S4096x64_0_1 (broadcastInDim S1x64 ![1] bcast_S64_S1x64_1 first)

/-- A zero at every token and lane. -/
def zeros : FVec Ideal S4096x64 .f32 :=
  broadcastInDim S4096x64 ![] bcast_S_S4096x64 (constant (F := Ideal) S_ .f32 0x00000000#32)

/-- The factors of the lane sixteen further on: minus the sine in the first quarter, zero in the second. -/
def ups (a : FVec Ideal S4096x64 .f32) : FVec Ideal S4096x64 .f32 := select firsts (Host.negf a) zeros

/-- The factors of the lane sixteen before: zero in the first quarter, the sine in the second. -/
def downs (a : FVec Ideal S4096x64 .f32) : FVec Ideal S4096x64 .f32 := select firsts zeros a

variable (m : (ℓ : Loc nD τ sig) → Buf (Elt Ideal) ℓ)

/-- The kernel's cosines are the argument's, twice. -/
theorem V_cos (c : Dev nD) : V m c main_v6 = tile (m ((c : Thread nD τ).loc main_arg7)) := by
  unfold V
  simp only [hostOps0, hostOps0_1, hostOps0_2, hostOps0_3, hostOps0_4, List.flatten_cons, List.flatten_nil, List.append_nil, List.cons_append, List.nil_append]
  after_results
  rfl

/-- The kernel's upward factors are the argument's, twice. -/
theorem V_up (c : Dev nD) : V m c main_v9 = tile (ups (m ((c : Thread nD τ).loc main_arg8))) := by
  unfold V
  simp only [hostOps0, hostOps0_1, hostOps0_2, hostOps0_3, hostOps0_4, List.flatten_cons, List.flatten_nil, List.append_nil, List.cons_append, List.nil_append]
  after_results
  rfl

/-- The kernel's downward factors are the argument's, twice. -/
theorem V_down (c : Dev nD) : V m c main_v12 = tile (downs (m ((c : Thread nD τ).loc main_arg8))) := by
  unfold V
  simp only [hostOps0, hostOps0_1, hostOps0_2, hostOps0_3, hostOps0_4, List.flatten_cons, List.flatten_nil, List.append_nil, List.cons_append, List.nil_append]
  after_results
  rfl

/-- The table at a lane is the narrow table at the lane's place in its head. -/
theorem tile_apply (a : FVec Ideal S4096x64 .f32) (s : Fin 4096) (l : Fin 128) :
    tile a (ix2 s l) = a (ix2 s ⟨l.val % 64, by omega⟩) := by
  pointwise [tile]

/-- The choice at a lane. -/
theorem first_apply : ∀ l : Fin 64, first (ix1 l) = if l.val % 32 < 16 then 1#1 else 0#1 := by
  decide

/-- The upward factor at a token and lane. -/
theorem ups_apply (a : FVec Ideal S4096x64 .f32) (s : Fin 4096) (l : Fin 64) :
    ups a (ix2 s l) = if l.val % 32 < 16 then -(a (ix2 s l)) else 0 := by
  have h := first_apply l
  revert h
  unfold ups firsts zeros
  generalize first = f
  intro h
  pointwise
  rw [h]
  by_cases hl : l.val % 32 < 16
  · rw [if_pos hl, if_pos hl]; rfl
  · rw [if_neg hl, if_neg hl]; rfl

/-- The downward factor at a token and lane. -/
theorem downs_apply (a : FVec Ideal S4096x64 .f32) (s : Fin 4096) (l : Fin 64) :
    downs a (ix2 s l) = if l.val % 32 < 16 then 0 else a (ix2 s l) := by
  have h := first_apply l
  revert h
  unfold downs firsts zeros
  generalize first = f
  intro h
  pointwise
  rw [h]
  by_cases hl : l.val % 32 < 16
  · rw [if_pos hl, if_pos hl]; rfl
  · rw [if_neg hl, if_neg hl]; rfl

end Cert.ProjIdeal.Pr

end
-- ==== Proof.ProjArray.lean ====
/- The arrays the input projection leaves, element by element, from the call's arguments. -/
module

public import proofs.«01_k».proof.Proof.ProjPoint
public import proofs.«01_k».proof.Proof.ProjHost
public import proofs.«01_k».proof.Proof.Place

@[expose] public section

set_option maxRecDepth 16384

noncomputable section

namespace Cert.ProjIdeal.Pr

open Cert.ProjIdeal Cert.ProjIdeal.Gen Cert.ProjIdeal.Value Idealize.ShloMosaic Idealize.ShloMosaic.TcCoe Idealize.SL.Sem
open Cert.Inproj

variable (m : (ℓ : Loc nD τ sig) → Buf (Elt Ideal) ℓ)

/-- Where each grid point's blocks are. -/
theorem idx_facts : ∀ t : Fin cfg0.N, (grid0.coords t 0).val = t.val / 8 ∧
    (win0_0.index t (0 : Fin 3) = t.val % 8 ∧ win0_0.index t (1 : Fin 3) = t.val / 8 ∧ win0_0.index t (2 : Fin 3) = 0) ∧
    (win0_1.index t (0 : Fin 3) = t.val % 8 ∧ win0_1.index t (1 : Fin 3) = (t.val / 8 * 64 - 1) ∧ win0_1.index t (2 : Fin 3) = 0) ∧
    (win0_2.index t (0 : Fin 3) = t.val % 8 ∧ win0_2.index t (1 : Fin 3) = (min 511 (t.val / 8 * 64 + 64)) ∧ win0_2.index t (2 : Fin 3) = 0) ∧
    (win0_3.index t (0 : Fin 3) = t.val % 8 ∧ win0_3.index t (1 : Fin 3) = 0 ∧ win0_3.index t (2 : Fin 3) = 0) ∧
    (win0_4.index t (0 : Fin 3) = t.val % 8 ∧ win0_4.index t (1 : Fin 3) = 0 ∧ win0_4.index t (2 : Fin 3) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) ∧
    (win0_8.index t (0 : Fin 2) = 0 ∧ win0_8.index t (1 : Fin 2) = 0) ∧
    (win0_9.index t (0 : Fin 2) = t.val / 8 ∧ win0_9.index t (1 : Fin 2) = 0) ∧
    (win0_10.index t (0 : Fin 2) = t.val / 8 ∧ win0_10.index t (1 : Fin 2) = 0) ∧
    (win0_11.index t (0 : Fin 2) = t.val / 8 ∧ win0_11.index t (1 : Fin 2) = 0) ∧
    (win0_12.index t (0 : Fin 3) = t.val % 8 ∧ win0_12.index t (1 : Fin 3) = t.val / 8 ∧ win0_12.index t (2 : Fin 3) = 0) ∧
    (win0_13.index t (0 : Fin 3) = t.val % 8 ∧ win0_13.index t (1 : Fin 3) = t.val / 8 ∧ win0_13.index t (2 : Fin 3) = 0) ∧
    (win0_14.index t (0 : Fin 3) = t.val % 8 ∧ win0_14.index t (1 : Fin 3) = t.val / 8 ∧ win0_14.index t (2 : Fin 3) = 0) ∧
    (win0_15.index t (0 : Fin 3) = t.val % 8 ∧ win0_15.index t (1 : Fin 3) = t.val / 8 ∧ win0_15.index t (2 : Fin 3) = 0) ∧
    (win0_16.index t (0 : Fin 3) = t.val % 8 ∧ win0_16.index t (1 : Fin 3) = t.val / 8 ∧ win0_16.index t (2 : Fin 3) = 0) :=
  (by decide +kernel : ∀ t : Fin grid0.N, _)

/-- The tokens the call is given. -/
def X (c : Dev nD) : S8x4096x1024.Idx → EReal := m ((c : Thread nD τ).loc main_arg0)
/-- The shifts the call is given. -/
def SH (c : Dev nD) : S8x1x1024.Idx → EReal := m ((c : Thread nD τ).loc main_arg1)
/-- The scales the call is given. -/
def SC (c : Dev nD) : S8x1x1024.Idx → EReal := m ((c : Thread nD τ).loc main_arg2)
/-- The norm's gains the call is given. -/
def G (c : Dev nD) : S1x1024.Idx → EReal := m ((c : Thread nD τ).loc main_arg3)
/-- The weights the call is given. -/
def WT (c : Dev nD) : S1024x2304.Idx → EReal := m ((c : Thread nD τ).loc main_arg4)
/-- The convolution's weights the call is given. -/
def CW (c : Dev nD) : S3x768.Idx → EReal := m ((c : Thread nD τ).loc main_arg5)
/-- The convolution's biases the call is given. -/
def CB (c : Dev nD) : S1x768.Idx → EReal := m ((c : Thread nD τ).loc main_arg6)
/-- The rotation's cosines the call is given. -/
def CO (c : Dev nD) : S4096x64.Idx → EReal := m ((c : Thread nD τ).loc main_arg7)
/-- The rotation's sines the call is given. -/
def SI (c : Dev nD) : S4096x64.Idx → EReal := m ((c : Thread nD τ).loc main_arg8)

/-- The block of the tokens, read at an index. -/
theorem iblk0_apply (c : Dev nD) (t : Fin cfg0.N) (r : Fin 512) (k : Fin 1024) (b : Fin 8) (s : Fin 4096) (hb : b.val = t.val % 8) (hs : s.val = t.val / 8 * 512 + r.val) :
    (iblk m c 0 t : Vec Ideal S1x512x1024 .f32) (ix3 0 r k) = X m c (ix3 b s k) := by
  obtain ⟨h00, ⟨h0, h1, h2⟩, -, -, -, -, -, -, -, -, -, -, -, -, -, -, -, -⟩ := idx_facts t
  have hN : cfg0.N = 64 := N_0
  have ht : t.val < 64 := lt_of_lt_of_eq t.isLt hN
  unfold iblk
  rw [View.read_apply]
  show V m c main_arg0 _ = m (c.tc.loc main_arg0) _
  rw [V_main_arg0]
  exact congrArg (m (c.tc.loc main_arg0)) (Place.emb_eq win0_0 t (ix3 0 r k) (ix3 b s k) (Place.at3 (by omega) (by omega) (by omega)))

/-- The block of the tokens before, read at an index. -/
theorem iblk1_apply (c : Dev nD) (t : Fin cfg0.N) (r : Fin 8) (k : Fin 1024) (b : Fin 8) (s : Fin 4096) (hb : b.val = t.val % 8) (hj : t.val / 8 ≠ 0) (hs : s.val + 8 = t.val / 8 * 512 + r.val) :
    (iblk m c 1 t : Vec Ideal S1x8x1024 .f32) (ix3 0 r k) = X m c (ix3 b s k) := by
  obtain ⟨h00, -, ⟨h0, h1, h2⟩, -, -, -, -, -, -, -, -, -, -, -, -, -, -, -⟩ := idx_facts t
  have hN : cfg0.N = 64 := N_0
  have ht : t.val < 64 := lt_of_lt_of_eq t.isLt hN
  unfold iblk
  rw [View.read_apply]
  show V m c main_arg0 _ = m (c.tc.loc main_arg0) _
  rw [V_main_arg0]
  exact congrArg (m (c.tc.loc main_arg0)) (Place.emb_eq win0_1 t (ix3 0 r k) (ix3 b s k) (Place.at3 (by omega) (by omega) (by omega)))

/-- The block of the tokens after, read at an index. -/
theorem iblk2_apply (c : Dev nD) (t : Fin cfg0.N) (r : Fin 8) (k : Fin 1024) (b : Fin 8) (s : Fin 4096) (hb : b.val = t.val % 8) (hj : t.val / 8 ≠ 7) (hs : s.val = t.val / 8 * 512 + 512 + r.val) :
    (iblk m c 2 t : Vec Ideal S1x8x1024 .f32) (ix3 0 r k) = X m c (ix3 b s k) := by
  obtain ⟨h00, -, -, ⟨h0, h1, h2⟩, -, -, -, -, -, -, -, -, -, -, -, -, -, -⟩ := idx_facts t
  have hN : cfg0.N = 64 := N_0
  have ht : t.val < 64 := lt_of_lt_of_eq t.isLt hN
  unfold iblk
  rw [View.read_apply]
  show V m c main_arg0 _ = m (c.tc.loc main_arg0) _
  rw [V_main_arg0]
  exact congrArg (m (c.tc.loc main_arg0)) (Place.emb_eq win0_2 t (ix3 0 r k) (ix3 b s k) (Place.at3 (by omega) (by omega) (by omega)))

/-- The block of the shifts, read at an index. -/
theorem iblk3_apply (c : Dev nD) (t : Fin cfg0.N) (k : Fin 1024) (b : Fin 8) (hb : b.val = t.val % 8) :
    (iblk m c 3 t : Vec Ideal S1x1x1024 .f32) (ix3 0 0 k) = SH m c (ix3 b 0 k) := by
  obtain ⟨h00, -, -, -, ⟨h0, h1, h2⟩, -, -, -, -, -, -, -, -, -, -, -, -, -⟩ := idx_facts t
  have hN : cfg0.N = 64 := N_0
  have ht : t.val < 64 := lt_of_lt_of_eq t.isLt hN
  unfold iblk
  rw [View.read_apply]
  show V m c main_arg1 _ = m (c.tc.loc main_arg1) _
  rw [V_main_arg1]
  exact congrArg (m (c.tc.loc main_arg1)) (Place.emb_eq win0_3 t (ix3 0 0 k) (ix3 b 0 k) (Place.at3 (by omega) (by omega) (by omega)))

/-- The block of the scales, read at an index. -/
theorem iblk4_apply (c : Dev nD) (t : Fin cfg0.N) (k : Fin 1024) (b : Fin 8) (hb : b.val = t.val % 8) :
    (iblk m c 4 t : Vec Ideal S1x1x1024 .f32) (ix3 0 0 k) = SC m c (ix3 b 0 k) := by
  obtain ⟨h00, -, -, -, -, ⟨h0, h1, h2⟩, -, -, -, -, -, -, -, -, -, -, -, -⟩ := idx_facts t
  have hN : cfg0.N = 64 := N_0
  have ht : t.val < 64 := lt_of_lt_of_eq t.isLt hN
  unfold iblk
  rw [View.read_apply]
  show V m c main_arg2 _ = m (c.tc.loc main_arg2) _
  rw [V_main_arg2]
  exact congrArg (m (c.tc.loc main_arg2)) (Place.emb_eq win0_4 t (ix3 0 0 k) (ix3 b 0 k) (Place.at3 (by omega) (by omega) (by omega)))

/-- The gains, read at an index. -/
theorem iblk5_apply (c : Dev nD) (t : Fin cfg0.N) (k : Fin 1024)  :
    (iblk m c 5 t : Vec Ideal S1x1024 .f32) (ix2 0 k) = G m c (ix2 0 k) := by
  obtain ⟨h00, -, -, -, -, -, ⟨h0, h1⟩, -, -, -, -, -, -, -, -, -, -, -⟩ := idx_facts t
  have hN : cfg0.N = 64 := N_0
  have ht : t.val < 64 := lt_of_lt_of_eq t.isLt hN
  unfold iblk
  rw [View.read_apply]
  show V m c main_arg3 _ = m (c.tc.loc main_arg3) _
  rw [V_main_arg3]
  exact congrArg (m (c.tc.loc main_arg3)) (Place.emb_eq win0_5 t (ix2 0 k) (ix2 0 k) (Place.at2 (by omega) (by omega)))

/-- The weights, read at an index. -/
theorem iblk6_apply (c : Dev nD) (t : Fin cfg0.N) (k : Fin 1024) (l : Fin 2304)  :
    (iblk m c 6 t : Vec Ideal S1024x2304 .bf16) (ix2 k l) = WT m c (ix2 k l) := by
  obtain ⟨h00, -, -, -, -, -, -, ⟨h0, h1⟩, -, -, -, -, -, -, -, -, -, -⟩ := idx_facts t
  have hN : cfg0.N = 64 := N_0
  have ht : t.val < 64 := lt_of_lt_of_eq t.isLt hN
  unfold iblk
  rw [View.read_apply]
  show V m c main_arg4 _ = m (c.tc.loc main_arg4) _
  rw [V_main_arg4]
  exact congrArg (m (c.tc.loc main_arg4)) (Place.emb_eq win0_6 t (ix2 k l) (ix2 k l) (Place.at2 (by omega) (by omega)))

/-- The convolution's weights, read at an index. -/
theorem iblk7_apply (c : Dev nD) (t : Fin cfg0.N) (k : Fin 3) (l : Fin 768)  :
    (iblk m c 7 t : Vec Ideal S3x768 .f32) (ix2 k l) = CW m c (ix2 k l) := by
  obtain ⟨h00, -, -, -, -, -, -, -, ⟨h0, h1⟩, -, -, -, -, -, -, -, -, -⟩ := idx_facts t
  have hN : cfg0.N = 64 := N_0
  have ht : t.val < 64 := lt_of_lt_of_eq t.isLt hN
  unfold iblk
  rw [View.read_apply]
  show V m c main_arg5 _ = m (c.tc.loc main_arg5) _
  rw [V_main_arg5]
  exact congrArg (m (c.tc.loc main_arg5)) (Place.emb_eq win0_7 t (ix2 k l) (ix2 k l) (Place.at2 (by omega) (by omega)))

/-- The convolution's biases, read at an index. -/
theorem iblk8_apply (c : Dev nD) (t : Fin cfg0.N) (l : Fin 768)  :
    (iblk m c 8 t : Vec Ideal S1x768 .f32) (ix2 0 l) = CB m c (ix2 0 l) := by
  obtain ⟨h00, -, -, -, -, -, -, -, -, ⟨h0, h1⟩, -, -, -, -, -, -, -, -⟩ := idx_facts t
  have hN : cfg0.N = 64 := N_0
  have ht : t.val < 64 := lt_of_lt_of_eq t.isLt hN
  unfold iblk
  rw [View.read_apply]
  show V m c main_arg6 _ = m (c.tc.loc main_arg6) _
  rw [V_main_arg6]
  exact congrArg (m (c.tc.loc main_arg6)) (Place.emb_eq win0_8 t (ix2 0 l) (ix2 0 l) (Place.at2 (by omega) (by omega)))

/-- The block of the cosines, read at an index. -/
theorem iblk9_apply (c : Dev nD) (t : Fin cfg0.N) (r : Fin 512) (l : Fin 128) (s : Fin 4096) (hs : s.val = t.val / 8 * 512 + r.val) :
    (iblk m c 9 t : Vec Ideal S512x128 .f32) (ix2 r l) = CO m c (ix2 s ⟨l.val % 64, by omega⟩) := by
  obtain ⟨h00, -, -, -, -, -, -, -, -, -, ⟨h0, h1⟩, -, -, -, -, -, -, -⟩ := idx_facts t
  have hN : cfg0.N = 64 := N_0
  have ht : t.val < 64 := lt_of_lt_of_eq t.isLt hN
  unfold iblk
  rw [View.read_apply]
  show V m c main_v6 _ = _
  rw [V_cos]
  refine Eq.trans (congrArg (tile (CO m c) : S4096x128.Idx → EReal) (?_ : _ = (ix2 s l : S4096x128.Idx))) ?_
  · exact Place.emb_eq win0_9 t (ix2 r l) (ix2 s l) (Place.at2 (by omega) (by omega))
  · exact tile_apply _ s l

/-- The block of the upward factors, read at an index. -/
theorem iblk10_apply (c : Dev nD) (t : Fin cfg0.N) (r : Fin 512) (l : Fin 128) (s : Fin 4096) (hs : s.val = t.val / 8 * 512 + r.val) :
    (iblk m c 10 t : Vec Ideal S512x128 .f32) (ix2 r l) = if l.val % 64 % 32 < 16 then -(SI m c (ix2 s ⟨l.val % 64, by omega⟩)) else 0 := by
  obtain ⟨h00, -, -, -, -, -, -, -, -, -, -, ⟨h0, h1⟩, -, -, -, -, -, -⟩ := idx_facts t
  have hN : cfg0.N = 64 := N_0
  have ht : t.val < 64 := lt_of_lt_of_eq t.isLt hN
  unfold iblk
  rw [View.read_apply]
  show V m c main_v9 _ = _
  rw [V_up]
  refine Eq.trans (congrArg (tile (ups (SI m c)) : S4096x128.Idx → EReal) (?_ : _ = (ix2 s l : S4096x128.Idx))) ?_
  · exact Place.emb_eq win0_10 t (ix2 r l) (ix2 s l) (Place.at2 (by omega) (by omega))
  · exact (tile_apply _ s l).trans (ups_apply _ s _)

/-- The block of the downward factors, read at an index. -/
theorem iblk11_apply (c : Dev nD) (t : Fin cfg0.N) (r : Fin 512) (l : Fin 128) (s : Fin 4096) (hs : s.val = t.val / 8 * 512 + r.val) :
    (iblk m c 11 t : Vec Ideal S512x128 .f32) (ix2 r l) = if l.val % 64 % 32 < 16 then 0 else SI m c (ix2 s ⟨l.val % 64, by omega⟩) := by
  obtain ⟨h00, -, -, -, -, -, -, -, -, -, -, -, ⟨h0, h1⟩, -, -, -, -, -⟩ := idx_facts t
  have hN : cfg0.N = 64 := N_0
  have ht : t.val < 64 := lt_of_lt_of_eq t.isLt hN
  unfold iblk
  rw [View.read_apply]
  show V m c main_v12 _ = _
  rw [V_down]
  refine Eq.trans (congrArg (tile (downs (SI m c)) : S4096x128.Idx → EReal) (?_ : _ = (ix2 s l : S4096x128.Idx))) ?_
  · exact Place.emb_eq win0_11 t (ix2 r l) (ix2 s l) (Place.at2 (by omega) (by omega))
  · exact (tile_apply _ s l).trans (downs_apply _ s _)

/-- A token's product with a column of the weights, from the call's arguments. -/
abbrev T (c : Dev nD) (b : Fin 8) (s : Fin 4096) (l : Fin 2304) : EReal := tok (X m c) (SH m c) (SC m c) (G m c) (WT m c) b s l

/-- A row of the blocks at a grid point has the product of the token it is. -/
theorem row_tok (c : Dev nD) (t : Fin cfg0.N) (b : Fin 8) (hb : b.val = t.val % 8) (s : Fin 4096) (l : Fin 2304) (x : Fin 1024 → EReal)
    (hx : ∀ k, x k = X m c (ix3 b s k)) :
    prj x (fun k => (iblk m c 5 t : Vec Ideal S1x1024 .f32) (ix2 0 k)) (fun k => (iblk m c 3 t : Vec Ideal S1x1x1024 .f32) (ix3 0 0 k))
      (fun k => (iblk m c 4 t : Vec Ideal S1x1x1024 .f32) (ix3 0 0 k)) (fun k => (iblk m c 6 t : Vec Ideal S1024x2304 .bf16) (ix2 k l))
      = T m c b s l := by
  unfold T tok
  simp only [iblk5_apply m c t, iblk3_apply m c t _ b hb, iblk4_apply m c t _ b hb, iblk6_apply m c t]
  exact congrArg (fun x => prj x _ _ _ _) (funext hx)

/-- The convolved array: each token with those before and after it. -/
theorem array12_apply (c : Dev nD) (b : Fin 8) (s : Fin 4096) (l : Fin 768) :
    ((dats m 0 c).arrAt 12 cfg0.N : S8x4096x768.Idx → EReal) (ix3 b s l)
      = conv (prev (fun s => T m c b s ⟨l.val, by omega⟩) s) (T m c b s ⟨l.val, by omega⟩) (next (fun s => T m c b s ⟨l.val, by omega⟩) s)
          (CW m c (ix2 0 l)) (CW m c (ix2 1 l)) (CW m c (ix2 2 l)) (CB m c (ix2 0 l)) := by
  have hN : cfg0.N = 64 := N_0
  have hS := s.isLt
  have hbl := b.isLt
  obtain ⟨t, ht⟩ : ∃ t : Fin cfg0.N, t.val = s.val / 512 * 8 + b.val := ⟨⟨s.val / 512 * 8 + b.val, by rw [hN]; omega⟩, rfl⟩
  obtain ⟨r, hr⟩ : ∃ r : Fin 512, r.val = s.val % 512 := ⟨⟨s.val % 512, by omega⟩, rfl⟩
  have hb : b.val = t.val % 8 := by omega
  have hs : s.val = t.val / 8 * 512 + r.val := by omega
  have hblk := congrFun (blocks12 m c t (flush0_12 t)) (ix3 0 r l)
  obtain ⟨h00, -, -, -, -, -, -, -, -, -, -, -, -, ⟨h0, h1, h2⟩, -, -, -, -⟩ := idx_facts t
  rw [View.read_apply] at hblk
  have he : ((cfg0.win 12).blk t).view.emb (ix3 0 r l) = ix3 b s l :=
    Place.emb_eq win0_12 t (ix3 0 r l) (ix3 b s l) (Place.at3 (by omega) (by omega) (by omega))
  refine (congrArg ((dats m 0 c).arrAt 12 cfg0.N : S8x4096x768.Idx → EReal) he.symm).trans (hblk.trans ?_)
  rw [flushed12]
  obtain ⟨n, hn⟩ : ∃ n : ℕ, n = t.val / 8 := ⟨_, rfl⟩
  have hn8 : n < 8 := by omega
  refine (out12_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) n hn8 (h00.trans hn.symm) r l (fun s => T m c b s ⟨l.val, by omega⟩) ?_ ?_ ?_).trans ?_
  · intro r
    exact row_tok m c t b hb _ _ _ fun k => iblk0_apply m c t r k b _ hb (by dsimp only; omega)
  · intro h
    exact row_tok m c t b hb _ _ _ fun k => iblk1_apply m c t 7 k b _ hb (by omega) (by show n * 512 - 1 + 8 = t.val / 8 * 512 + 7; omega)
  · intro h
    exact row_tok m c t b hb _ _ _ fun k => iblk2_apply m c t 0 k b _ hb (by omega) (by show n * 512 + 512 = t.val / 8 * 512 + 512 + 0; omega)
  · have e : (⟨n * 512 + r.val, by omega⟩ : Fin 4096) = s := Fin.ext (by dsimp only; omega)
    rw [e, iblk7_apply m c t, iblk7_apply m c t, iblk7_apply m c t, iblk8_apply m c t]

/-- The pooled array. -/
theorem array13_apply (c : Dev nD) (b : Fin 8) (s : Fin 4096) (l : Fin 256) :
    ((dats m 0 c).arrAt 13 cfg0.N : S8x4096x256.Idx → EReal) (ix3 b s l)
      = T m c b s ⟨768 + l.val, by omega⟩ := by
  have hN : cfg0.N = 64 := N_0
  have hS := s.isLt
  have hbl := b.isLt
  obtain ⟨t, ht⟩ : ∃ t : Fin cfg0.N, t.val = s.val / 512 * 8 + b.val := ⟨⟨s.val / 512 * 8 + b.val, by rw [hN]; omega⟩, rfl⟩
  obtain ⟨r, hr⟩ : ∃ r : Fin 512, r.val = s.val % 512 := ⟨⟨s.val % 512, by omega⟩, rfl⟩
  have hb : b.val = t.val % 8 := by omega
  have hs : s.val = t.val / 8 * 512 + r.val := by omega
  have hblk := congrFun (blocks13 m c t (flush0_13 t)) (ix3 0 r l)
  obtain ⟨h00, -, -, -, -, -, -, -, -, -, -, -, -, -, ⟨h0, h1, h2⟩, -, -, -⟩ := idx_facts t
  rw [View.read_apply] at hblk
  have he : ((cfg0.win 13).blk t).view.emb (ix3 0 r l) = ix3 b s l :=
    Place.emb_eq win0_13 t (ix3 0 r l) (ix3 b s l) (Place.at3 (by omega) (by omega) (by omega))
  refine (congrArg ((dats m 0 c).arrAt 13 cfg0.N : S8x4096x256.Idx → EReal) he.symm).trans (hblk.trans ?_)
  rw [flushed13]
  refine (out13_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r l).trans ?_
  exact row_tok m c t b hb s _ _ fun k => iblk0_apply m c t r k b s hb hs

/-- The neighbourhood queries. -/
theorem array15_apply (c : Dev nD) (b : Fin 8) (s : Fin 4096) (l : Fin 256) :
    ((dats m 0 c).arrAt 15 cfg0.N : S8x4096x256.Idx → EReal) (ix3 b s l)
      = T m c b s ⟨1280 + l.val, by omega⟩ * Ideal.ofBits FTy.f32 0x3E000000#32 := by
  have hN : cfg0.N = 64 := N_0
  have hS := s.isLt
  have hbl := b.isLt
  obtain ⟨t, ht⟩ : ∃ t : Fin cfg0.N, t.val = s.val / 512 * 8 + b.val := ⟨⟨s.val / 512 * 8 + b.val, by rw [hN]; omega⟩, rfl⟩
  obtain ⟨r, hr⟩ : ∃ r : Fin 512, r.val = s.val % 512 := ⟨⟨s.val % 512, by omega⟩, rfl⟩
  have hb : b.val = t.val % 8 := by omega
  have hs : s.val = t.val / 8 * 512 + r.val := by omega
  have hblk := congrFun (blocks15 m c t (flush0_15 t)) (ix3 0 r l)
  obtain ⟨h00, -, -, -, -, -, -, -, -, -, -, -, -, -, -, -, ⟨h0, h1, h2⟩, -⟩ := idx_facts t
  rw [View.read_apply] at hblk
  have he : ((cfg0.win 15).blk t).view.emb (ix3 0 r l) = ix3 b s l :=
    Place.emb_eq win0_15 t (ix3 0 r l) (ix3 b s l) (Place.at3 (by omega) (by omega) (by omega))
  refine (congrArg ((dats m 0 c).arrAt 15 cfg0.N : S8x4096x256.Idx → EReal) he.symm).trans (hblk.trans ?_)
  rw [flushed15]
  refine (out15_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r l).trans ?_
  exact congrArg (· * Ideal.ofBits FTy.f32 0x3E000000#32) (row_tok m c t b hb s _ _ fun k => iblk0_apply m c t r k b s hb hs)

/-- The window queries, rotated. -/
theorem array14_apply (c : Dev nD) (b : Fin 8) (s : Fin 4096) (l : Fin 256) :
    ((dats m 0 c).arrAt 14 cfg0.N : S8x4096x256.Idx → EReal) (ix3 b s l)
      = rot (T m c b s) (fun d => CO m c (ix2 s d)) (fun d => SI m c (ix2 s d)) ⟨1024 + l.val, by omega⟩ * Ideal.ofBits FTy.f32 0x3E000000#32 := by
  have hN : cfg0.N = 64 := N_0
  have hS := s.isLt
  have hbl := b.isLt
  obtain ⟨t, ht⟩ : ∃ t : Fin cfg0.N, t.val = s.val / 512 * 8 + b.val := ⟨⟨s.val / 512 * 8 + b.val, by rw [hN]; omega⟩, rfl⟩
  obtain ⟨r, hr⟩ : ∃ r : Fin 512, r.val = s.val % 512 := ⟨⟨s.val % 512, by omega⟩, rfl⟩
  have hb : b.val = t.val % 8 := by omega
  have hs : s.val = t.val / 8 * 512 + r.val := by omega
  have hblk := congrFun (blocks14 m c t (flush0_14 t)) (ix3 0 r l)
  obtain ⟨h00, -, -, -, -, -, -, -, -, -, -, -, -, -, -, ⟨h0, h1, h2⟩, -, -⟩ := idx_facts t
  rw [View.read_apply] at hblk
  have he : ((cfg0.win 14).blk t).view.emb (ix3 0 r l) = ix3 b s l :=
    Place.emb_eq win0_14 t (ix3 0 r l) (ix3 b s l) (Place.at3 (by omega) (by omega) (by omega))
  refine (congrArg ((dats m 0 c).arrAt 14 cfg0.N : S8x4096x256.Idx → EReal) he.symm).trans (hblk.trans ?_)
  rw [flushed14]
  exact out14_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r l (T m c b s) (fun d => CO m c (ix2 s d)) (fun d => SI m c (ix2 s d))
    (fun q => row_tok m c t b hb s _ _ fun k => iblk0_apply m c t r k b s hb hs) (fun l => iblk9_apply m c t r l s hs)
    (fun l => iblk10_apply m c t r l s hs) (fun l => iblk11_apply m c t r l s hs)

/-- The keys and values, the window keys rotated. -/
theorem array16_apply (c : Dev nD) (b : Fin 8) (s : Fin 4096) (l : Fin 768) :
    ((dats m 0 c).arrAt 16 cfg0.N : S8x4096x768.Idx → EReal) (ix3 b s l)
      = if l.val < 128 then rot (T m c b s) (fun d => CO m c (ix2 s d)) (fun d => SI m c (ix2 s d)) ⟨1536 + l.val, by omega⟩
        else T m c b s ⟨1536 + l.val, by omega⟩ := by
  have hN : cfg0.N = 64 := N_0
  have hS := s.isLt
  have hbl := b.isLt
  obtain ⟨t, ht⟩ : ∃ t : Fin cfg0.N, t.val = s.val / 512 * 8 + b.val := ⟨⟨s.val / 512 * 8 + b.val, by rw [hN]; omega⟩, rfl⟩
  obtain ⟨r, hr⟩ : ∃ r : Fin 512, r.val = s.val % 512 := ⟨⟨s.val % 512, by omega⟩, rfl⟩
  have hb : b.val = t.val % 8 := by omega
  have hs : s.val = t.val / 8 * 512 + r.val := by omega
  have hblk := congrFun (blocks16 m c t (flush0_16 t)) (ix3 0 r l)
  obtain ⟨h00, -, -, -, -, -, -, -, -, -, -, -, -, -, -, -, -, ⟨h0, h1, h2⟩⟩ := idx_facts t
  rw [View.read_apply] at hblk
  have he : ((cfg0.win 16).blk t).view.emb (ix3 0 r l) = ix3 b s l :=
    Place.emb_eq win0_16 t (ix3 0 r l) (ix3 b s l) (Place.at3 (by omega) (by omega) (by omega))
  refine (congrArg ((dats m 0 c).arrAt 16 cfg0.N : S8x4096x768.Idx → EReal) he.symm).trans (hblk.trans ?_)
  rw [flushed16]
  exact out16_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r l (T m c b s) (fun d => CO m c (ix2 s d)) (fun d => SI m c (ix2 s d))
    (fun q => row_tok m c t b hb s _ _ fun k => iblk0_apply m c t r k b s hb hs) (fun l => iblk9_apply m c t r l s hs)
    (fun l => iblk10_apply m c t r l s hs) (fun l => iblk11_apply m c t r l s hs)

end Cert.ProjIdeal.Pr

end
-- ==== Proof.ProjRef.lean ====
/- The input projection's reference over the extended reals, element by element. -/
module

public import proofs.«01_k».proof.Proof.ProjSpec
public import proofs.«01_k».proof.Proof.Gen.ProjRefIdeal.Run
public import proofs.«01_k».proof.Proof.Gen.ProjRefIdeal.Read
public import Idealize.ShloMosaic.Lib.KernelVsHost

@[expose] public section

set_option maxRecDepth 16384

noncomputable section

namespace Cert.ProjRefIdeal.Pr

open Cert.ProjRefIdeal Cert.ProjRefIdeal.Gen Cert.ProjRefIdeal.Read Idealize.ShloMosaic Idealize.ShloMosaic.TcCoe Idealize.SL.Sem
open Cert.Inproj

variable (x0 : S8x4096x1024.Idx → EReal) (x1 x2 : S8x1x1024.Idx → EReal) (x3 : S1x1024.Idx → EReal) (x4 : S1024x2304.Idx → EReal)
  (x5 : S3x768.Idx → EReal) (x6 : S1x768.Idx → EReal) (x7 x8 : S4096x64.Idx → EReal)

/-- The reference's products are the tokens'. -/
theorem px_apply (b : Fin 8) (s : Fin 4096) (l : Fin 2304) :
    val_main_v21 (F := Ideal) x0 x1 x2 x3 x4 (ix3 b s l) = tok x0 x1 x2 x3 x4 b s l := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]
  rfl

/-- The first quarters' lanes of the window queries' rotation. -/
theorem q_lo (b : Fin 8) (s : Fin 4096) (h : Fin 4) (f : Fin 2) (e : Fin 16) :
    val_main_v66 (F := Ideal) x0 x1 x2 x3 x4 x7 x8 (ix5 b s h f e)
      = rot (tok x0 x1 x2 x3 x4 b s) (fun d => x7 (ix2 s d)) (fun d => x8 (ix2 s d)) ⟨1024 + (h.val * 64 + f.val * 32 + e.val), by omega⟩ := by
  have hp := px_apply x0 x1 x2 x3 x4
  revert hp
  unfold val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48
  generalize val_main_v21 (F := Ideal) x0 x1 x2 x3 x4 = y
  intro hp
  pointwise
  rw [hp, hp]
  exact rot_lo _ (fun d => x7 (ix2 s d)) (fun d => x8 (ix2 s d)) _ _ _ (by dsimp only; omega) (by dsimp only; omega) (by dsimp only; omega)

/-- The second quarters' lanes of the window queries' rotation. -/
theorem q_hi (b : Fin 8) (s : Fin 4096) (h : Fin 4) (f : Fin 2) (e : Fin 16) :
    val_main_v81 (F := Ideal) x0 x1 x2 x3 x4 x7 x8 (ix5 b s h f e)
      = rot (tok x0 x1 x2 x3 x4 b s) (fun d => x7 (ix2 s d)) (fun d => x8 (ix2 s d)) ⟨1024 + (h.val * 64 + f.val * 32 + 16 + e.val), by omega⟩ := by
  have hp := px_apply x0 x1 x2 x3 x4
  revert hp
  unfold val_main_v81 val_main_v80 val_main_v79 val_main_v78 val_main_v77 val_main_v76 val_main_v75 val_main_v74 val_main_v73 val_main_v72 val_main_v71 val_main_v70 val_main_v69 val_main_v68 val_main_v67 val_main_v51 val_main_v50 val_main_v49 val_main_v48
  generalize val_main_v21 (F := Ideal) x0 x1 x2 x3 x4 = y
  intro hp
  pointwise
  rw [hp, hp]
  exact rot_hi _ (fun d => x7 (ix2 s d)) (fun d => x8 (ix2 s d)) _ _ _ (by dsimp only; omega) (by dsimp only; omega) (by dsimp only; omega)

/-- The window queries, rotated. -/
theorem q_rot (b : Fin 8) (s : Fin 4096) (l : Fin 256) :
    val_main_v85 (F := Ideal) x0 x1 x2 x3 x4 x7 x8 (ix3 b s l)
      = rot (tok x0 x1 x2 x3 x4 b s) (fun d => x7 (ix2 s d)) (fun d => x8 (ix2 s d)) ⟨1024 + l.val, by omega⟩ := by
  have ha := q_lo x0 x1 x2 x3 x4 x7 x8 b s
  have hb := q_hi x0 x1 x2 x3 x4 x7 x8 b s
  revert ha hb
  unfold val_main_v85 val_main_v84 val_main_v82 val_main_v83
  generalize val_main_v66 (F := Ideal) x0 x1 x2 x3 x4 x7 x8 = y
  generalize val_main_v81 (F := Ideal) x0 x1 x2 x3 x4 x7 x8 = z
  intro ha hb
  have hl := l.isLt
  obtain ⟨h, hh⟩ : ∃ h : Fin 4, h.val = l.val / 64 := ⟨⟨l.val / 64, by omega⟩, rfl⟩
  obtain ⟨f, hf⟩ : ∃ f : Fin 2, f.val = l.val / 32 % 2 := ⟨⟨l.val / 32 % 2, by omega⟩, rfl⟩
  obtain ⟨e, he⟩ : ∃ e : Fin 16, e.val = l.val % 16 := ⟨⟨l.val % 16, by omega⟩, rfl⟩
  by_cases hc : l.val % 32 < 16
  · have e1 : l = ⟨h.val * 64 + f.val * 32 + e.val, by omega⟩ := Fin.ext (by dsimp only; omega)
    have e2 : (⟨1024 + l.val, by omega⟩ : Fin 2304) = ⟨1024 + (h.val * 64 + f.val * 32 + e.val), by omega⟩ := Fin.ext (by dsimp only; omega)
    rw [e2, ← ha, e1]
    pointwise
    rw [dif_pos (by omega)]
  · have e1 : l = ⟨h.val * 64 + f.val * 32 + 16 + e.val, by omega⟩ := Fin.ext (by dsimp only; omega)
    have e2 : (⟨1024 + l.val, by omega⟩ : Fin 2304) = ⟨1024 + (h.val * 64 + f.val * 32 + 16 + e.val), by omega⟩ := Fin.ext (by dsimp only; omega)
    rw [e2, ← hb, e1]
    pointwise
    rw [dif_neg (by omega)]

/-- The first quarters' lanes of the window keys' rotation. -/
theorem k_lo (b : Fin 8) (s : Fin 4096) (h : Fin 2) (f : Fin 2) (e : Fin 16) :
    val_main_v109 (F := Ideal) x0 x1 x2 x3 x4 x7 x8 (ix5 b s h f e)
      = rot (tok x0 x1 x2 x3 x4 b s) (fun d => x7 (ix2 s d)) (fun d => x8 (ix2 s d)) ⟨1536 + (h.val * 64 + f.val * 32 + e.val), by omega⟩ := by
  have hp := px_apply x0 x1 x2 x3 x4
  revert hp
  unfold val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91
  generalize val_main_v21 (F := Ideal) x0 x1 x2 x3 x4 = y
  intro hp
  pointwise
  rw [hp, hp]
  exact rot_lo _ (fun d => x7 (ix2 s d)) (fun d => x8 (ix2 s d)) _ _ _ (by dsimp only; omega) (by dsimp only; omega) (by dsimp only; omega)

/-- The second quarters' lanes of the window keys' rotation. -/
theorem k_hi (b : Fin 8) (s : Fin 4096) (h : Fin 2) (f : Fin 2) (e : Fin 16) :
    val_main_v124 (F := Ideal) x0 x1 x2 x3 x4 x7 x8 (ix5 b s h f e)
      = rot (tok x0 x1 x2 x3 x4 b s) (fun d => x7 (ix2 s d)) (fun d => x8 (ix2 s d)) ⟨1536 + (h.val * 64 + f.val * 32 + 16 + e.val), by omega⟩ := by
  have hp := px_apply x0 x1 x2 x3 x4
  revert hp
  unfold val_main_v124 val_main_v123 val_main_v122 val_main_v121 val_main_v120 val_main_v119 val_main_v118 val_main_v117 val_main_v116 val_main_v115 val_main_v114 val_main_v113 val_main_v112 val_main_v111 val_main_v110 val_main_v94 val_main_v93 val_main_v92 val_main_v91
  generalize val_main_v21 (F := Ideal) x0 x1 x2 x3 x4 = y
  intro hp
  pointwise
  rw [hp, hp]
  exact rot_hi _ (fun d => x7 (ix2 s d)) (fun d => x8 (ix2 s d)) _ _ _ (by dsimp only; omega) (by dsimp only; omega) (by dsimp only; omega)

/-- The window keys, rotated. -/
theorem k_rot (b : Fin 8) (s : Fin 4096) (l : Fin 128) :
    val_main_v128 (F := Ideal) x0 x1 x2 x3 x4 x7 x8 (ix3 b s l)
      = rot (tok x0 x1 x2 x3 x4 b s) (fun d => x7 (ix2 s d)) (fun d => x8 (ix2 s d)) ⟨1536 + l.val, by omega⟩ := by
  have ha := k_lo x0 x1 x2 x3 x4 x7 x8 b s
  have hb := k_hi x0 x1 x2 x3 x4 x7 x8 b s
  revert ha hb
  unfold val_main_v128 val_main_v127 val_main_v125 val_main_v126
  generalize val_main_v109 (F := Ideal) x0 x1 x2 x3 x4 x7 x8 = y
  generalize val_main_v124 (F := Ideal) x0 x1 x2 x3 x4 x7 x8 = z
  intro ha hb
  have hl := l.isLt
  obtain ⟨h, hh⟩ : ∃ h : Fin 2, h.val = l.val / 64 := ⟨⟨l.val / 64, by omega⟩, rfl⟩
  obtain ⟨f, hf⟩ : ∃ f : Fin 2, f.val = l.val / 32 % 2 := ⟨⟨l.val / 32 % 2, by omega⟩, rfl⟩
  obtain ⟨e, he⟩ : ∃ e : Fin 16, e.val = l.val % 16 := ⟨⟨l.val % 16, by omega⟩, rfl⟩
  by_cases hc : l.val % 32 < 16
  · have e1 : l = ⟨h.val * 64 + f.val * 32 + e.val, by omega⟩ := Fin.ext (by dsimp only; omega)
    have e2 : (⟨1536 + l.val, by omega⟩ : Fin 2304) = ⟨1536 + (h.val * 64 + f.val * 32 + e.val), by omega⟩ := Fin.ext (by dsimp only; omega)
    rw [e2, ← ha, e1]
    pointwise
    rw [dif_pos (by omega)]
  · have e1 : l = ⟨h.val * 64 + f.val * 32 + 16 + e.val, by omega⟩ := Fin.ext (by dsimp only; omega)
    have e2 : (⟨1536 + l.val, by omega⟩ : Fin 2304) = ⟨1536 + (h.val * 64 + f.val * 32 + 16 + e.val), by omega⟩ := Fin.ext (by dsimp only; omega)
    rw [e2, ← hb, e1]
    pointwise
    rw [dif_neg (by omega)]

/-- THE REFERENCE'S POOLED COLUMNS. -/
theorem pool_apply (b : Fin 8) (s : Fin 4096) (l : Fin 256) :
    val_main_v131 (F := Ideal) x0 x1 x2 x3 x4 (ix3 b s l) = tok x0 x1 x2 x3 x4 b s ⟨768 + l.val, by omega⟩ := by
  rw [← px_apply]
  unfold val_main_v131
  generalize val_main_v21 (F := Ideal) x0 x1 x2 x3 x4 = y
  pointwise

/-- THE REFERENCE'S WINDOW QUERIES. -/
theorem q_apply (b : Fin 8) (s : Fin 4096) (l : Fin 256) :
    val_main_v132 (F := Ideal) x0 x1 x2 x3 x4 x7 x8 (ix3 b s l)
      = rot (tok x0 x1 x2 x3 x4 b s) (fun d => x7 (ix2 s d)) (fun d => x8 (ix2 s d)) ⟨1024 + l.val, by omega⟩ * Ideal.ofBits FTy.f32 0x3E000000#32 := by
  rw [← q_rot]
  unfold val_main_v132 val_main_v87 val_main_v86 val_main_cst_3
  generalize val_main_v85 (F := Ideal) x0 x1 x2 x3 x4 x7 x8 = y
  pointwise

/-- THE REFERENCE'S NEIGHBOURHOOD QUERIES. -/
theorem n_apply (b : Fin 8) (s : Fin 4096) (l : Fin 256) :
    val_main_v133 (F := Ideal) x0 x1 x2 x3 x4 (ix3 b s l)
      = tok x0 x1 x2 x3 x4 b s ⟨1280 + l.val, by omega⟩ * Ideal.ofBits FTy.f32 0x3E000000#32 := by
  rw [← px_apply]
  unfold val_main_v133 val_main_v90 val_main_v89 val_main_v88 val_main_cst_4
  generalize val_main_v21 (F := Ideal) x0 x1 x2 x3 x4 = y
  pointwise

/-- THE REFERENCE'S KEYS AND VALUES. -/
theorem kv_apply (b : Fin 8) (s : Fin 4096) (l : Fin 768) :
    val_main_v134 (F := Ideal) x0 x1 x2 x3 x4 x7 x8 (ix3 b s l)
      = if l.val < 128 then rot (tok x0 x1 x2 x3 x4 b s) (fun d => x7 (ix2 s d)) (fun d => x8 (ix2 s d)) ⟨1536 + l.val, by omega⟩
        else tok x0 x1 x2 x3 x4 b s ⟨1536 + l.val, by omega⟩ := by
  have hk := k_rot x0 x1 x2 x3 x4 x7 x8 b s
  have hp := px_apply x0 x1 x2 x3 x4 b s
  revert hk hp
  unfold val_main_v134 val_main_v130 val_main_v129
  generalize val_main_v128 (F := Ideal) x0 x1 x2 x3 x4 x7 x8 = y
  generalize val_main_v21 (F := Ideal) x0 x1 x2 x3 x4 = z
  intro hk hp
  have hl := l.isLt
  by_cases h : l.val < 128
  · rw [if_pos h, ← hk ⟨l.val, h⟩]
    pointwise
    rw [dif_pos h]
  · rw [if_neg h, ← hp]
    pointwise
    rw [dif_neg h]
    exact congrArg z (congrArg (ix3 b s) (Fin.ext (by dsimp only; omega)))

/-- The padded columns at a row of the padding's: zero before the first token and after the last. -/
theorem padded_apply (b : Fin 8) (t : Fin 4098) (l : Fin 768) :
    val_main_v23 (F := Ideal) x0 x1 x2 x3 x4 (ix3 b t l)
      = if h : 1 ≤ t.val ∧ t.val ≤ 4096 then tok x0 x1 x2 x3 x4 b ⟨t.val - 1, by omega⟩ ⟨l.val, by omega⟩ else 0 := by
  have hp := px_apply x0 x1 x2 x3 x4 b
  revert hp
  unfold val_main_v23 val_main_v22
  generalize val_main_v21 (F := Ideal) x0 x1 x2 x3 x4 = z
  intro hp
  simp only [← hp]
  refine (padded _ _ _ _ (fun i => ?_) b t l).trans ?_
  · unfold val_main_call0_v0 val_main_c
    exact sitofp_zero (φ := .f32)
  · refine dite_congr rfl (fun h => ?_) fun _ => rfl
    pointwise

/-- THE REFERENCE'S CONVOLVED COLUMNS. -/
theorem u_apply (b : Fin 8) (s : Fin 4096) (l : Fin 768) :
    val_main_v47 (F := Ideal) x0 x1 x2 x3 x4 x5 x6 (ix3 b s l)
      = conv (prev (fun s => tok x0 x1 x2 x3 x4 b s ⟨l.val, by omega⟩) s) (tok x0 x1 x2 x3 x4 b s ⟨l.val, by omega⟩)
          (next (fun s => tok x0 x1 x2 x3 x4 b s ⟨l.val, by omega⟩) s) (x5 (ix2 0 l)) (x5 (ix2 1 l)) (x5 (ix2 2 l)) (x6 (ix2 0 l)) := by
  have hp := fun t => padded_apply x0 x1 x2 x3 x4 b t l
  revert hp
  unfold val_main_v47 val_main_v46 val_main_v45 val_main_v44 val_main_v43 val_main_v42 val_main_v41 val_main_v40 val_main_v39 val_main_v38
    val_main_v37 val_main_v36 val_main_v35 val_main_v34 val_main_v33 val_main_v32 val_main_v31 val_main_v30 val_main_v29 val_main_v28
    val_main_v27 val_main_v26 val_main_v25 val_main_v24
  generalize val_main_v23 (F := Ideal) x0 x1 x2 x3 x4 = z
  intro hp
  obtain ⟨e0, e1, e2⟩ := neighbours (fun s => tok x0 x1 x2 x3 x4 b s ⟨l.val, by omega⟩) (fun t => z (ix3 b t l)) hp s
  rw [← e0, ← e1, ← e2]
  pointwise
  rfl

end Cert.ProjRefIdeal.Pr

end
-- ==== Proof.ProjClaim.lean ====
/- The input projection's value claim: the call's five arrays and the reference's results are the same functions of the
   arguments. -/
module

public import proofs.«01_k».proof.Defs
public import proofs.«01_k».proof.Proof.ProjArray
public import proofs.«01_k».proof.Proof.ProjRef
public import Idealize.ShloMosaic.Lib.Claim

@[expose] public section

set_option maxRecDepth 16384

noncomputable section

namespace Cert.Proof

open Idealize.ShloMosaic Idealize.ShloMosaic.TcCoe Idealize.SL.Sem

/-- The convolved columns the input projection leaves are the reference's on the same arguments. -/
theorem proj_result12 (m : (ℓ : Loc Cert.ProjIdeal.nD Cert.ProjIdeal.τ Cert.ProjIdeal.sig) → Buf (Elt Ideal) ℓ) (c : Dev Cert.ProjIdeal.nD) :
    Cert.ProjRefIdeal.Read.val_main_v47 (F := Ideal) (m ((c.tc : Thread Cert.ProjIdeal.nD Cert.ProjIdeal.τ).loc Cert.ProjIdeal.main_arg0))
        (m ((c.tc : Thread Cert.ProjIdeal.nD Cert.ProjIdeal.τ).loc Cert.ProjIdeal.main_arg1))
        (m ((c.tc : Thread Cert.ProjIdeal.nD Cert.ProjIdeal.τ).loc Cert.ProjIdeal.main_arg2))
        (m ((c.tc : Thread Cert.ProjIdeal.nD Cert.ProjIdeal.τ).loc Cert.ProjIdeal.main_arg3))
        (m ((c.tc : Thread Cert.ProjIdeal.nD Cert.ProjIdeal.τ).loc Cert.ProjIdeal.main_arg4))
        (m ((c.tc : Thread Cert.ProjIdeal.nD Cert.ProjIdeal.τ).loc Cert.ProjIdeal.main_arg5))
        (m ((c.tc : Thread Cert.ProjIdeal.nD Cert.ProjIdeal.τ).loc Cert.ProjIdeal.main_arg6))
      = (Cert.ProjIdeal.Gen.dats m 0 c).arrAt 12 Cert.ProjIdeal.cfg0.N := by
  funext i
  rw [eq_ix3 i]
  exact (Cert.ProjRefIdeal.Pr.u_apply _ _ _ _ _ _ _ _ _ _ ).trans (Cert.ProjIdeal.Pr.array12_apply m c _ _ _).symm

/-- The pooled columns the input projection leaves are the reference's on the same arguments. -/
theorem proj_result13 (m : (ℓ : Loc Cert.ProjIdeal.nD Cert.ProjIdeal.τ Cert.ProjIdeal.sig) → Buf (Elt Ideal) ℓ) (c : Dev Cert.ProjIdeal.nD) :
    Cert.ProjRefIdeal.Read.val_main_v131 (F := Ideal) (m ((c.tc : Thread Cert.ProjIdeal.nD Cert.ProjIdeal.τ).loc Cert.ProjIdeal.main_arg0))
        (m ((c.tc : Thread Cert.ProjIdeal.nD Cert.ProjIdeal.τ).loc Cert.ProjIdeal.main_arg1))
        (m ((c.tc : Thread Cert.ProjIdeal.nD Cert.ProjIdeal.τ).loc Cert.ProjIdeal.main_arg2))
        (m ((c.tc : Thread Cert.ProjIdeal.nD Cert.ProjIdeal.τ).loc Cert.ProjIdeal.main_arg3))
        (m ((c.tc : Thread Cert.ProjIdeal.nD Cert.ProjIdeal.τ).loc Cert.ProjIdeal.main_arg4))
      = (Cert.ProjIdeal.Gen.dats m 0 c).arrAt 13 Cert.ProjIdeal.cfg0.N := by
  funext i
  rw [eq_ix3 i]
  exact (Cert.ProjRefIdeal.Pr.pool_apply _ _ _ _ _ _ _ _ ).trans (Cert.ProjIdeal.Pr.array13_apply m c _ _ _).symm

/-- The window queries the input projection leaves are the reference's on the same arguments. -/
theorem proj_result14 (m : (ℓ : Loc Cert.ProjIdeal.nD Cert.ProjIdeal.τ Cert.ProjIdeal.sig) → Buf (Elt Ideal) ℓ) (c : Dev Cert.ProjIdeal.nD) :
    Cert.ProjRefIdeal.Read.val_main_v132 (F := Ideal) (m ((c.tc : Thread Cert.ProjIdeal.nD Cert.ProjIdeal.τ).loc Cert.ProjIdeal.main_arg0))
        (m ((c.tc : Thread Cert.ProjIdeal.nD Cert.ProjIdeal.τ).loc Cert.ProjIdeal.main_arg1))
        (m ((c.tc : Thread Cert.ProjIdeal.nD Cert.ProjIdeal.τ).loc Cert.ProjIdeal.main_arg2))
        (m ((c.tc : Thread Cert.ProjIdeal.nD Cert.ProjIdeal.τ).loc Cert.ProjIdeal.main_arg3))
        (m ((c.tc : Thread Cert.ProjIdeal.nD Cert.ProjIdeal.τ).loc Cert.ProjIdeal.main_arg4))
        (m ((c.tc : Thread Cert.ProjIdeal.nD Cert.ProjIdeal.τ).loc Cert.ProjIdeal.main_arg7))
        (m ((c.tc : Thread Cert.ProjIdeal.nD Cert.ProjIdeal.τ).loc Cert.ProjIdeal.main_arg8))
      = (Cert.ProjIdeal.Gen.dats m 0 c).arrAt 14 Cert.ProjIdeal.cfg0.N := by
  funext i
  rw [eq_ix3 i]
  exact (Cert.ProjRefIdeal.Pr.q_apply _ _ _ _ _ _ _ _ _ _ ).trans (Cert.ProjIdeal.Pr.array14_apply m c _ _ _).symm

/-- The neighbourhood queries the input projection leaves are the reference's on the same arguments. -/
theorem proj_result15 (m : (ℓ : Loc Cert.ProjIdeal.nD Cert.ProjIdeal.τ Cert.ProjIdeal.sig) → Buf (Elt Ideal) ℓ) (c : Dev Cert.ProjIdeal.nD) :
    Cert.ProjRefIdeal.Read.val_main_v133 (F := Ideal) (m ((c.tc : Thread Cert.ProjIdeal.nD Cert.ProjIdeal.τ).loc Cert.ProjIdeal.main_arg0))
        (m ((c.tc : Thread Cert.ProjIdeal.nD Cert.ProjIdeal.τ).loc Cert.ProjIdeal.main_arg1))
        (m ((c.tc : Thread Cert.ProjIdeal.nD Cert.ProjIdeal.τ).loc Cert.ProjIdeal.main_arg2))
        (m ((c.tc : Thread Cert.ProjIdeal.nD Cert.ProjIdeal.τ).loc Cert.ProjIdeal.main_arg3))
        (m ((c.tc : Thread Cert.ProjIdeal.nD Cert.ProjIdeal.τ).loc Cert.ProjIdeal.main_arg4))
      = (Cert.ProjIdeal.Gen.dats m 0 c).arrAt 15 Cert.ProjIdeal.cfg0.N := by
  funext i
  rw [eq_ix3 i]
  exact (Cert.ProjRefIdeal.Pr.n_apply _ _ _ _ _ _ _ _ ).trans (Cert.ProjIdeal.Pr.array15_apply m c _ _ _).symm

/-- The keys and values the input projection leaves are the reference's on the same arguments. -/
theorem proj_result16 (m : (ℓ : Loc Cert.ProjIdeal.nD Cert.ProjIdeal.τ Cert.ProjIdeal.sig) → Buf (Elt Ideal) ℓ) (c : Dev Cert.ProjIdeal.nD) :
    Cert.ProjRefIdeal.Read.val_main_v134 (F := Ideal) (m ((c.tc : Thread Cert.ProjIdeal.nD Cert.ProjIdeal.τ).loc Cert.ProjIdeal.main_arg0))
        (m ((c.tc : Thread Cert.ProjIdeal.nD Cert.ProjIdeal.τ).loc Cert.ProjIdeal.main_arg1))
        (m ((c.tc : Thread Cert.ProjIdeal.nD Cert.ProjIdeal.τ).loc Cert.ProjIdeal.main_arg2))
        (m ((c.tc : Thread Cert.ProjIdeal.nD Cert.ProjIdeal.τ).loc Cert.ProjIdeal.main_arg3))
        (m ((c.tc : Thread Cert.ProjIdeal.nD Cert.ProjIdeal.τ).loc Cert.ProjIdeal.main_arg4))
        (m ((c.tc : Thread Cert.ProjIdeal.nD Cert.ProjIdeal.τ).loc Cert.ProjIdeal.main_arg7))
        (m ((c.tc : Thread Cert.ProjIdeal.nD Cert.ProjIdeal.τ).loc Cert.ProjIdeal.main_arg8))
      = (Cert.ProjIdeal.Gen.dats m 0 c).arrAt 16 Cert.ProjIdeal.cfg0.N := by
  funext i
  rw [eq_ix3 i]
  exact (Cert.ProjRefIdeal.Pr.kv_apply _ _ _ _ _ _ _ _ _ _ ).trans (Cert.ProjIdeal.Pr.array16_apply m c _ _ _).symm

/-- Over the extended reals the input projection computes its reference, on every input. -/
theorem proj_algebraic : Cert.algebraic_ProjIdeal_ProjRefIdeal := by
  intro m g m' g' _ hargs
  refine ⟨fun c => (Cert.ProjIdeal.Gen.dats m 0 c).arrAt 12 Cert.ProjIdeal.cfg0.N, fun c => (Cert.ProjIdeal.Gen.dats m 0 c).arrAt 13 Cert.ProjIdeal.cfg0.N,
    fun c => (Cert.ProjIdeal.Gen.dats m 0 c).arrAt 14 Cert.ProjIdeal.cfg0.N, fun c => (Cert.ProjIdeal.Gen.dats m 0 c).arrAt 15 Cert.ProjIdeal.cfg0.N,
    fun c => (Cert.ProjIdeal.Gen.dats m 0 c).arrAt 16 Cert.ProjIdeal.cfg0.N, Cert.ProjIdeal.Value.run_blocks m g, ?_⟩
  refine (θ_run _ _ _).mono (fun r h c => ?_) (Cert.ProjRefIdeal.Value.run m' g')
  obtain ⟨r0, r1, r2, r3, r4, hk⟩ := h c
  obtain ⟨h0, h1, h2, h3, h4, h5, h6, h7, h8⟩ := hargs c
  refine ⟨r0.trans ((Cert.ProjRefIdeal.Read.val_main_v47_eq ..).trans ?_), r1.trans ((Cert.ProjRefIdeal.Read.val_main_v131_eq ..).trans ?_),
    r2.trans ((Cert.ProjRefIdeal.Read.val_main_v132_eq ..).trans ?_), r3.trans ((Cert.ProjRefIdeal.Read.val_main_v133_eq ..).trans ?_),
    r4.trans ((Cert.ProjRefIdeal.Read.val_main_v134_eq ..).trans ?_), hk⟩
  · rw [h0, h1, h2, h3, h4, h5, h6]
    exact proj_result12 m c
  · rw [h0, h1, h2, h3, h4]
    exact proj_result13 m c
  · rw [h0, h1, h2, h3, h4, h7, h8]
    exact proj_result14 m c
  · rw [h0, h1, h2, h3, h4]
    exact proj_result15 m c
  · rw [h0, h1, h2, h3, h4, h7, h8]
    exact proj_result16 m c

end Cert.Proof

end
-- ==== Proof.OutFrame.lean ====
module

public import proofs.«01_k».proof.Proof.Gen.OutIdeal.Launch
public import proofs.«01_k».proof.Proof.Gen.OutIdeal.Skeleton
public import proofs.«01_k».proof.Proof.Gen.OutIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! # The output projection runs and keeps its arguments

The body stores the modulated rows in eight pieces, piece `s` on the rows that leave the remainder
`s` on division by eight. The pieces cover the block, so what it holds after the body is a function
of the input blocks alone, and the launch follows as for a body with whole stores. -/

@[expose] public section

set_option maxRecDepth 16384

noncomputable section

namespace Cert.OutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutIdeal Cert.OutIdeal.Gen

variable {F : FTy → Type} [FloatOps F]

local notation "𝕄" => MT nD τ sig Unit (Elt F) ℕ (UR sig nD τ) ℕ

/-! ## The eight pieces -/

/-- The rows of the block that leave the remainder `s` on division by eight. -/
abbrev rows (s : Fin 8) : Rect S1x4096x128 :=
  ⟨⟨![0, s.val, 0], S1x512x128.size, ![1, 8, 1], fun a => by
    have := s.isLt
    match a with
    | 0 => exact .inr (by show 0 + 1 * 0 < 1; decide)
    | 1 => exact .inr (by show s.val + 8 * 511 < 4096; omega)
    | 2 => exact .inr (by show 0 + 1 * 127 < 128; decide)⟩, spos_1_8_1⟩

/-- The pieces `p 7`, …, `p 0`, the last stored first. -/
abbrev pieces (p : Fin 8 → Vec F S1x512x128 .f32) : List (View.Piece (Elt F) S1x4096x128 .f32) :=
  [⟨rows 7, p 7⟩, ⟨rows 6, p 6⟩, ⟨rows 5, p 5⟩, ⟨rows 4, p 4⟩, ⟨rows 3, p 3⟩, ⟨rows 2, p 2⟩,
    ⟨rows 1, p 1⟩, ⟨rows 0, p 0⟩]

/-- A row lies in the piece of its remainder and in no other. -/
theorem mem_rows (y : S1x4096x128.Idx) (s : Fin 8) : y ∈ (rows s).set ↔ (y 1).val % 8 = s.val := by
  have h0 : (y 0).val < 1 := (y 0).isLt
  have h1 : (y 1).val < 4096 := (y 1).isLt
  have h2 : (y 2).val < 128 := (y 2).isLt
  have hs := s.isLt
  rw [LoadRect.mem_set]
  constructor
  · intro h
    obtain ⟨j, hj, e⟩ := h 1
    replace e : (y 1).val = s.val + 8 * j := e
    omega
  · intro h a
    match a with
    | 0 => exact ⟨0, by show 0 < 1; decide, by show (y 0).val = 0 + 1 * 0; omega⟩
    | 1 => exact ⟨(y 1).val / 8, by show _ < 512; omega, by show (y 1).val = s.val + 8 * _; omega⟩
    | 2 => exact ⟨(y 2).val, h2, by show (y 2).val = 0 + 1 * _; omega⟩

theorem mem_pieces (p : Fin 8 → Vec F S1x512x128 .f32) (s : Fin 8) : (⟨rows s, p s⟩ : View.Piece (Elt F) S1x4096x128 .f32) ∈ pieces p := by
  fin_cases s <;> simp [pieces]

/-- The pieces cover the block. -/
theorem cover (p : Fin 8 → Vec F S1x512x128 .f32) (y : S1x4096x128.Idx) : ∃ pc ∈ pieces p, y ∈ pc.1.set :=
  ⟨_, mem_pieces p ⟨(y 1).val % 8, Nat.mod_lt _ (by decide)⟩, (mem_rows y _).2 rfl⟩

/-! ## What the body leaves -/

/-- The updated latents. -/
def mixed (x0 x1 x2 x3 : Vec F S1x512x256 .bf16) (x4 : Vec F S1x512x1024 .f32) (x5 : Vec F S1x1x1024 .f32)
    (x6 : Vec F S1024x1024 .bf16) : FVec F S512x1024 .f32 :=
  k0_pay6 x0 x1 x2 x3 x4 x5 x6

/-- The slices of the modulated rows `h`, one a piece. -/
def slices (v17 : FVec F S512x1024 .f32) (v21 : Vec F S1x1024 .f32) (v23 : FVec F S1x1024 .f32) (v24 : Vec F S1x1x1024 .f32) :
    Fin 8 → Vec F S1x512x128 .f32 :=
  ![k0_pay10 v17 v21 v23 v24, k0_pay11 v17 v21 v23 v24, k0_pay12 v17 v21 v23 v24, k0_pay13 v17 v21 v23 v24,
    k0_pay1 (k0_pay14 v17 v21 v23 v24), k0_pay2 (k0_pay9 v17 v21 v23 v24), k0_pay3 (k0_pay9 v17 v21 v23 v24),
    k0_pay4 (k0_pay9 v17 v21 v23 v24)]

abbrev rMix : Rect S1x512x256 := Rect.unit (s := S1x512x256) ![0, 0, 0] S1x512x256.size inb_S1x512x256_S1x512x256_0_0_0
abbrev rTok : Rect S1x512x1024 := Rect.unit (s := S1x512x1024) ![0, 0, 0] S1x512x1024.size inb_S1x512x1024_S1x512x1024_0_0_0
abbrev rVec : Rect S1x1x1024 := Rect.unit (s := S1x1x1024) ![0, 0, 0] S1x1x1024.size inb_S1x1x1024_S1x1x1024_0_0_0
abbrev rMat : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0
abbrev rExp : Rect S16x1024 := Rect.unit (s := S16x1024) ![0, 0] S16x1024.size inb_S16x1024_S16x1024_0_0
abbrev rAff : Rect S1x16x512 := Rect.unit (s := S1x16x512) ![0, 0, 0] S1x16x512.size inb_S1x16x512_S1x16x512_0_0_0

/-- The block of updated latents after the body, -/
def left11 (x0 x1 x2 x3 : Vec F S1x512x256 .bf16) (x4 : Vec F S1x512x1024 .f32) (x5 : Vec F S1x1x1024 .f32)
    (x6 : Vec F S1024x1024 .bf16) : Vec F S1x512x1024 .f32 :=
  View.canon [⟨rTok, k0_pay7 (View.ld x0 rMix) (View.ld x1 rMix) (View.ld x2 rMix) (View.ld x3 rMix) (View.ld x4 rTok) (View.ld x5 rVec) (View.ld x6 rMat)⟩]

/-- the block of modulated rows, -/
def left12 (x0 x1 x2 x3 : Vec F S1x512x256 .bf16) (x4 : Vec F S1x512x1024 .f32) (x5 : Vec F S1x1x1024 .f32)
    (x6 : Vec F S1024x1024 .bf16) (x7 : Vec F S1x1024 .f32) (x8 x9 : Vec F S1x1x1024 .f32) : Vec F S1x4096x128 .f32 :=
  View.canon (pieces (slices (mixed (View.ld x0 rMix) (View.ld x1 rMix) (View.ld x2 rMix) (View.ld x3 rMix) (View.ld x4 rTok) (View.ld x5 rVec) (View.ld x6 rMat))
    (View.ld x7 rRow) (k0_pay8 (View.ld x8 rVec)) (View.ld x9 rVec)))

/-- and the block of affinities. -/
def left13 (x0 x1 x2 x3 : Vec F S1x512x256 .bf16) (x4 : Vec F S1x512x1024 .f32) (x5 : Vec F S1x1x1024 .f32)
    (x6 : Vec F S1024x1024 .bf16) (x7 : Vec F S1x1024 .f32) (x8 x9 : Vec F S1x1x1024 .f32) (x10 : Vec F S16x1024 .bf16) : Vec F S1x16x512 .f32 :=
  View.canon [⟨rAff, k0_pay5 (k0_pay9 (mixed (View.ld x0 rMix) (View.ld x1 rMix) (View.ld x2 rMix) (View.ld x3 rMix) (View.ld x4 rTok) (View.ld x5 rVec) (View.ld x6 rMat))
    (View.ld x7 rRow) (k0_pay8 (View.ld x8 rVec)) (View.ld x9 rVec)) (View.ld x10 rExp)⟩]

theorem cover11 (p : Vec F S1x512x1024 .f32) (y : S1x512x1024.Idx) :
    ∃ pc ∈ ([⟨rTok, p⟩] : List (View.Piece (Elt F) S1x512x1024 .f32)), y ∈ pc.1.set :=
  View.cover_of_tiled [⟨rTok, p⟩] S1x512x1024.size (by rfl) y

theorem cover13 (p : Vec F S1x16x512 .f32) (y : S1x16x512.Idx) :
    ∃ pc ∈ ([⟨rAff, p⟩] : List (View.Piece (Elt F) S1x16x512 .f32)), y ∈ pc.1.set :=
  View.cover_of_tiled [⟨rAff, p⟩] S1x16x512.size (by rfl) y

/-! ## The body -/

/-- A buffer's elements under a memref are the memref's block, at what it reads of them. -/
theorem owns_of_points (c : Dev nD) {sp : Space} {sh : Shape} {e : EltTy} (a : Memref sig .tc sp sh e)
    (f : a.view.ty.Contents (Elt F)) (X : sh.Idx → Elt F e) (h : a.view.read (Elt F) f = X) :
    (a.view.loc (c : Thread nD τ) ↦[a.view.set]{fullShare} f : sProp 𝕄) ⊢
      iprop(∃ f', ⌜a.view.read (Elt F) f' = X⌝ ∗ (a.view.loc (c : Thread nD τ) ↦[a.view.set]{fullShare} f')) := by
  iintro H
  iexists f; isplitr; · ipureintro; exact h
  iexact H

set_option maxHeartbeats 2000000 in
/-- The body on whole blocks leaves the inputs as they were and the outputs at the values above. -/
theorem body_runs (c : Dev nD) (E : Set ℕ) (i : grid0.Coords)
    (a2 : Memref sig .tc .vmem S1x512x256 .bf16) (h2 : a2.IsWhole) (a3 : Memref sig .tc .vmem S1x512x256 .bf16) (h3 : a3.IsWhole)
    (a4 : Memref sig .tc .vmem S1x512x256 .bf16) (h4 : a4.IsWhole) (a5 : Memref sig .tc .vmem S1x512x256 .bf16) (h5 : a5.IsWhole)
    (a6 : Memref sig .tc .vmem S1x512x1024 .f32) (h6 : a6.IsWhole) (a7 : Memref sig .tc .vmem S1x1x1024 .f32) (h7 : a7.IsWhole)
    (a8 : Memref sig .tc .vmem S1024x1024 .bf16) (h8 : a8.IsWhole) (a9 : Memref sig .tc .vmem S1x1024 .f32) (h9 : a9.IsWhole)
    (a10 : Memref sig .tc .vmem S1x1x1024 .f32) (h10 : a10.IsWhole) (a11 : Memref sig .tc .vmem S1x1x1024 .f32) (h11 : a11.IsWhole)
    (a12 : Memref sig .tc .vmem S16x1024 .bf16) (h12 : a12.IsWhole) (a13 : Memref sig .tc .vmem S1x512x1024 .f32) (h13 : a13.IsWhole)
    (a14 : Memref sig .tc .vmem S1x4096x128 .f32) (h14 : a14.IsWhole) (a15 : Memref sig .tc .vmem S1x16x512 .f32) (h15 : a15.IsWhole)
    (x0 x1 x2 x3 : Vec F S1x512x256 .bf16) (x4 : Vec F S1x512x1024 .f32) (x5 : Vec F S1x1x1024 .f32)
    (x6 : Vec F S1024x1024 .bf16) (x7 : Vec F S1x1024 .f32) (x8 x9 : Vec F S1x1x1024 .f32) (x10 : Vec F S16x1024 .bf16) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare x7 ∗ owns (c : Thread nD τ) a10 fullShare x8
        ∗ owns (c : Thread nD τ) a11 fullShare x9 ∗ owns (c : Thread nD τ) a12 fullShare x10
        ∗ (∃ d, owns (c : Thread nD τ) a13 fullShare d) ∗ (∃ d, owns (c : Thread nD τ) a14 fullShare d) ∗ (∃ d, owns (c : Thread nD τ) a15 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare x7 ∗ owns (c : Thread nD τ) a10 fullShare x8
        ∗ owns (c : Thread nD τ) a11 fullShare x9 ∗ owns (c : Thread nD τ) a12 fullShare x10
        ∗ owns (c : Thread nD τ) a13 fullShare (left11 x0 x1 x2 x3 x4 x5 x6)
        ∗ owns (c : Thread nD τ) a14 fullShare (left12 x0 x1 x2 x3 x4 x5 x6 x7 x8 x9)
        ∗ owns (c : Thread nD τ) a15 fullShare (left13 x0 x1 x2 x3 x4 x5 x6 x7 x8 x9 x10)) -∗ K ⟨⟩))
      ⊢ wp frame (wpE (defs₀ (F := F)) Variants.none c none) E
        (cc0_outproj_router i a2 h2 a3 h3 a4 h4 a5 h5 a6 h6 a7 h7 a8 h8 a9 h9 a10 h10 a11 h11 a12 h12 a13 h13 a14 h14 a15 h15) K := by
  simp only [cc0_outproj_router_eq_skeleton]; unfold cc0_outproj_router_skel
  simp only [k0_part1_eq_skeleton, k0_part2_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, Hk⟩
  subst e0 e1 e2 e3 e4 e5 e6 e7 e8 e9 e10
  sl_exec
  sl_step
  iapply Hk
  isplitl [H0]; · iapply (owns_of_points c a2 f0 _ rfl); iexact H0
  isplitl [H1]; · iapply (owns_of_points c a3 f1 _ rfl); iexact H1
  isplitl [H2]; · iapply (owns_of_points c a4 f2 _ rfl); iexact H2
  isplitl [H3]; · iapply (owns_of_points c a5 f3 _ rfl); iexact H3
  isplitl [H4]; · iapply (owns_of_points c a6 f4 _ rfl); iexact H4
  isplitl [H5]; · iapply (owns_of_points c a7 f5 _ rfl); iexact H5
  isplitl [H6]; · iapply (owns_of_points c a8 f6 _ rfl); iexact H6
  isplitl [H7]; · iapply (owns_of_points c a9 f7 _ rfl); iexact H7
  isplitl [H8]; · iapply (owns_of_points c a10 f8 _ rfl); iexact H8
  isplitl [H9]; · iapply (owns_of_points c a11 f9 _ rfl); iexact H9
  isplitl [H10]; · iapply (owns_of_points c a12 f10 _ rfl); iexact H10
  isplitl [H11]
  · iapply (owns_of_points c a13 _ (left11 _ _ _ _ _ _ _) ((View.read_writes_eq_canon _ _ _ (cover11 _)).trans rfl))
    iexact H11
  isplitl [H12]
  · iapply (owns_of_points c a14 _ (left12 _ _ _ _ _ _ _ _ _ _) ((View.read_writes_eq_canon _ _ _ (cover (slices _ _ _ _))).trans rfl))
    iexact H12
  iapply (owns_of_points c a15 _ (left13 _ _ _ _ _ _ _ _ _ _ _) ((View.read_writes_eq_canon _ _ _ (cover13 _)).trans rfl))
  iexact H13

/-! ## The launch -/

variable (m : (ℓ : Loc nD τ sig) → Buf (Elt F) ℓ) (ρ : Dev nD → PrngReg)

/-- No operation comes before the launch, which finds every array as it was given. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What each window's block holds after the body: an input as before, an output as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => left11 (iblk m c 0 t) (iblk m c 1 t) (iblk m c 2 t) (iblk m c 3 t) (iblk m c 4 t) (iblk m c 5 t) (iblk m c 6 t)
    | ⟨12, _⟩ => left12 (iblk m c 0 t) (iblk m c 1 t) (iblk m c 2 t) (iblk m c 3 t) (iblk m c 4 t) (iblk m c 5 t) (iblk m c 6 t)
        (iblk m c 7 t) (iblk m c 8 t) (iblk m c 9 t)
    | ⟨13, _⟩ => left13 (iblk m c 0 t) (iblk m c 1 t) (iblk m c 2 t) (iblk m c 3 t) (iblk m c 4 t) (iblk m c 5 t) (iblk m c 6 t)
        (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_11 (c : Dev nD) (t : Fin cfg0.N) : (dats m 0 c).after 11 t =
    left11 (iblk m c 0 t) (iblk m c 1 t) (iblk m c 2 t) (iblk m c 3 t) (iblk m c 4 t) (iblk m c 5 t) (iblk m c 6 t) := by
  dsimp only [dats]

theorem after_12 (c : Dev nD) (t : Fin cfg0.N) : (dats m 0 c).after 12 t =
    left12 (iblk m c 0 t) (iblk m c 1 t) (iblk m c 2 t) (iblk m c 3 t) (iblk m c 4 t) (iblk m c 5 t) (iblk m c 6 t)
        (iblk m c 7 t) (iblk m c 8 t) (iblk m c 9 t) := by
  dsimp only [dats]

theorem after_13 (c : Dev nD) (t : Fin cfg0.N) : (dats m 0 c).after 13 t =
    left13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) := by
  dsimp only [dats]

/-- An input's staging buffer holds its block at every point, whether it is fetched there or not. -/
theorem before_in (c : Dev nD) (w : Fin cfg0.W) (hw : w.val < 11) (t : Fin cfg0.N) (d) :
    (dats m 0 c).before w t d = (dats m 0 c).fetched w t d := by
  match w, hw with
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ =>
    exact (dats m 0 c).before_in_eq_fetched _ rfl (fun _ => rfl) (fun _ _ _ => rfl) (fun _ => rfl) t d
  | ⟨n + 11, _⟩, h => exact absurd h (by simp)

set_option maxHeartbeats 2000000 in
/-- The body at point `t` turns the windows' blocks into what `dats` says. -/
theorem sound_body (c : Dev nD) (t : Fin cfg0.N) :
    iprop((dats m 0 c).Φ t.castSucc ∗ (dats m 0 c).owesAt () t.castSucc
      ∗ bigSep Finset.univ fun w : Fin 14 => iprop(∃ d, owns (c : Thread nD τ) ((cfg0.win w).stage (cfg0.slots t w)) fullShare ((dats m 0 c).before w t d)))
    ⊢ wp frame (wpE (defs₀ (F := F)) Variants.none c none) Set.univ (bodyAt0 t)
      (fun _ => iprop((dats m 0 c).Φ t.succ ∗ (dats m 0 c).owesAt () t.succ
        ∗ bigSep Finset.univ fun w : Fin 14 => owns (c : Thread nD τ) ((cfg0.win w).stage (cfg0.slots t w)) fullShare ((dats m 0 c).after w t))) := by
  rw [bigSep_W0, bigSep_W0, show (dats m 0 c).Φ t.succ = (dats m 0 c).Φ t.castSucc from rfl,
    show (dats m 0 c).owesAt () t.succ = (dats m 0 c).owesAt () t.castSucc from rfl, after_11, after_12, after_13]
  simp only [before_in m c 0 (by decide), before_in m c 1 (by decide), before_in m c 2 (by decide), before_in m c 3 (by decide),
    before_in m c 4 (by decide), before_in m c 5 (by decide), before_in m c 6 (by decide), before_in m c 7 (by decide),
    before_in m c 8 (by decide), before_in m c 9 (by decide), before_in m c 10 (by decide)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_runs c Set.univ (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro H
  isplitl [HΦ]; · iexact HΦ
  isplitl [Ho]; · iexact Ho
  iexact H

theorem body_obligation (c : Dev nD) : BodyObligation (dats (F := F) m 0 c) (defs₀ (F := F)) Variants.none () Set.univ := fun t => by
  rw [show defs₀ (F := F) .tc cfg0.body (cfg0.bodyArgs t (cfg0.slots t)) = bodyAt0 t by unfold defs₀; rw [Defs.onTc_tc]]
  exact triple_restated (sound_body m c t) rfl .rfl fun _ => .rfl

/-! ## The run -/

set_option backward.isDefEq.respectTransparency.types false in
/-- Every run ends, at rest, with each array at what the blocks written to it make of it. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument is the array of an input, which nothing writes. -/
theorem arg_kept (c : Dev nD) (w : Fin cfg0.W) (hw : w.val < 11) : (dats m 0 c).arrAt w (cfg0.N) = V m c (Pipeline.arrRef spec0 w) := by
  match w, hw with
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ =>
    exact ((dats m 0 c).arrAt_in _ rfl _).trans (A_eq m c _)
  | ⟨n + 11, _⟩, h => exact absurd h (by simp)

/-- The run ends at rest with the arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1 c).1 0 |>.trans (arg_kept m c 0 (by decide)),
    (h.1 c).1 1 |>.trans (arg_kept m c 1 (by decide)),
    (h.1 c).1 2 |>.trans (arg_kept m c 2 (by decide)),
    (h.1 c).1 3 |>.trans (arg_kept m c 3 (by decide)),
    (h.1 c).1 4 |>.trans (arg_kept m c 4 (by decide)),
    (h.1 c).1 5 |>.trans (arg_kept m c 5 (by decide)),
    (h.1 c).1 6 |>.trans (arg_kept m c 6 (by decide)),
    (h.1 c).1 7 |>.trans (arg_kept m c 7 (by decide)),
    (h.1 c).1 8 |>.trans (arg_kept m c 8 (by decide)),
    (h.1 c).1 9 |>.trans (arg_kept m c 9 (by decide)),
    (h.1 c).1 10 |>.trans (arg_kept m c 10 (by decide))⟩, h.2⟩) (run m ρ)

end Cert.OutIdeal.Run

end
-- ==== Proof.OutSpec.lean ====
/- The output projection as plain functions: the mixers' outputs side by side, the token that is added to them, and the
   softmax over the experts. -/
module

public import proofs.«01_k».proof.Proof.ProjSpec

@[expose] public section

noncomputable section

namespace Cert.Outproj

open Idealize.ShloMosaic

/-- A lane of the four mixers' outputs side by side. -/
def side (p q r s : Fin 256 → EReal) (k : Fin 1024) : EReal :=
  if h : k.val < 256 then p ⟨k.val, h⟩
  else if h₁ : k.val - 256 < 256 then q ⟨k.val - 256, h₁⟩
  else if h₂ : k.val - 256 - 256 < 256 then r ⟨k.val - 256 - 256, h₂⟩
  else s ⟨k.val - 256 - 256 - 256, by omega⟩

/-- A lane of the updated token: the token and the gated product of the mixers' lanes with the weights. -/
def upd (y x g : Fin 1024 → EReal) (w : Fin 1024 → Fin 1024 → EReal) (l : Fin 1024) : EReal :=
  x l + g l * ∑ k, y k * w k l

/-- The largest of the experts' logits. -/
def top (z : Fin 16 → EReal) : EReal := Finset.univ.fold max ⊥ z

/-- An expert's share of the softmax. -/
def soft (z : Fin 16 → EReal) (e : Fin 16) : EReal :=
  Ideal.div (Ideal.exp (z e - top z)) (∑ e', Ideal.exp (z e' - top z))

section
variable (x0 x1 x2 x3 : (⟨3, ![8, 4096, 256]⟩ : Shape).Idx → EReal) (x4 : (⟨3, ![8, 4096, 1024]⟩ : Shape).Idx → EReal)
  (x5 : (⟨3, ![8, 1, 1024]⟩ : Shape).Idx → EReal) (x6 : (⟨2, ![1024, 1024]⟩ : Shape).Idx → EReal) (x7 : (⟨2, ![1, 1024]⟩ : Shape).Idx → EReal)
  (x8 x9 : (⟨3, ![8, 1, 1024]⟩ : Shape).Idx → EReal) (x10 : (⟨2, ![16, 1024]⟩ : Shape).Idx → EReal)

/-- The updated tokens, from the arguments. -/
def tokens (b : Fin 8) (s : Fin 4096) : Fin 1024 → EReal :=
  upd (side (fun j => x0 (ix3 b s j)) (fun j => x1 (ix3 b s j)) (fun j => x2 (ix3 b s j)) (fun j => x3 (ix3 b s j)))
    (fun k => x4 (ix3 b s k)) (fun k => x5 (ix3 b 0 k)) (fun k l => x6 (ix2 k l))

/-- The modulated rows, from the arguments. -/
def rows (b : Fin 8) (s : Fin 4096) : Fin 1024 → EReal :=
  Cert.Inproj.nrm (tokens x0 x1 x2 x3 x4 x5 x6 b s) (fun k => x7 (ix2 0 k)) (fun k => x8 (ix3 b 0 k)) (fun k => x9 (ix3 b 0 k))

/-- A token's products with the experts' weights, from the arguments. -/
def logits (b : Fin 8) (s : Fin 4096) (e : Fin 16) : EReal := ∑ k, rows x0 x1 x2 x3 x4 x5 x6 x7 x8 x9 b s k * x10 (ix2 e k)

end

/-- The bits of minus infinity. -/
theorem bits_bot : Ideal.ofBits FTy.f32 0xFF800000#32 = ⊥ := by
  unfold Ideal.ofBits
  rfl

end Cert.Outproj

end
-- ==== Proof.OutBlock.lean ====
/- The output projection's body over the extended reals: each value it stores, read at an index. -/
module

public import proofs.«01_k».proof.Proof.OutSpec
public import proofs.«01_k».proof.Proof.Gen.OutIdeal.Skeleton

@[expose] public section

set_option maxRecDepth 16384

noncomputable section

namespace Cert.OutIdeal.Val

open Cert.OutIdeal Cert.OutIdeal.Gen Idealize.ShloMosaic Idealize.ShloMosaic.TcCoe Idealize.SL.Sem
open Cert.Inproj Cert.Outproj

/-- The mixers' blocks side by side. -/
def cat (v0 v2 v4 v6 : Vec Ideal S1x512x256 .bf16) : FVec Ideal S512x1024 .bf16 :=
  concatenate S512x1024 1 [⟨S512x256, shapeCast S512x256 v0 shapeCasts_S1x512x256_S512x256⟩, ⟨S512x256, shapeCast S512x256 v2 shapeCasts_S1x512x256_S512x256⟩,
    ⟨S512x256, shapeCast S512x256 v4 shapeCasts_S1x512x256_S512x256⟩, ⟨S512x256, shapeCast S512x256 v6 shapeCasts_S1x512x256_S512x256⟩]
    concatenates_S512x256_S512x256_S512x256_S512x256_S512x1024_d1

theorem cat_apply (v0 v2 v4 v6 : Vec Ideal S1x512x256 .bf16) (r : Fin 512) (k : Fin 1024) :
    cat v0 v2 v4 v6 (ix2 r k) = side (fun j => v0 (ix3 0 r j)) (fun j => v2 (ix3 0 r j)) (fun j => v4 (ix3 0 r j)) (fun j => v6 (ix3 0 r j)) k := by
  unfold side
  pointwise [cat]

/-- The block's updated tokens, from the mixers' lanes. -/
def add (y : FVec Ideal S512x1024 .bf16) (v9 : Vec Ideal S1x512x1024 .f32) (v11 : Vec Ideal S1x1x1024 .f32) (v13 : Vec Ideal S1024x1024 .bf16) :
    FVec Ideal S512x1024 .f32 :=
  addf (shapeCast S512x1024 v9 shapeCasts_S1x512x1024_S512x1024)
    (mulf (broadcastTo S512x1024 (shapeCast S1x1024 v11 shapeCasts_S1x1x1024_S1x1024) broadcasts_S1x1024_S512x1024)
      (matmul (φ₂ := .bf16) dot_S512x1024_S1024x1024_S512x1024_1_0_0_1_n_n none y v13 (constant S512x1024 .f32 0x00000000#32)))

theorem add_apply (y : FVec Ideal S512x1024 .bf16) (v9 : Vec Ideal S1x512x1024 .f32) (v11 : Vec Ideal S1x1x1024 .f32) (v13 : Vec Ideal S1024x1024 .bf16)
    (r : Fin 512) (l : Fin 1024) :
    add y v9 v11 v13 (ix2 r l) = upd (fun k => y (ix2 r k)) (fun k => v9 (ix3 0 r k)) (fun k => v11 (ix3 0 0 k)) (fun k l => v13 (ix2 k l)) l := by
  unfold upd
  pointwise [add]

/-- The block's updated tokens. -/
theorem pay6_apply (v0 v2 v4 v6 : Vec Ideal S1x512x256 .bf16) (v9 : Vec Ideal S1x512x1024 .f32) (v11 : Vec Ideal S1x1x1024 .f32) (v13 : Vec Ideal S1024x1024 .bf16)
    (r : Fin 512) (l : Fin 1024) :
    k0_pay6 (F := Ideal) v0 v2 v4 v6 v9 v11 v13 (ix2 r l)
      = upd (side (fun j => v0 (ix3 0 r j)) (fun j => v2 (ix3 0 r j)) (fun j => v4 (ix3 0 r j)) (fun j => v6 (ix3 0 r j)))
          (fun k => v9 (ix3 0 r k)) (fun k => v11 (ix3 0 0 k)) (fun k l => v13 (ix2 k l)) l := by
  refine (add_apply (cat v0 v2 v4 v6) v9 v11 v13 r l).trans ?_
  unfold upd
  simp only [cat_apply]

theorem pay7_apply (v0 v2 v4 v6 : Vec Ideal S1x512x256 .bf16) (v9 : Vec Ideal S1x512x1024 .f32) (v11 : Vec Ideal S1x1x1024 .f32) (v13 : Vec Ideal S1024x1024 .bf16)
    (r : Fin 512) (l : Fin 1024) :
    k0_pay7 (F := Ideal) v0 v2 v4 v6 v9 v11 v13 (ix3 0 r l) = k0_pay6 (F := Ideal) v0 v2 v4 v6 v9 v11 v13 (ix2 r l) := by
  unfold k0_pay7
  generalize k0_pay6 (F := Ideal) v0 v2 v4 v6 v9 v11 v13 = y
  pointwise

/-- The modulated rows. -/
theorem pay9_apply (x : FVec Ideal S512x1024 .f32) (g : Vec Ideal S1x1024 .f32) (sh : Vec Ideal S1x1x1024 .f32) (sc : Vec Ideal S1x1x1024 .f32)
    (r : Fin 512) (l : Fin 1024) :
    k0_pay9 (F := Ideal) x g (k0_pay8 sh) sc (ix2 r l)
      = nrm (fun k => x (ix2 r k)) (fun k => g (ix2 0 k)) (fun k => sh (ix3 0 0 k)) (fun k => sc (ix3 0 0 k)) l := by
  unfold nrm
  pointwise [k0_pay9, k0_pay8]

/-- A piece's lanes among the modulated rows'. -/
theorem slice_apply (y : FVec Ideal S512x1024 .f32) (o : ℕ) (ho : o + 128 ≤ 1024) (hs : S512x1024.Slices ![0, o] S512x128) (r : Fin 512) (l : Fin 128) :
    shapeCast S1x512x128 (extractStridedSlice S512x128 ![0, o] y hs) shapeCasts_S512x128_S1x512x128 (ix3 0 r l)
      = y (ix2 r ⟨o + l.val, by omega⟩) := by
  pointwise

/-- The affinities: the softmax over the experts of their products with the row. -/
theorem pay5_apply (y : FVec Ideal S512x1024 .f32) (w : Vec Ideal S16x1024 .bf16) (e : Fin 16) (r : Fin 512) :
    k0_pay5 (F := Ideal) y w (ix3 0 e r) = soft (fun e => ∑ k, w (ix2 e k) * y (ix2 r k)) e := by
  unfold soft top
  rw [← bits_bot]
  pointwise [k0_pay5]

end Cert.OutIdeal.Val

end
-- ==== Proof.OutPoint.lean ====
/- What one grid point of the output projection leaves, element by element, from the blocks it is given. -/
module

public import proofs.«01_k».proof.Proof.OutFrame
public import proofs.«01_k».proof.Proof.OutBlock
public import Idealize.ShloMosaic.Lib.Pipeline.ValueKit.Acc
public import Idealize.ShloMosaic.Lib.Pipeline.ValueKit.Tiles

@[expose] public section

set_option maxRecDepth 16384

noncomputable section

namespace Cert.OutIdeal.Val

open Cert.OutIdeal Cert.OutIdeal.Gen Cert.OutIdeal.Run Idealize.ShloMosaic Idealize.ShloMosaic.TcCoe Idealize.SL.Sem
open Cert.Inproj Cert.Outproj

/-- A piece of the eight is the one of its remainder. -/
theorem of_mem_pieces (p : Fin 8 → Vec Ideal S1x512x128 .f32) (q : View.Piece (Elt Ideal) S1x4096x128 .f32) (h : q ∈ pieces p) :
    ∃ s, q = ⟨Run.rows s, p s⟩ := by
  simp only [pieces, List.mem_cons, List.not_mem_nil, or_false] at h
  rcases h with h | h | h | h | h | h | h | h <;> exact ⟨_, h⟩

/-- Row `8 r + f` of the block is row `r` of piece `f`. -/
theorem pieces_apply (p : Fin 8 → Vec Ideal S1x512x128 .f32) (r : Fin 512) (f : Fin 8) (l : Fin 128) :
    View.canon (pieces p) (ix3 0 ⟨r.val * 8 + f.val, by omega⟩ l) = p f (ix3 0 r l) := by
  refine View.canon_eq_of_allAt _ _ _ ⟨_, mem_pieces p f, (mem_rows _ f).2 (show (r.val * 8 + f.val) % 8 = f.val by omega)⟩ ?_
  intro q hq x hx
  obtain ⟨s, rfl⟩ := of_mem_pieces p q hq
  have h1 := congrArg Fin.val (congrFun hx 1)
  have h2 := congrArg Fin.val (congrFun hx 2)
  replace h1 : s.val + 8 * (x 1).val = r.val * 8 + f.val := h1
  replace h2 : 0 + 1 * (x 2).val = l.val := h2
  have h0 : (x 0).val < 1 := (x 0).isLt
  have hs : s = f := Fin.ext (by omega)
  subst hs
  refine congrArg (p s) (funext fun a => Fin.ext ?_)
  match a with
  | ⟨0, _⟩ => show (x 0).val = 0; omega
  | ⟨1, _⟩ => show (x 1).val = r.val; omega
  | ⟨2, _⟩ => show (x 2).val = l.val; omega

/-- Piece `f` holds the lanes from `128 f` on of the modulated rows. -/
theorem slices_apply (x : FVec Ideal S512x1024 .f32) (g : Vec Ideal S1x1024 .f32) (sh : FVec Ideal S1x1024 .f32) (sc : Vec Ideal S1x1x1024 .f32)
    (f : Fin 8) (r : Fin 512) (l : Fin 128) :
    slices x g sh sc f (ix3 0 r l) = k0_pay9 x g sh sc (ix2 r ⟨f.val * 128 + l.val, by omega⟩) := by
  have h := slice_apply (k0_pay9 x g sh sc)
  match f with
  | 0 => exact (h 0 (by decide) slices_S512x1024_o0_0_S512x128 r l).trans rfl
  | 1 => exact (h 128 (by decide) slices_S512x1024_o0_128_S512x128 r l).trans rfl
  | 2 => exact (h 256 (by decide) slices_S512x1024_o0_256_S512x128 r l).trans rfl
  | 3 => exact (h 384 (by decide) slices_S512x1024_o0_384_S512x128 r l).trans rfl
  | 4 => exact (h 512 (by decide) slices_S512x1024_o0_512_S512x128 r l).trans rfl
  | 5 => exact (h 640 (by decide) slices_S512x1024_o0_640_S512x128 r l).trans rfl
  | 6 => exact (h 768 (by decide) slices_S512x1024_o0_768_S512x128 r l).trans rfl
  | 7 => exact (h 896 (by decide) slices_S512x1024_o0_896_S512x128 r l).trans rfl

section Point
variable (x0 x1 x2 x3 : Vec Ideal S1x512x256 .bf16) (x4 : Vec Ideal S1x512x1024 .f32) (x5 : Vec Ideal S1x1x1024 .f32)
  (x6 : Vec Ideal S1024x1024 .bf16) (x7 : Vec Ideal S1x1024 .f32) (x8 x9 : Vec Ideal S1x1x1024 .f32) (x10 : Vec Ideal S16x1024 .bf16)

/-- A row of the block's updated tokens. -/
def row (r : Fin 512) : Fin 1024 → EReal :=
  upd (side (fun j => x0 (ix3 0 r j)) (fun j => x1 (ix3 0 r j)) (fun j => x2 (ix3 0 r j)) (fun j => x3 (ix3 0 r j)))
    (fun k => x4 (ix3 0 r k)) (fun k => x5 (ix3 0 0 k)) (fun k l => x6 (ix2 k l))

/-- A row of the block after the modulation. -/
def modrow (r : Fin 512) : Fin 1024 → EReal :=
  nrm (row x0 x1 x2 x3 x4 x5 x6 r) (fun k => x7 (ix2 0 k)) (fun k => x8 (ix3 0 0 k)) (fun k => x9 (ix3 0 0 k))

theorem mixed_apply (r : Fin 512) (l : Fin 1024) : mixed x0 x1 x2 x3 x4 x5 x6 (ix2 r l) = row x0 x1 x2 x3 x4 x5 x6 r l :=
  pay6_apply x0 x1 x2 x3 x4 x5 x6 r l

theorem mod_apply (r : Fin 512) (l : Fin 1024) :
    k0_pay9 (F := Ideal) (mixed x0 x1 x2 x3 x4 x5 x6) x7 (k0_pay8 x8) x9 (ix2 r l) = modrow x0 x1 x2 x3 x4 x5 x6 x7 x8 x9 r l := by
  rw [pay9_apply]
  unfold modrow
  simp only [mixed_apply]

/-- The block of updated tokens, -/
theorem left11_apply (r : Fin 512) (l : Fin 1024) : left11 x0 x1 x2 x3 x4 x5 x6 (ix3 0 r l) = row x0 x1 x2 x3 x4 x5 x6 r l := by
  unfold left11
  simp (disch := decide) only [View.ld_unit_lit', View.canon_cons_unit_lit']
  exact (pay7_apply x0 x1 x2 x3 x4 x5 x6 r l).trans (mixed_apply x0 x1 x2 x3 x4 x5 x6 r l)

/-- the block of modulated rows, -/
theorem left12_apply (r : Fin 512) (f : Fin 8) (l : Fin 128) :
    left12 x0 x1 x2 x3 x4 x5 x6 x7 x8 x9 (ix3 0 ⟨r.val * 8 + f.val, by omega⟩ l)
      = modrow x0 x1 x2 x3 x4 x5 x6 x7 x8 x9 r ⟨f.val * 128 + l.val, by omega⟩ := by
  unfold left12
  simp (disch := decide) only [View.ld_unit_lit']
  rw [pieces_apply, slices_apply, mod_apply]

/-- and the block of affinities. -/
theorem left13_apply (e : Fin 16) (r : Fin 512) :
    left13 x0 x1 x2 x3 x4 x5 x6 x7 x8 x9 x10 (ix3 0 e r)
      = soft (fun e => ∑ k, modrow x0 x1 x2 x3 x4 x5 x6 x7 x8 x9 r k * x10 (ix2 e k)) e := by
  unfold left13
  simp (disch := decide) only [View.ld_unit_lit', View.canon_cons_unit_lit']
  rw [pay5_apply]
  simp only [mod_apply, mul_comm]

end Point

end Cert.OutIdeal.Val

end
-- ==== Proof.OutArray.lean ====
/- The arrays the output projection leaves, element by element, from the call's arguments. -/
module

public import proofs.«01_k».proof.Proof.OutPoint
public import proofs.«01_k».proof.Proof.Place

@[expose] public section

set_option maxRecDepth 16384

noncomputable section

namespace Cert.OutIdeal.Val

open Cert.OutIdeal Cert.OutIdeal.Gen Cert.OutIdeal.Run Idealize.ShloMosaic Idealize.ShloMosaic.TcCoe Idealize.SL.Sem
open Idealize.ShloMosaic.Pipeline (Dat)
open Cert.Inproj Cert.Outproj

variable (m : (ℓ : Loc nD τ sig) → Buf (Elt Ideal) ℓ)

/-- The windows over tokens are indexed by the sequence and the stretch of it, -/
theorem tok_facts : ∀ t : Fin cfg0.N,
    (win0_0.index t (0 : Fin 3) = t.val / 8 ∧ win0_0.index t (1 : Fin 3) = t.val % 8 ∧ win0_0.index t (2 : Fin 3) = 0) ∧
    (win0_1.index t (0 : Fin 3) = t.val / 8 ∧ win0_1.index t (1 : Fin 3) = t.val % 8 ∧ win0_1.index t (2 : Fin 3) = 0) ∧
    (win0_2.index t (0 : Fin 3) = t.val / 8 ∧ win0_2.index t (1 : Fin 3) = t.val % 8 ∧ win0_2.index t (2 : Fin 3) = 0) ∧
    (win0_3.index t (0 : Fin 3) = t.val / 8 ∧ win0_3.index t (1 : Fin 3) = t.val % 8 ∧ win0_3.index t (2 : Fin 3) = 0) ∧
    (win0_4.index t (0 : Fin 3) = t.val / 8 ∧ win0_4.index t (1 : Fin 3) = t.val % 8 ∧ win0_4.index t (2 : Fin 3) = 0) :=
  (by decide +kernel : ∀ t : Fin grid0.N, _)

/-- the gate, the shift and the scale by the sequence, and the weights are whole; -/
theorem mod_facts : ∀ t : Fin cfg0.N,
    (win0_5.index t (0 : Fin 3) = t.val / 8 ∧ win0_5.index t (1 : Fin 3) = 0 ∧ win0_5.index t (2 : Fin 3) = 0) ∧
    (win0_6.index t (0 : Fin 2) = 0 ∧ win0_6.index t (1 : Fin 2) = 0) ∧
    (win0_7.index t (0 : Fin 2) = 0 ∧ win0_7.index t (1 : Fin 2) = 0) ∧
    (win0_8.index t (0 : Fin 3) = t.val / 8 ∧ win0_8.index t (1 : Fin 3) = 0 ∧ win0_8.index t (2 : Fin 3) = 0) ∧
    (win0_9.index t (0 : Fin 3) = t.val / 8 ∧ win0_9.index t (1 : Fin 3) = 0 ∧ win0_9.index t (2 : Fin 3) = 0) ∧
    (win0_10.index t (0 : Fin 2) = 0 ∧ win0_10.index t (1 : Fin 2) = 0) :=
  (by decide +kernel : ∀ t : Fin grid0.N, _)

/-- the outputs are indexed by both. -/
theorem out_facts : ∀ t : Fin cfg0.N,
    (win0_11.index t (0 : Fin 3) = t.val / 8 ∧ win0_11.index t (1 : Fin 3) = t.val % 8 ∧ win0_11.index t (2 : Fin 3) = 0) ∧
    (win0_12.index t (0 : Fin 3) = t.val / 8 ∧ win0_12.index t (1 : Fin 3) = t.val % 8 ∧ win0_12.index t (2 : Fin 3) = 0) ∧
    (win0_13.index t (0 : Fin 3) = t.val / 8 ∧ win0_13.index t (1 : Fin 3) = 0 ∧ win0_13.index t (2 : Fin 3) = t.val % 8) :=
  (by decide +kernel : ∀ t : Fin grid0.N, _)

/-- An input's block is its array read through the block's place. -/
theorem iblk_eq (c : Dev nD) (w : Fin cfg0.W) (t : Fin cfg0.N) (i : ((cfg0.win w).xblock (cfg0.grid.coords t)).Idx) :
    iblk m c w t i = (((cfg0.win w).blk t).view.read (Elt Ideal) (V m c (Pipeline.arrRef spec0 w))) i := rfl

section Blocks
variable (c : Dev nD) (t : Fin cfg0.N) (b : Fin 8) (hb : b.val = t.val / 8)
include hb

/-- The block of the first mixer's outputs. -/
theorem iblk0_apply (r : Fin 512) (s : Fin 4096) (hs : s.val = t.val % 8 * 512 + r.val) (k : Fin 256) :
    (iblk m c 0 t : Vec Ideal S1x512x256 .bf16) (ix3 0 r k) = (m ((c : Thread nD τ).loc main_arg0) : S8x4096x256.Idx → EReal) (ix3 b s k) := by
  obtain ⟨⟨h0, h1, h2⟩, -⟩ := tok_facts t
  rw [iblk_eq, View.read_apply]
  exact congrArg (m (c.tc.loc main_arg0)) (Place.emb_eq win0_0 t (ix3 0 r k) (ix3 b s k) (Place.at3 (by omega) (by omega) (by omega)))

/-- The block of the second mixer's outputs. -/
theorem iblk1_apply (r : Fin 512) (s : Fin 4096) (hs : s.val = t.val % 8 * 512 + r.val) (k : Fin 256) :
    (iblk m c 1 t : Vec Ideal S1x512x256 .bf16) (ix3 0 r k) = (m ((c : Thread nD τ).loc main_arg1) : S8x4096x256.Idx → EReal) (ix3 b s k) := by
  obtain ⟨-, ⟨h0, h1, h2⟩, -⟩ := tok_facts t
  rw [iblk_eq, View.read_apply]
  exact congrArg (m (c.tc.loc main_arg1)) (Place.emb_eq win0_1 t (ix3 0 r k) (ix3 b s k) (Place.at3 (by omega) (by omega) (by omega)))

/-- The block of the third mixer's outputs. -/
theorem iblk2_apply (r : Fin 512) (s : Fin 4096) (hs : s.val = t.val % 8 * 512 + r.val) (k : Fin 256) :
    (iblk m c 2 t : Vec Ideal S1x512x256 .bf16) (ix3 0 r k) = (m ((c : Thread nD τ).loc main_arg2) : S8x4096x256.Idx → EReal) (ix3 b s k) := by
  obtain ⟨-, -, ⟨h0, h1, h2⟩, -⟩ := tok_facts t
  rw [iblk_eq, View.read_apply]
  exact congrArg (m (c.tc.loc main_arg2)) (Place.emb_eq win0_2 t (ix3 0 r k) (ix3 b s k) (Place.at3 (by omega) (by omega) (by omega)))

/-- The block of the fourth mixer's outputs. -/
theorem iblk3_apply (r : Fin 512) (s : Fin 4096) (hs : s.val = t.val % 8 * 512 + r.val) (k : Fin 256) :
    (iblk m c 3 t : Vec Ideal S1x512x256 .bf16) (ix3 0 r k) = (m ((c : Thread nD τ).loc main_arg3) : S8x4096x256.Idx → EReal) (ix3 b s k) := by
  obtain ⟨-, -, -, ⟨h0, h1, h2⟩, -⟩ := tok_facts t
  rw [iblk_eq, View.read_apply]
  exact congrArg (m (c.tc.loc main_arg3)) (Place.emb_eq win0_3 t (ix3 0 r k) (ix3 b s k) (Place.at3 (by omega) (by omega) (by omega)))

/-- The block of the tokens. -/
theorem iblk4_apply (r : Fin 512) (s : Fin 4096) (hs : s.val = t.val % 8 * 512 + r.val) (k : Fin 1024) :
    (iblk m c 4 t : Vec Ideal S1x512x1024 .f32) (ix3 0 r k) = (m ((c : Thread nD τ).loc main_arg4) : S8x4096x1024.Idx → EReal) (ix3 b s k) := by
  obtain ⟨-, -, -, -, ⟨h0, h1, h2⟩⟩ := tok_facts t
  rw [iblk_eq, View.read_apply]
  exact congrArg (m (c.tc.loc main_arg4)) (Place.emb_eq win0_4 t (ix3 0 r k) (ix3 b s k) (Place.at3 (by omega) (by omega) (by omega)))

/-- The sequence's gate. -/
theorem iblk5_apply (k : Fin 1024) :
    (iblk m c 5 t : Vec Ideal S1x1x1024 .f32) (ix3 0 0 k) = (m ((c : Thread nD τ).loc main_arg5) : S8x1x1024.Idx → EReal) (ix3 b 0 k) := by
  obtain ⟨⟨h0, h1, h2⟩, -⟩ := mod_facts t
  rw [iblk_eq, View.read_apply]
  exact congrArg (m (c.tc.loc main_arg5)) (Place.emb_eq win0_5 t (ix3 0 0 k) (ix3 b 0 k) (Place.at3 (by omega) (by omega) (by omega)))

omit hb in
/-- The projection's weights. -/
theorem iblk6_apply (k l : Fin 1024) :
    (iblk m c 6 t : Vec Ideal S1024x1024 .bf16) (ix2 k l) = (m ((c : Thread nD τ).loc main_arg6) : S1024x1024.Idx → EReal) (ix2 k l) := by
  obtain ⟨-, ⟨h0, h1⟩, -⟩ := mod_facts t
  rw [iblk_eq, View.read_apply]
  exact congrArg (m (c.tc.loc main_arg6)) (Place.emb_eq win0_6 t (ix2 k l) (ix2 k l) (Place.at2 (by omega) (by omega)))

omit hb in
/-- The norm's gains. -/
theorem iblk7_apply (k : Fin 1024) :
    (iblk m c 7 t : Vec Ideal S1x1024 .f32) (ix2 0 k) = (m ((c : Thread nD τ).loc main_arg7) : S1x1024.Idx → EReal) (ix2 0 k) := by
  obtain ⟨-, -, ⟨h0, h1⟩, -⟩ := mod_facts t
  rw [iblk_eq, View.read_apply]
  exact congrArg (m (c.tc.loc main_arg7)) (Place.emb_eq win0_7 t (ix2 0 k) (ix2 0 k) (Place.at2 (by omega) (by omega)))

/-- The sequence's shift. -/
theorem iblk8_apply (k : Fin 1024) :
    (iblk m c 8 t : Vec Ideal S1x1x1024 .f32) (ix3 0 0 k) = (m ((c : Thread nD τ).loc main_arg8) : S8x1x1024.Idx → EReal) (ix3 b 0 k) := by
  obtain ⟨-, -, -, ⟨h0, h1, h2⟩, -⟩ := mod_facts t
  rw [iblk_eq, View.read_apply]
  exact congrArg (m (c.tc.loc main_arg8)) (Place.emb_eq win0_8 t (ix3 0 0 k) (ix3 b 0 k) (Place.at3 (by omega) (by omega) (by omega)))

/-- The sequence's scale. -/
theorem iblk9_apply (k : Fin 1024) :
    (iblk m c 9 t : Vec Ideal S1x1x1024 .f32) (ix3 0 0 k) = (m ((c : Thread nD τ).loc main_arg9) : S8x1x1024.Idx → EReal) (ix3 b 0 k) := by
  obtain ⟨-, -, -, -, ⟨h0, h1, h2⟩, -⟩ := mod_facts t
  rw [iblk_eq, View.read_apply]
  exact congrArg (m (c.tc.loc main_arg9)) (Place.emb_eq win0_9 t (ix3 0 0 k) (ix3 b 0 k) (Place.at3 (by omega) (by omega) (by omega)))

omit hb in
/-- The router's weights. -/
theorem iblk10_apply (e : Fin 16) (k : Fin 1024) :
    (iblk m c 10 t : Vec Ideal S16x1024 .bf16) (ix2 e k) = (m ((c : Thread nD τ).loc main_arg10) : S16x1024.Idx → EReal) (ix2 e k) := by
  obtain ⟨-, -, -, -, -, ⟨h0, h1⟩⟩ := mod_facts t
  rw [iblk_eq, View.read_apply]
  exact congrArg (m (c.tc.loc main_arg10)) (Place.emb_eq win0_10 t (ix2 e k) (ix2 e k) (Place.at2 (by omega) (by omega)))

end Blocks

/-- The updated tokens of the call's arguments. -/
abbrev tokOf (c : Dev nD) : Fin 8 → Fin 4096 → Fin 1024 → EReal :=
  tokens (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The modulated rows of the call's arguments. -/
abbrev modOf (c : Dev nD) : Fin 8 → Fin 4096 → Fin 1024 → EReal :=
  Outproj.rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The router's logits of the call's arguments. -/
abbrev logitOf (c : Dev nD) : Fin 8 → Fin 4096 → Fin 16 → EReal :=
  logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- A row of a point's updated tokens is a token's. -/
theorem row_eq (c : Dev nD) (t : Fin cfg0.N) (b : Fin 8) (hb : b.val = t.val / 8) (r : Fin 512) (s : Fin 4096) (hs : s.val = t.val % 8 * 512 + r.val) :
    row (iblk m c 0 t) (iblk m c 1 t) (iblk m c 2 t) (iblk m c 3 t) (iblk m c 4 t) (iblk m c 5 t) (iblk m c 6 t) r = tokOf m c b s := by
  unfold row tokOf tokens
  simp only [iblk0_apply m c t b hb r s hs, iblk1_apply m c t b hb r s hs, iblk2_apply m c t b hb r s hs, iblk3_apply m c t b hb r s hs,
    iblk4_apply m c t b hb r s hs, iblk5_apply m c t b hb, iblk6_apply m c t]

/-- A row of a point's modulated rows is a token's. -/
theorem modrow_eq (c : Dev nD) (t : Fin cfg0.N) (b : Fin 8) (hb : b.val = t.val / 8) (r : Fin 512) (s : Fin 4096) (hs : s.val = t.val % 8 * 512 + r.val) :
    modrow (iblk m c 0 t) (iblk m c 1 t) (iblk m c 2 t) (iblk m c 3 t) (iblk m c 4 t) (iblk m c 5 t) (iblk m c 6 t) (iblk m c 7 t) (iblk m c 8 t)
      (iblk m c 9 t) r = modOf m c b s := by
  unfold modrow modOf Outproj.rows
  rw [row_eq m c t b hb r s hs]
  simp only [iblk7_apply m c t, iblk8_apply m c t b hb, iblk9_apply m c t b hb]

/-- No two points write the same block of an output. -/
theorem idx_inj : ∀ t t' : Fin cfg0.N, (win0_11.index t = win0_11.index t' → t = t') ∧ (win0_12.index t = win0_12.index t' → t = t')
    ∧ (win0_13.index t = win0_13.index t' → t = t') := by
  have h : ∀ (f : Fin cfg0.N → Fin 3 → ℕ) (x y : Fin 3), (∀ t, f t x = t.val / 8) → (∀ t, f t y = t.val % 8) → ∀ t t', f t = f t' → t = t' := by
    intro f x y hx hy t t' h
    have h0 := congrFun h x
    have h1 := congrFun h y
    rw [hx, hx] at h0
    rw [hy, hy] at h1
    exact Fin.ext (by omega)
  exact fun t t' => ⟨h win0_11.index 0 1 (fun t => (out_facts t).1.1) (fun t => (out_facts t).1.2.1) t t',
    h win0_12.index 0 1 (fun t => (out_facts t).2.1.1) (fun t => (out_facts t).2.1.2.1) t t',
    h win0_13.index 0 2 (fun t => (out_facts t).2.2.1) (fun t => (out_facts t).2.2.2.2) t t'⟩

/-- Block `t` of the updated tokens' array after the run is what the body leaves at point `t`, -/
theorem blocks11 (c : Dev nD) (t : Fin cfg0.N) :
    ((cfg0.win 11).blk t).view.read (Elt Ideal) ((dats m 0 c).arrAt 11 cfg0.N) = (dats m 0 c).flushed 11 t :=
  (dats m 0 c).read_blk_arrAt_eq_flushed 11 (fun t t' _ _ hne => (cfg0.win 11).disjoint_blk fun h => hne ((idx_inj t t').1 h))
    cfg0.N t t.isLt (flush0_11 t)

/-- and so of the modulated rows' -/
theorem blocks12 (c : Dev nD) (t : Fin cfg0.N) :
    ((cfg0.win 12).blk t).view.read (Elt Ideal) ((dats m 0 c).arrAt 12 cfg0.N) = (dats m 0 c).flushed 12 t :=
  (dats m 0 c).read_blk_arrAt_eq_flushed 12 (fun t t' _ _ hne => (cfg0.win 12).disjoint_blk fun h => hne ((idx_inj t t').2.1 h))
    cfg0.N t t.isLt (flush0_12 t)

/-- and of the affinities'. -/
theorem blocks13 (c : Dev nD) (t : Fin cfg0.N) :
    ((cfg0.win 13).blk t).view.read (Elt Ideal) ((dats m 0 c).arrAt 13 cfg0.N) = (dats m 0 c).flushed 13 t :=
  (dats m 0 c).read_blk_arrAt_eq_flushed 13 (fun t t' _ _ hne => (cfg0.win 13).disjoint_blk fun h => hne ((idx_inj t t').2.2 h))
    cfg0.N t t.isLt (flush0_13 t)

/-- The point that holds a token, and the token's row there. -/
theorem place (b : Fin 8) (s : Fin 4096) : ∃ (t : Fin cfg0.N) (r : Fin 512), b.val = t.val / 8 ∧ s.val = t.val % 8 * 512 + r.val := by
  have hN : cfg0.N = 64 := N_0
  have hS := s.isLt
  have hB := b.isLt
  exact ⟨⟨b.val * 8 + s.val / 512, by rw [hN]; omega⟩, ⟨s.val % 512, by omega⟩, by dsimp only; omega, by dsimp only; omega⟩

/-- THE UPDATED TOKENS THE CALL LEAVES. -/
theorem array11_apply (c : Dev nD) (b : Fin 8) (s : Fin 4096) (l : Fin 1024) :
    ((dats m 0 c).arrAt 11 cfg0.N : S8x4096x1024.Idx → EReal) (ix3 b s l) = tokOf m c b s l := by
  obtain ⟨t, r, hb, hs⟩ := place b s
  have hblk := congrFun (blocks11 m c t) (ix3 0 r l)
  obtain ⟨⟨h0, h1, h2⟩, -⟩ := out_facts t
  rw [View.read_apply] at hblk
  have he : ((cfg0.win 11).blk t).view.emb (ix3 0 r l) = ix3 b s l :=
    Place.emb_eq win0_11 t (ix3 0 r l) (ix3 b s l) (Place.at3 (by omega) (by omega) (by omega))
  refine (congrArg ((dats m 0 c).arrAt 11 cfg0.N : S8x4096x1024.Idx → EReal) he.symm).trans (hblk.trans ?_)
  show (cfg0.win 11).cut (grid0.coords t) ((dats m 0 c).after 11 t) _ = _
  rw [after_11]
  exact (left11_apply _ _ _ _ _ _ _ r l).trans (congrFun (row_eq m c t b hb r s hs) l)

/-- THE MODULATED ROWS THE CALL LEAVES, each cut into eight. -/
theorem array12_apply (c : Dev nD) (b : Fin 8) (s : Fin 4096) (f : Fin 8) (l : Fin 128) :
    ((dats m 0 c).arrAt 12 cfg0.N : S8x32768x128.Idx → EReal) (ix3 b ⟨s.val * 8 + f.val, by omega⟩ l)
      = modOf m c b s ⟨f.val * 128 + l.val, by omega⟩ := by
  obtain ⟨t, r, hb, hs⟩ := place b s
  have hblk := congrFun (blocks12 m c t) (ix3 0 ⟨r.val * 8 + f.val, by omega⟩ l)
  obtain ⟨-, ⟨h0, h1, h2⟩, -⟩ := out_facts t
  rw [View.read_apply] at hblk
  have he : ((cfg0.win 12).blk t).view.emb (ix3 0 ⟨r.val * 8 + f.val, by omega⟩ l) = ix3 b ⟨s.val * 8 + f.val, by omega⟩ l :=
    Place.emb_eq win0_12 t (ix3 0 ⟨r.val * 8 + f.val, by omega⟩ l) (ix3 b ⟨s.val * 8 + f.val, by omega⟩ l) (Place.at3 (by omega) (by dsimp only; omega) (by omega))
  refine (congrArg ((dats m 0 c).arrAt 12 cfg0.N : S8x32768x128.Idx → EReal) he.symm).trans (hblk.trans ?_)
  show (cfg0.win 12).cut (grid0.coords t) ((dats m 0 c).after 12 t) _ = _
  rw [after_12]
  exact (left12_apply _ _ _ _ _ _ _ _ _ _ r f l).trans (congrFun (modrow_eq m c t b hb r s hs) _)

/-- THE AFFINITIES THE CALL LEAVES. -/
theorem array13_apply (c : Dev nD) (b : Fin 8) (e : Fin 16) (s : Fin 4096) :
    ((dats m 0 c).arrAt 13 cfg0.N : S8x16x4096.Idx → EReal) (ix3 b e s) = soft (logitOf m c b s) e := by
  obtain ⟨t, r, hb, hs⟩ := place b s
  have hblk := congrFun (blocks13 m c t) (ix3 0 e r)
  obtain ⟨-, -, ⟨h0, h1, h2⟩⟩ := out_facts t
  rw [View.read_apply] at hblk
  have he : ((cfg0.win 13).blk t).view.emb (ix3 0 e r) = ix3 b e s :=
    Place.emb_eq win0_13 t (ix3 0 e r) (ix3 b e s) (Place.at3 (by omega) (by omega) (by omega))
  refine (congrArg ((dats m 0 c).arrAt 13 cfg0.N : S8x16x4096.Idx → EReal) he.symm).trans (hblk.trans ?_)
  show (cfg0.win 13).cut (grid0.coords t) ((dats m 0 c).after 13 t) _ = _
  rw [after_13]
  refine (left13_apply _ _ _ _ _ _ _ _ _ _ _ e r).trans ?_
  rw [modrow_eq m c t b hb r s hs]
  simp only [iblk10_apply m c t]
  rfl

end Cert.OutIdeal.Val

end
-- ==== Proof.OutRef.lean ====
/- The output projection's reference over the extended reals, element by element. -/
module

public import proofs.«01_k».proof.Proof.OutSpec
public import proofs.«01_k».proof.Proof.Gen.OutRefIdeal.Run
public import proofs.«01_k».proof.Proof.Gen.OutRefIdeal.Read

@[expose] public section

set_option maxRecDepth 16384

noncomputable section

namespace Cert.OutRefIdeal.Val

open Cert.OutRefIdeal Cert.OutRefIdeal.Gen Cert.OutRefIdeal.Read Idealize.ShloMosaic Idealize.ShloMosaic.TcCoe Idealize.SL.Sem
open Cert.Inproj Cert.Outproj

variable (x0 x1 x2 x3 : S8x4096x256.Idx → EReal) (x4 : S8x4096x1024.Idx → EReal) (x5 : S8x1x1024.Idx → EReal) (x6 : S1024x1024.Idx → EReal)
  (x7 : S1x1024.Idx → EReal) (x8 x9 : S8x1x1024.Idx → EReal) (x10 : S16x1024.Idx → EReal)

/-- The mixers' outputs side by side. -/
theorem cat_apply (b : Fin 8) (s : Fin 4096) (k : Fin 1024) :
    val_main_v1 (F := Ideal) x0 x1 x2 x3 (ix3 b s k)
      = side (fun j => x0 (ix3 b s j)) (fun j => x1 (ix3 b s j)) (fun j => x2 (ix3 b s j)) (fun j => x3 (ix3 b s j)) k := by
  unfold side
  pointwise [val_main_v1, val_main_v0]

/-- THE REFERENCE'S UPDATED TOKENS. -/
theorem upd_apply (b : Fin 8) (s : Fin 4096) (l : Fin 1024) :
    val_main_v6 (F := Ideal) x0 x1 x2 x3 x4 x5 x6 (ix3 b s l) = tokens x0 x1 x2 x3 x4 x5 x6 b s l := by
  have h := cat_apply x0 x1 x2 x3 b s
  unfold tokens upd
  simp only [← h]
  clear h
  unfold val_main_v6 val_main_v5 val_main_v4 val_main_v3 val_main_v2
  generalize val_main_v1 (F := Ideal) x0 x1 x2 x3 = y
  pointwise

/-- The reference's modulated rows. -/
theorem mod_apply (b : Fin 8) (s : Fin 4096) (l : Fin 1024) :
    val_main_v25 (F := Ideal) x0 x1 x2 x3 x4 x5 x6 x7 x8 x9 (ix3 b s l) = rows x0 x1 x2 x3 x4 x5 x6 x7 x8 x9 b s l := by
  have h : tokens x0 x1 x2 x3 x4 x5 x6 b s = fun k => val_main_v6 (F := Ideal) x0 x1 x2 x3 x4 x5 x6 (ix3 b s k) :=
    funext fun k => (upd_apply x0 x1 x2 x3 x4 x5 x6 b s k).symm
  unfold rows
  rw [h]
  clear h
  unfold val_main_v25 val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 nrm
  generalize val_main_v6 (F := Ideal) x0 x1 x2 x3 x4 x5 x6 = y
  pointwise [val_main_cst, val_main_cst_0, val_main_cst_1, val_main_cst_2]

/-- THE REFERENCE'S MODULATED ROWS, cut into eight. -/
theorem cut_apply (b : Fin 8) (s : Fin 4096) (f : Fin 8) (l : Fin 128) :
    val_main_v39 (F := Ideal) x0 x1 x2 x3 x4 x5 x6 x7 x8 x9 (ix3 b ⟨s.val * 8 + f.val, by omega⟩ l)
      = rows x0 x1 x2 x3 x4 x5 x6 x7 x8 x9 b s ⟨f.val * 128 + l.val, by omega⟩ := by
  rw [← mod_apply]
  unfold val_main_v39
  generalize val_main_v25 (F := Ideal) x0 x1 x2 x3 x4 x5 x6 x7 x8 x9 = y
  pointwise
  exact congrArg y (congrArg (ix3 b s) (Fin.ext (by dsimp only; omega)))

/-- The reference's logits. -/
theorem logit_apply (b : Fin 8) (s : Fin 4096) (e : Fin 16) :
    val_main_v27 (F := Ideal) x0 x1 x2 x3 x4 x5 x6 x7 x8 x9 x10 (ix3 b s e) = logits x0 x1 x2 x3 x4 x5 x6 x7 x8 x9 x10 b s e := by
  unfold logits
  simp only [← mod_apply]
  unfold val_main_v27 val_main_v26
  generalize val_main_v25 (F := Ideal) x0 x1 x2 x3 x4 x5 x6 x7 x8 x9 = y
  pointwise

/-- The larger of the bottom and a value is the value. -/
theorem max_bot (a p : EReal) (ha : a = ⊥) : FloatOps.maximumf (F := Ideal) (φ := .f32) a p = p := by
  subst ha
  exact max_eq_right bot_le

/-- The reference's largest logit of a token. -/
theorem top_apply (b : Fin 8) (s : Fin 4096) :
    val_main_v30 (F := Ideal) x0 x1 x2 x3 x4 x5 x6 x7 x8 x9 x10 (ix2 b s) = top (logits x0 x1 x2 x3 x4 x5 x6 x7 x8 x9 x10 b s) := by
  have h : logits x0 x1 x2 x3 x4 x5 x6 x7 x8 x9 x10 b s = fun e => val_main_v27 (F := Ideal) x0 x1 x2 x3 x4 x5 x6 x7 x8 x9 x10 (ix3 b s e) :=
    funext fun e => (logit_apply x0 x1 x2 x3 x4 x5 x6 x7 x8 x9 x10 b s e).symm
  rw [h]
  clear h
  refine (val_main_v30_apply (F := Ideal) x0 x1 x2 x3 x4 x5 x6 x7 x8 x9 x10 (ix2 b s)).trans
    ((max_bot _ _ ((val_main_v29_apply (F := Ideal) _).trans ((val_main_cst_4_apply (F := Ideal) _).trans bits_bot))).trans ?_)
  unfold top val_main_v28
  rw [← bits_bot]
  generalize val_main_v27 (F := Ideal) x0 x1 x2 x3 x4 x5 x6 x7 x8 x9 x10 = y
  pointwise [val_main_cst_3]

/-- THE REFERENCE'S AFFINITIES. -/
theorem aff_apply (b : Fin 8) (e : Fin 16) (s : Fin 4096) :
    val_main_v40 (F := Ideal) x0 x1 x2 x3 x4 x5 x6 x7 x8 x9 x10 (ix3 b e s) = soft (logits x0 x1 x2 x3 x4 x5 x6 x7 x8 x9 x10 b s) e := by
  have h := logit_apply x0 x1 x2 x3 x4 x5 x6 x7 x8 x9 x10 b s
  have ht := top_apply x0 x1 x2 x3 x4 x5 x6 x7 x8 x9 x10 b s
  unfold soft
  rw [← ht]
  simp only [← h]
  clear h ht
  unfold val_main_v40 val_main_v38 val_main_v37 val_main_v36 val_main_v35 val_main_v34 val_main_v33 val_main_v32 val_main_v31
  generalize val_main_v30 (F := Ideal) x0 x1 x2 x3 x4 x5 x6 x7 x8 x9 x10 = y
  generalize val_main_v27 (F := Ideal) x0 x1 x2 x3 x4 x5 x6 x7 x8 x9 x10 = z
  pointwise [val_main_cst_5]

end Cert.OutRefIdeal.Val

end
-- ==== Proof.OutClaim.lean ====
/- The output projection's claims: its frames, and that over the extended reals it computes its reference. -/
module

public import proofs.«01_k».proof.Defs
public import proofs.«01_k».proof.Proof.OutArray
public import proofs.«01_k».proof.Proof.OutRef
public import proofs.«01_k».proof.Proof.Gen.Out
public import Idealize.ShloMosaic.Lib.Claim

@[expose] public section

set_option maxRecDepth 100000

noncomputable section

namespace Cert.Proof

open Idealize.ShloMosaic Idealize.ShloMosaic.TcCoe Idealize.SL.Sem

/-- The ideal program renames nothing of the call's body. -/
theorem out_bodies : Cert.Out.defs₀ (F := Bits) = Cert.OutIdeal.defs₀ (F := Bits) := by
  unfold Cert.Out.defs₀ Cert.OutIdeal.defs₀
  refine congrArg Defs.onTc (funext fun l => funext fun a => ?_)
  match l, a with
  | 0, (t, s) => rfl

set_option maxHeartbeats 1000000 in
/-- The output projection runs, keeps its arguments and ends with every semaphore at zero, -/
theorem frame_out : Cert.quiescent_Out := fun m ρ _ => by
  have h := Cert.OutIdeal.Run.frame (F := Bits) m ρ
  unfold Cert.OutIdeal.defs at h
  rw [← out_bodies] at h
  exact h

/-- so does its ideal program, -/
theorem frame_out_ideal : Cert.quiescent_OutIdeal := fun m ρ _ => Cert.OutIdeal.Run.frame m ρ

/-- and so does its reference. -/
theorem frame_out_reference : Cert.quiescent_OutRefIdeal := fun m ρ _ =>
  (θ_run Cert.OutRefIdeal.defs _ _).mono (fun r h => ⟨fun c => (h c).2.2.2, Idealize.ShloMosaic.sem_eq_zero_of_no_sems (by decide) r.2⟩)
    (Cert.OutRefIdeal.Value.run (F := Ideal) m ρ)

/-- Each index of the modulated rows is one of the eight rows of some token. -/
theorem row_split (i : Cert.OutRefIdeal.S8x32768x128.Idx) :
    ∃ (b : Fin 8) (s : Fin 4096) (f : Fin 8) (l : Fin 128), i = ix3 b ⟨s.val * 8 + f.val, by omega⟩ l := by
  have hi : (i 1).val < 32768 := (i 1).isLt
  refine ⟨i 0, ⟨(i 1).val / 8, by omega⟩, ⟨(i 1).val % 8, by omega⟩, i 2, (eq_ix3 i).trans ?_⟩
  refine congrArg (fun q => ix3 (i 0) q (i 2)) (Fin.ext ?_)
  show (i 1).val = (i 1).val / 8 * 8 + (i 1).val % 8
  omega

section Results
variable (m : (ℓ : Loc Cert.OutIdeal.nD Cert.OutIdeal.τ Cert.OutIdeal.sig) → Buf (Elt Ideal) ℓ) (c : Dev Cert.OutIdeal.nD)

/-- The updated tokens are the reference's on the same arguments. -/
theorem out_result0 :
    Cert.OutRefIdeal.Read.val_main_v6 (F := Ideal) (m ((c.tc : Thread Cert.OutIdeal.nD Cert.OutIdeal.τ).loc Cert.OutIdeal.main_arg0))
        (m ((c.tc : Thread Cert.OutIdeal.nD Cert.OutIdeal.τ).loc Cert.OutIdeal.main_arg1))
        (m ((c.tc : Thread Cert.OutIdeal.nD Cert.OutIdeal.τ).loc Cert.OutIdeal.main_arg2))
        (m ((c.tc : Thread Cert.OutIdeal.nD Cert.OutIdeal.τ).loc Cert.OutIdeal.main_arg3))
        (m ((c.tc : Thread Cert.OutIdeal.nD Cert.OutIdeal.τ).loc Cert.OutIdeal.main_arg4))
        (m ((c.tc : Thread Cert.OutIdeal.nD Cert.OutIdeal.τ).loc Cert.OutIdeal.main_arg5))
        (m ((c.tc : Thread Cert.OutIdeal.nD Cert.OutIdeal.τ).loc Cert.OutIdeal.main_arg6))
      = (Cert.OutIdeal.Run.dats m 0 c).arrAt 11 Cert.OutIdeal.cfg0.N := by
  funext i
  rw [eq_ix3 i]
  exact (Cert.OutRefIdeal.Val.upd_apply _ _ _ _ _ _ _ _ _ _).trans (Cert.OutIdeal.Val.array11_apply m c _ _ _).symm

/-- The modulated rows are the reference's on the same arguments. -/
theorem out_result1 :
    Cert.OutRefIdeal.Read.val_main_v39 (F := Ideal) (m ((c.tc : Thread Cert.OutIdeal.nD Cert.OutIdeal.τ).loc Cert.OutIdeal.main_arg0))
        (m ((c.tc : Thread Cert.OutIdeal.nD Cert.OutIdeal.τ).loc Cert.OutIdeal.main_arg1))
        (m ((c.tc : Thread Cert.OutIdeal.nD Cert.OutIdeal.τ).loc Cert.OutIdeal.main_arg2))
        (m ((c.tc : Thread Cert.OutIdeal.nD Cert.OutIdeal.τ).loc Cert.OutIdeal.main_arg3))
        (m ((c.tc : Thread Cert.OutIdeal.nD Cert.OutIdeal.τ).loc Cert.OutIdeal.main_arg4))
        (m ((c.tc : Thread Cert.OutIdeal.nD Cert.OutIdeal.τ).loc Cert.OutIdeal.main_arg5))
        (m ((c.tc : Thread Cert.OutIdeal.nD Cert.OutIdeal.τ).loc Cert.OutIdeal.main_arg6))
        (m ((c.tc : Thread Cert.OutIdeal.nD Cert.OutIdeal.τ).loc Cert.OutIdeal.main_arg7))
        (m ((c.tc : Thread Cert.OutIdeal.nD Cert.OutIdeal.τ).loc Cert.OutIdeal.main_arg8))
        (m ((c.tc : Thread Cert.OutIdeal.nD Cert.OutIdeal.τ).loc Cert.OutIdeal.main_arg9))
      = (Cert.OutIdeal.Run.dats m 0 c).arrAt 12 Cert.OutIdeal.cfg0.N := by
  funext i
  obtain ⟨b, s, f, l, rfl⟩ := row_split i
  exact (Cert.OutRefIdeal.Val.cut_apply _ _ _ _ _ _ _ _ _ _ _ _ _ _).trans (Cert.OutIdeal.Val.array12_apply m c _ _ _ _).symm

/-- The affinities are the reference's on the same arguments. -/
theorem out_result2 :
    Cert.OutRefIdeal.Read.val_main_v40 (F := Ideal) (m ((c.tc : Thread Cert.OutIdeal.nD Cert.OutIdeal.τ).loc Cert.OutIdeal.main_arg0))
        (m ((c.tc : Thread Cert.OutIdeal.nD Cert.OutIdeal.τ).loc Cert.OutIdeal.main_arg1))
        (m ((c.tc : Thread Cert.OutIdeal.nD Cert.OutIdeal.τ).loc Cert.OutIdeal.main_arg2))
        (m ((c.tc : Thread Cert.OutIdeal.nD Cert.OutIdeal.τ).loc Cert.OutIdeal.main_arg3))
        (m ((c.tc : Thread Cert.OutIdeal.nD Cert.OutIdeal.τ).loc Cert.OutIdeal.main_arg4))
        (m ((c.tc : Thread Cert.OutIdeal.nD Cert.OutIdeal.τ).loc Cert.OutIdeal.main_arg5))
        (m ((c.tc : Thread Cert.OutIdeal.nD Cert.OutIdeal.τ).loc Cert.OutIdeal.main_arg6))
        (m ((c.tc : Thread Cert.OutIdeal.nD Cert.OutIdeal.τ).loc Cert.OutIdeal.main_arg7))
        (m ((c.tc : Thread Cert.OutIdeal.nD Cert.OutIdeal.τ).loc Cert.OutIdeal.main_arg8))
        (m ((c.tc : Thread Cert.OutIdeal.nD Cert.OutIdeal.τ).loc Cert.OutIdeal.main_arg9))
        (m ((c.tc : Thread Cert.OutIdeal.nD Cert.OutIdeal.τ).loc Cert.OutIdeal.main_arg10))
      = (Cert.OutIdeal.Run.dats m 0 c).arrAt 13 Cert.OutIdeal.cfg0.N := by
  funext i
  rw [eq_ix3 i]
  exact (Cert.OutRefIdeal.Val.aff_apply _ _ _ _ _ _ _ _ _ _ _ _ _ _).trans (Cert.OutIdeal.Val.array13_apply m c _ _ _).symm

end Results

/-- The call's run, with its results named and its arguments kept. -/
theorem out_run (m : (ℓ : Loc Cert.OutIdeal.nD Cert.OutIdeal.τ Cert.OutIdeal.sig) → Buf (Elt Ideal) ℓ) (ρ : Dev Cert.OutIdeal.nD → PrngReg) :
    θ_run (Cert.OutIdeal.defs (F := Ideal)) (onTc (τ := Cert.OutIdeal.τ) (Cert.OutIdeal.main (F := Ideal))) ⟨m, fun _ => 0, ρ⟩
      (fun r => ∀ c : Dev Cert.OutIdeal.nD, ∀ w : Fin Cert.OutIdeal.cfg0.W,
        r.2.mem ((c.tc : Thread Cert.OutIdeal.nD Cert.OutIdeal.τ).loc (Pipeline.arrRef Cert.OutIdeal.spec0 w))
          = (Cert.OutIdeal.Run.dats m 0 c).arrAt w Cert.OutIdeal.cfg0.N) :=
  (θ_run Cert.OutIdeal.defs _ _).mono (fun r h c w => (h.1 c).1 w) (Cert.OutIdeal.Run.run m ρ)

/-- Over the extended reals the output projection computes its reference, on every input. -/
theorem out_algebraic : Cert.algebraic_OutIdeal_OutRefIdeal := by
  intro m g m' g' _ hargs
  refine ⟨fun c => (Cert.OutIdeal.Run.dats m 0 c).arrAt 11 Cert.OutIdeal.cfg0.N, fun c => (Cert.OutIdeal.Run.dats m 0 c).arrAt 12 Cert.OutIdeal.cfg0.N,
    fun c => (Cert.OutIdeal.Run.dats m 0 c).arrAt 13 Cert.OutIdeal.cfg0.N, ?_, ?_⟩
  · refine (θ_run _ _ _).mono (fun r h c => ?_) (out_run m g)
    have k := fun (w : Fin Cert.OutIdeal.cfg0.W) (hw : w.val < 11) => (h c w).trans (Cert.OutIdeal.Run.arg_kept m c w hw)
    exact ⟨h c 11, h c 12, h c 13, k 0 (by decide), k 1 (by decide), k 2 (by decide), k 3 (by decide), k 4 (by decide), k 5 (by decide),
      k 6 (by decide), k 7 (by decide), k 8 (by decide), k 9 (by decide), k 10 (by decide)⟩
  · refine (θ_run _ _ _).mono (fun r h c => ?_) (Cert.OutRefIdeal.Value.run m' g')
    obtain ⟨r0, r1, r2, hk⟩ := h c
    obtain ⟨h0, h1, h2, h3, h4, h5, h6, h7, h8, h9, h10⟩ := hargs c
    refine ⟨r0.trans ((Cert.OutRefIdeal.Read.val_main_v6_eq ..).trans ?_), r1.trans ((Cert.OutRefIdeal.Read.val_main_v39_eq ..).trans ?_),
      r2.trans ((Cert.OutRefIdeal.Read.val_main_v40_eq ..).trans ?_), hk⟩
    · rw [h0, h1, h2, h3, h4, h5, h6]
      exact out_result0 m c
    · rw [h0, h1, h2, h3, h4, h5, h6, h7, h8, h9]
      exact out_result1 m c
    · rw [h0, h1, h2, h3, h4, h5, h6, h7, h8, h9, h10]
      exact out_result2 m c

end Cert.Proof

end
-- ==== Proof.AdaValue.lean ====
/- The modulation's array, element by element, from the call's arguments, and its reference's: a row of conditions after
   the SiLU, times a column of the layer's weights, plus the column's bias. -/
module

public import proofs.«01_k».proof.Defs
public import proofs.«01_k».proof.Proof.Gen.AdaIdeal.Value
public import proofs.«01_k».proof.Proof.Gen.AdaRefIdeal.Run
public import proofs.«01_k».proof.Proof.Gen.AdaRefIdeal.Read
public import proofs.«01_k».proof.Proof.Place
public import Idealize.ShloMosaic.Lib.Pipeline.ValueKit.Acc
public import Idealize.ShloMosaic.Lib.Pointwise

@[expose] public section

set_option maxRecDepth 16384

noncomputable section

namespace Cert.Modulation

open Idealize.ShloMosaic

/-- A row of conditions after the SiLU, its product with a column, and the column's bias. -/
def lane (x w : Fin 1024 → EReal) (b : EReal) : EReal := (∑ k, x k * Ideal.logistic (x k) * w k) + b

end Cert.Modulation

namespace Cert.AdaIdeal.Val

open Cert.AdaIdeal Cert.AdaIdeal.Gen Cert.AdaIdeal.Value Idealize.ShloMosaic Idealize.ShloMosaic.TcCoe Idealize.SL.Sem
open Cert.Modulation

/-- What the body stores, element by element. -/
theorem pay_apply (v0 : Vec Ideal S16x1024 .f32) (v4 : Vec Ideal S1x1024x1024 .f32) (v8 : Vec Ideal S1x1x1024 .f32)
    (r : Fin 16) (l : Fin 1024) :
    k0_pay1 (F := Ideal) v0 v4 v8 (ix3 0 r l) = lane (fun k => v0 (ix2 r k)) (fun k => v4 (ix3 0 k l)) (v8 (ix3 0 0 l)) := by
  unfold lane
  pointwise [k0_pay1]

/-- The output's block, element by element. -/
theorem out_apply (x0 : Vec Ideal S16x1024 .f32) (x1 : Vec Ideal S1x1024x1024 .f32) (x2 : Vec Ideal S1x1x1024 .f32)
    (r : Fin 16) (l : Fin 1024) :
    out0_3 (F := Ideal) x0 x1 x2 (ix3 0 r l) = lane (fun k => x0 (ix2 r k)) (fun k => x1 (ix3 0 k l)) (x2 (ix3 0 0 l)) := by
  unfold out0_3
  simp (disch := decide) only [View.ld_unit_lit', View.canon_cons_unit_lit']
  exact pay_apply _ _ _ _ _

variable (m : (ℓ : Loc nD τ sig) → Buf (Elt Ideal) ℓ)

/-- The conditions are whole; the other windows are indexed by the layer and the sixth of the columns. -/
theorem idx_facts : ∀ t : Fin cfg0.N,
    (win0_0.index t (0 : Fin 2) = 0 ∧ win0_0.index t (1 : Fin 2) = 0) ∧
    (win0_1.index t (0 : Fin 3) = t.val / 6 ∧ win0_1.index t (1 : Fin 3) = 0 ∧ win0_1.index t (2 : Fin 3) = t.val % 6) ∧
    (win0_2.index t (0 : Fin 3) = t.val / 6 ∧ win0_2.index t (1 : Fin 3) = 0 ∧ win0_2.index t (2 : Fin 3) = t.val % 6) ∧
    (win0_3.index t (0 : Fin 3) = t.val / 6 ∧ win0_3.index t (1 : Fin 3) = 0 ∧ win0_3.index t (2 : Fin 3) = t.val % 6) :=
  (by decide +kernel : ∀ t : Fin grid0.N, _)

/-- An input's block is its array read through the block's place. -/
theorem iblk_eq (c : Dev nD) (w : Fin cfg0.W) (t : Fin cfg0.N) (i : ((cfg0.win w).xblock (cfg0.grid.coords t)).Idx) :
    iblk m c w t i = (((cfg0.win w).blk t).view.read (Elt Ideal) (V m c (Pipeline.arrRef spec0 w))) i := rfl

/-- The conditions at every point. -/
theorem iblk0_apply (c : Dev nD) (t : Fin cfg0.N) (r : Fin 16) (k : Fin 1024) :
    (iblk m c 0 t : Vec Ideal S16x1024 .f32) (ix2 r k) = (m ((c : Thread nD τ).loc main_arg0) : S16x1024.Idx → EReal) (ix2 r k) := by
  obtain ⟨⟨h0, h1⟩, -⟩ := idx_facts t
  rw [iblk_eq, View.read_apply]
  exact congrArg (m (c.tc.loc main_arg0)) (Place.emb_eq win0_0 t (ix2 r k) (ix2 r k) (Place.at2 (by omega) (by omega)))

/-- The layer's weights at the point's columns. -/
theorem iblk1_apply (c : Dev nD) (t : Fin cfg0.N) (y : Fin 2) (hy : y.val = t.val / 6) (k l : Fin 1024) (n : Fin 6144)
    (hn : n.val = t.val % 6 * 1024 + l.val) :
    (iblk m c 1 t : Vec Ideal S1x1024x1024 .f32) (ix3 0 k l) = (m ((c : Thread nD τ).loc main_arg1) : S2x1024x6144.Idx → EReal) (ix3 y k n) := by
  obtain ⟨-, ⟨h0, h1, h2⟩, -⟩ := idx_facts t
  rw [iblk_eq, View.read_apply]
  exact congrArg (m (c.tc.loc main_arg1)) (Place.emb_eq win0_1 t (ix3 0 k l) (ix3 y k n) (Place.at3 (by omega) (by omega) (by omega)))

/-- The layer's biases at the point's columns. -/
theorem iblk2_apply (c : Dev nD) (t : Fin cfg0.N) (y : Fin 2) (hy : y.val = t.val / 6) (l : Fin 1024) (n : Fin 6144)
    (hn : n.val = t.val % 6 * 1024 + l.val) :
    (iblk m c 2 t : Vec Ideal S1x1x1024 .f32) (ix3 0 0 l) = (m ((c : Thread nD τ).loc main_arg2) : S2x1x6144.Idx → EReal) (ix3 y 0 n) := by
  obtain ⟨-, -, ⟨h0, h1, h2⟩, -⟩ := idx_facts t
  rw [iblk_eq, View.read_apply]
  exact congrArg (m (c.tc.loc main_arg2)) (Place.emb_eq win0_2 t (ix3 0 0 l) (ix3 y 0 n) (Place.at3 (by omega) (by omega) (by omega)))

/-- The point that holds a layer's column, and the column's place there. -/
theorem place (y : Fin 2) (n : Fin 6144) : ∃ (t : Fin cfg0.N) (l : Fin 1024), y.val = t.val / 6 ∧ n.val = t.val % 6 * 1024 + l.val := by
  have hN : cfg0.N = 12 := N_0
  have hn := n.isLt
  have hy := y.isLt
  exact ⟨⟨y.val * 6 + n.val / 1024, by rw [hN]; omega⟩, ⟨n.val % 1024, by omega⟩, by dsimp only; omega, by dsimp only; omega⟩

/-- THE MODULATION THE CALL LEAVES. -/
theorem array_apply (c : Dev nD) (y : Fin 2) (r : Fin 16) (n : Fin 6144) :
    ((dats m 0 c).arrAt 3 cfg0.N : S2x16x6144.Idx → EReal) (ix3 y r n)
      = lane (fun k => (m ((c : Thread nD τ).loc main_arg0) : S16x1024.Idx → EReal) (ix2 r k))
          (fun k => (m ((c : Thread nD τ).loc main_arg1) : S2x1024x6144.Idx → EReal) (ix3 y k n))
          ((m ((c : Thread nD τ).loc main_arg2) : S2x1x6144.Idx → EReal) (ix3 y 0 n)) := by
  obtain ⟨t, l, hy, hn⟩ := place y n
  have hblk := congrFun (blocks3 m c t (flush0_3 t)) (ix3 0 r l)
  obtain ⟨-, -, -, ⟨h0, h1, h2⟩⟩ := idx_facts t
  rw [View.read_apply] at hblk
  have he : ((cfg0.win 3).blk t).view.emb (ix3 0 r l) = ix3 y r n :=
    Place.emb_eq win0_3 t (ix3 0 r l) (ix3 y r n) (Place.at3 (by omega) (by omega) (by omega))
  refine (congrArg ((dats m 0 c).arrAt 3 cfg0.N : S2x16x6144.Idx → EReal) he.symm).trans (hblk.trans ?_)
  rw [flushed3]
  refine (out_apply _ _ _ r l).trans ?_
  simp only [iblk0_apply m c t r, iblk1_apply m c t y hy _ l n hn, iblk2_apply m c t y hy l n hn]

end Cert.AdaIdeal.Val

namespace Cert.AdaRefIdeal.Val

open Cert.AdaRefIdeal Cert.AdaRefIdeal.Gen Cert.AdaRefIdeal.Read Idealize.ShloMosaic Idealize.ShloMosaic.TcCoe Idealize.SL.Sem
open Cert.Modulation

/-- The SiLU, element by element. -/
theorem silu_apply (x0 : S16x1024.Idx → EReal) (r : Fin 16) (k : Fin 1024) :
    val_main_v0 (F := Ideal) x0 (ix2 r k) = x0 (ix2 r k) * Ideal.logistic (x0 (ix2 r k)) := by
  pointwise [val_main_v0, val_main_call0_v5, val_main_call0_v4, val_main_call0_v3, val_main_call0_v2, val_main_call0_v1,
    val_main_call0_v0, val_main_call0_cst, val_main_call0_cst_0]
  rfl

/-- THE REFERENCE'S RESULT, element by element. -/
theorem value_apply (x0 : S16x1024.Idx → EReal) (x1 : S2x1024x6144.Idx → EReal) (x2 : S2x1x6144.Idx → EReal)
    (y : Fin 2) (r : Fin 16) (n : Fin 6144) :
    val_main_v4 (F := Ideal) x0 x1 x2 (ix3 y r n)
      = lane (fun k => x0 (ix2 r k)) (fun k => x1 (ix3 y k n)) (x2 (ix3 y 0 n)) := by
  unfold lane
  simp only [← silu_apply]
  unfold val_main_v4 val_main_v3 val_main_v2 val_main_v1
  generalize val_main_v0 (F := Ideal) x0 = v0
  pointwise
  simp only [mul_comm]

end Cert.AdaRefIdeal.Val

namespace Cert.Proof

open Idealize.ShloMosaic Idealize.ShloMosaic.TcCoe Idealize.SL.Sem Cert.AdaIdeal.Gen

/-- The modulation is the reference's on the same arguments. -/
theorem ada_result (m : (ℓ : Loc Cert.AdaIdeal.nD Cert.AdaIdeal.τ Cert.AdaIdeal.sig) → Buf (Elt Ideal) ℓ) (c : Dev Cert.AdaIdeal.nD) :
    Cert.AdaRefIdeal.Read.val_main_v4 (F := Ideal) (m ((c.tc : Thread Cert.AdaIdeal.nD Cert.AdaIdeal.τ).loc Cert.AdaIdeal.main_arg0))
        (m ((c.tc : Thread Cert.AdaIdeal.nD Cert.AdaIdeal.τ).loc Cert.AdaIdeal.main_arg1))
        (m ((c.tc : Thread Cert.AdaIdeal.nD Cert.AdaIdeal.τ).loc Cert.AdaIdeal.main_arg2))
      = (dats m 0 c).arrAt 3 Cert.AdaIdeal.cfg0.N := by
  funext i
  rw [eq_ix3 i]
  exact (Cert.AdaRefIdeal.Val.value_apply _ _ _ _ _ _).trans (Cert.AdaIdeal.Val.array_apply m c _ _ _).symm

/-- Over the extended reals the modulation's call computes its reference, on every input. -/
theorem ada_algebraic : Cert.algebraic_AdaIdeal_AdaRefIdeal := by
  intro m g m' g' _ hargs
  refine ⟨fun c => (dats m 0 c).arrAt 3 Cert.AdaIdeal.cfg0.N, Cert.AdaIdeal.Value.run_blocks m g, ?_⟩
  refine (θ_run _ _ _).mono (fun r h c => ⟨(h c).1.trans ((Cert.AdaRefIdeal.Read.val_main_v4_eq ..).trans ?_), (h c).2⟩)
    (Cert.AdaRefIdeal.Value.run m' g')
  obtain ⟨h0, h1, h2⟩ := hargs c
  rw [h0, h1, h2]
  exact ada_result m c

end Cert.Proof

end
-- ==== Proof.KvValue.lean ====
/- The keys and values the second layer's context call leaves, element by element, from the call's arguments, and its
   reference's: a context token's modulated norm times a column of the weights. -/
module

public import proofs.«01_k».proof.Defs
public import proofs.«01_k».proof.Proof.ProjSpec
public import proofs.«01_k».proof.Proof.Gen.KvIdeal.Value
public import proofs.«01_k».proof.Proof.Gen.KvRefIdeal.Run
public import proofs.«01_k».proof.Proof.Gen.KvRefIdeal.Read
public import proofs.«01_k».proof.Proof.Place
public import Idealize.ShloMosaic.Lib.Pipeline.ValueKit.Acc
public import Idealize.ShloMosaic.Lib.Pointwise

@[expose] public section

set_option maxRecDepth 16384

noncomputable section

namespace Cert.KvIdeal.Val

open Cert.KvIdeal Cert.KvIdeal.Gen Cert.KvIdeal.Value Idealize.ShloMosaic Idealize.ShloMosaic.TcCoe Idealize.SL.Sem
open Cert.Inproj

/-- What the body stores, element by element. -/
theorem pay_apply (v0 : Vec Ideal S1x256x1024 .f32) (v2 : Vec Ideal S1x1024 .f32) (v3 v5 : Vec Ideal S1x1x1024 .f32)
    (v26 : Vec Ideal S1024x768 .bf16) (r : Fin 256) (l : Fin 768) :
    k0_pay1 (F := Ideal) v0 v2 v3 v5 v26 (ix3 0 r l)
      = prj (fun k => v0 (ix3 0 r k)) (fun k => v2 (ix2 0 k)) (fun k => v3 (ix3 0 0 k)) (fun k => v5 (ix3 0 0 k))
          (fun k => v26 (ix2 k l)) := by
  unfold prj nrm
  pointwise [k0_pay1]

/-- The output's block, element by element. -/
theorem out_apply (x0 : Vec Ideal S1x256x1024 .f32) (x1 x2 : Vec Ideal S1x1x1024 .f32) (x3 : Vec Ideal S1x1024 .f32)
    (x4 : Vec Ideal S1024x768 .bf16) (r : Fin 256) (l : Fin 768) :
    out0_5 (F := Ideal) x0 x1 x2 x3 x4 (ix3 0 r l)
      = prj (fun k => x0 (ix3 0 r k)) (fun k => x3 (ix2 0 k)) (fun k => x1 (ix3 0 0 k)) (fun k => x2 (ix3 0 0 k))
          (fun k => x4 (ix2 k l)) := by
  unfold out0_5
  simp (disch := decide) only [View.ld_unit_lit', View.canon_cons_unit_lit']
  exact pay_apply _ _ _ _ _ _ _

variable (m : (ℓ : Loc nD τ sig) → Buf (Elt Ideal) ℓ)

/-- The tokens and the output are indexed by the sequence; the shift, the scale, the gain and the weights are whole. -/
theorem idx_facts : ∀ t : Fin cfg0.N,
    (win0_0.index t (0 : Fin 3) = t.val ∧ win0_0.index t (1 : Fin 3) = 0 ∧ win0_0.index t (2 : Fin 3) = 0) ∧
    (win0_1.index t (0 : Fin 3) = 0 ∧ win0_1.index t (1 : Fin 3) = 0 ∧ win0_1.index t (2 : Fin 3) = 0) ∧
    (win0_2.index t (0 : Fin 3) = 0 ∧ win0_2.index t (1 : Fin 3) = 0 ∧ win0_2.index t (2 : Fin 3) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 3) = t.val ∧ win0_5.index t (1 : Fin 3) = 0 ∧ win0_5.index t (2 : Fin 3) = 0) :=
  (by decide +kernel : ∀ t : Fin grid0.N, _)

/-- An input's block is its array read through the block's place. -/
theorem iblk_eq (c : Dev nD) (w : Fin cfg0.W) (t : Fin cfg0.N) (i : ((cfg0.win w).xblock (cfg0.grid.coords t)).Idx) :
    iblk m c w t i = (((cfg0.win w).blk t).view.read (Elt Ideal) (V m c (Pipeline.arrRef spec0 w))) i := rfl

section Blocks
variable (c : Dev nD) (t : Fin cfg0.N)

/-- The sequence's context tokens. -/
theorem iblk0_apply (b : Fin 8) (hb : b.val = t.val) (s : Fin 256) (k : Fin 1024) :
    (iblk m c 0 t : Vec Ideal S1x256x1024 .f32) (ix3 0 s k) = (m ((c : Thread nD τ).loc main_arg0) : S8x256x1024.Idx → EReal) (ix3 b s k) := by
  obtain ⟨⟨h0, h1, h2⟩, -⟩ := idx_facts t
  rw [iblk_eq, View.read_apply]
  exact congrArg (m (c.tc.loc main_arg0)) (Place.emb_eq win0_0 t (ix3 0 s k) (ix3 b s k) (Place.at3 (by omega) (by omega) (by omega)))

/-- The shift at every point. -/
theorem iblk1_apply (k : Fin 1024) :
    (iblk m c 1 t : Vec Ideal S1x1x1024 .f32) (ix3 0 0 k) = (m ((c : Thread nD τ).loc main_arg1) : S1x1x1024.Idx → EReal) (ix3 0 0 k) := by
  obtain ⟨-, ⟨h0, h1, h2⟩, -⟩ := idx_facts t
  rw [iblk_eq, View.read_apply]
  exact congrArg (m (c.tc.loc main_arg1)) (Place.emb_eq win0_1 t (ix3 0 0 k) (ix3 0 0 k) (Place.at3 (by omega) (by omega) (by omega)))

/-- The scale at every point. -/
theorem iblk2_apply (k : Fin 1024) :
    (iblk m c 2 t : Vec Ideal S1x1x1024 .f32) (ix3 0 0 k) = (m ((c : Thread nD τ).loc main_arg2) : S1x1x1024.Idx → EReal) (ix3 0 0 k) := by
  obtain ⟨-, -, ⟨h0, h1, h2⟩, -⟩ := idx_facts t
  rw [iblk_eq, View.read_apply]
  exact congrArg (m (c.tc.loc main_arg2)) (Place.emb_eq win0_2 t (ix3 0 0 k) (ix3 0 0 k) (Place.at3 (by omega) (by omega) (by omega)))

/-- The gain at every point. -/
theorem iblk3_apply (k : Fin 1024) :
    (iblk m c 3 t : Vec Ideal S1x1024 .f32) (ix2 0 k) = (m ((c : Thread nD τ).loc main_arg3) : S1x1024.Idx → EReal) (ix2 0 k) := by
  obtain ⟨-, -, -, ⟨h0, h1⟩, -⟩ := idx_facts t
  rw [iblk_eq, View.read_apply]
  exact congrArg (m (c.tc.loc main_arg3)) (Place.emb_eq win0_3 t (ix2 0 k) (ix2 0 k) (Place.at2 (by omega) (by omega)))

/-- The weights at every point. -/
theorem iblk4_apply (k : Fin 1024) (l : Fin 768) :
    (iblk m c 4 t : Vec Ideal S1024x768 .bf16) (ix2 k l) = (m ((c : Thread nD τ).loc main_arg4) : S1024x768.Idx → EReal) (ix2 k l) := by
  obtain ⟨-, -, -, -, ⟨h0, h1⟩, -⟩ := idx_facts t
  rw [iblk_eq, View.read_apply]
  exact congrArg (m (c.tc.loc main_arg4)) (Place.emb_eq win0_4 t (ix2 k l) (ix2 k l) (Place.at2 (by omega) (by omega)))

end Blocks

/-- THE KEYS AND VALUES THE CALL LEAVES. -/
theorem array_apply (c : Dev nD) (b : Fin 8) (s : Fin 256) (l : Fin 768) :
    ((dats m 0 c).arrAt 5 cfg0.N : S8x256x768.Idx → EReal) (ix3 b s l)
      = prj (fun k => (m ((c : Thread nD τ).loc main_arg0) : S8x256x1024.Idx → EReal) (ix3 b s k))
          (fun k => (m ((c : Thread nD τ).loc main_arg3) : S1x1024.Idx → EReal) (ix2 0 k))
          (fun k => (m ((c : Thread nD τ).loc main_arg1) : S1x1x1024.Idx → EReal) (ix3 0 0 k))
          (fun k => (m ((c : Thread nD τ).loc main_arg2) : S1x1x1024.Idx → EReal) (ix3 0 0 k))
          (fun k => (m ((c : Thread nD τ).loc main_arg4) : S1024x768.Idx → EReal) (ix2 k l)) := by
  obtain ⟨t, hb⟩ : ∃ t : Fin cfg0.N, b.val = t.val := ⟨⟨b.val, by rw [show cfg0.N = 8 from N_0]; exact b.isLt⟩, rfl⟩
  have hblk := congrFun (blocks5 m c t (flush0_5 t)) (ix3 0 s l)
  obtain ⟨-, -, -, -, -, ⟨h0, h1, h2⟩⟩ := idx_facts t
  rw [View.read_apply] at hblk
  have he : ((cfg0.win 5).blk t).view.emb (ix3 0 s l) = ix3 b s l :=
    Place.emb_eq win0_5 t (ix3 0 s l) (ix3 b s l) (Place.at3 (by omega) (by omega) (by omega))
  refine (congrArg ((dats m 0 c).arrAt 5 cfg0.N : S8x256x768.Idx → EReal) he.symm).trans (hblk.trans ?_)
  rw [flushed5]
  refine (out_apply _ _ _ _ _ s l).trans ?_
  simp only [iblk0_apply m c t b hb, iblk1_apply m c t, iblk2_apply m c t, iblk3_apply m c t, iblk4_apply m c t]

end Cert.KvIdeal.Val

namespace Cert.KvRefIdeal.Val

open Cert.KvRefIdeal Cert.KvRefIdeal.Gen Cert.KvRefIdeal.Read Idealize.ShloMosaic Idealize.ShloMosaic.TcCoe Idealize.SL.Sem
open Cert.Inproj

/-- THE REFERENCE'S RESULT, element by element. -/
theorem value_apply (x0 : S8x256x1024.Idx → EReal) (x1 x2 : S1x1x1024.Idx → EReal) (x3 : S1x1024.Idx → EReal)
    (x4 : S1024x768.Idx → EReal) (b : Fin 8) (s : Fin 256) (l : Fin 768) :
    val_main_v21 (F := Ideal) x0 x1 x2 x3 x4 (ix3 b s l)
      = prj (fun k => x0 (ix3 b s k)) (fun k => x3 (ix2 0 k)) (fun k => x1 (ix3 0 0 k)) (fun k => x2 (ix3 0 0 k))
          (fun k => x4 (ix2 k l)) := by
  unfold prj nrm
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]

end Cert.KvRefIdeal.Val

namespace Cert.Proof

open Idealize.ShloMosaic Idealize.ShloMosaic.TcCoe Idealize.SL.Sem Cert.KvIdeal.Gen

/-- The keys and values are the reference's on the same arguments. -/
theorem kv_result (m : (ℓ : Loc Cert.KvIdeal.nD Cert.KvIdeal.τ Cert.KvIdeal.sig) → Buf (Elt Ideal) ℓ) (c : Dev Cert.KvIdeal.nD) :
    Cert.KvRefIdeal.Read.val_main_v21 (F := Ideal) (m ((c.tc : Thread Cert.KvIdeal.nD Cert.KvIdeal.τ).loc Cert.KvIdeal.main_arg0))
        (m ((c.tc : Thread Cert.KvIdeal.nD Cert.KvIdeal.τ).loc Cert.KvIdeal.main_arg1))
        (m ((c.tc : Thread Cert.KvIdeal.nD Cert.KvIdeal.τ).loc Cert.KvIdeal.main_arg2))
        (m ((c.tc : Thread Cert.KvIdeal.nD Cert.KvIdeal.τ).loc Cert.KvIdeal.main_arg3))
        (m ((c.tc : Thread Cert.KvIdeal.nD Cert.KvIdeal.τ).loc Cert.KvIdeal.main_arg4))
      = (dats m 0 c).arrAt 5 Cert.KvIdeal.cfg0.N := by
  funext i
  rw [eq_ix3 i]
  exact (Cert.KvRefIdeal.Val.value_apply _ _ _ _ _ _ _ _).trans (Cert.KvIdeal.Val.array_apply m c _ _ _).symm

/-- Over the extended reals the second layer's context call computes its reference, on every input. -/
theorem kv_algebraic : Cert.algebraic_KvIdeal_KvRefIdeal := by
  intro m g m' g' _ hargs
  refine ⟨fun c => (dats m 0 c).arrAt 5 Cert.KvIdeal.cfg0.N, Cert.KvIdeal.Value.run_blocks m g, ?_⟩
  refine (θ_run _ _ _).mono (fun r h c => ⟨(h c).1.trans ((Cert.KvRefIdeal.Read.val_main_v21_eq ..).trans ?_), (h c).2⟩)
    (Cert.KvRefIdeal.Value.run m' g')
  obtain ⟨h0, h1, h2, h3, h4⟩ := hargs c
  rw [h0, h1, h2, h3, h4]
  exact kv_result m c

end Cert.Proof

end
-- ==== Proof.CtxPoint.lean ====
/- The arrays the context tokens' input projection leaves in the first layer, element by element, from the call's
   arguments. One block holds a whole sequence, so no token takes a neighbour from another block. -/
module

public import proofs.«01_k».proof.Proof.ProjSpec
public import proofs.«01_k».proof.Proof.Gen.CtxIdeal.Value
public import Idealize.ShloMosaic.Lib.Pipeline.ValueKit.Acc
public import Idealize.ShloMosaic.Lib.Pointwise

@[expose] public section

set_option maxRecDepth 16384

noncomputable section

namespace Cert.Inproj

open Idealize.ShloMosaic

/-- A context token's product with a column of the weights, from the arguments. -/
def ctok (x : (⟨3, ![8, 256, 1024]⟩ : Shape).Idx → EReal) (sh sc : (⟨3, ![1, 1, 1024]⟩ : Shape).Idx → EReal)
    (g : (⟨2, ![1, 1024]⟩ : Shape).Idx → EReal) (w : (⟨2, ![1024, 2304]⟩ : Shape).Idx → EReal) (b : Fin 8) (s : Fin 256) (c : Fin 2304) : EReal :=
  prj (fun k => x (ix3 b s k)) (fun k => g (ix2 0 k)) (fun k => sh (ix3 0 0 k)) (fun k => sc (ix3 0 0 k)) (fun k => w (ix2 k c))

end Cert.Inproj

namespace Cert.CtxIdeal.Val

open Cert.CtxIdeal Cert.CtxIdeal.Gen Cert.CtxIdeal.Value Idealize.ShloMosaic Idealize.ShloMosaic.TcCoe Idealize.SL.Sem
open Cert.Inproj

/-- The block's product is each token's product with each column. -/
theorem pay2_apply (v0 : Vec Ideal S1x256x1024 .f32) (v2 : Vec Ideal S1x1024 .f32) (v3 v5 : Vec Ideal S1x1x1024 .f32)
    (v26 : Vec Ideal S1024x2304 .bf16) (r : Fin 256) (l : Fin 2304) :
    k0_pay2 (F := Ideal) v0 v2 v3 v5 v26 (ix2 r l)
      = prj (fun k => v0 (ix3 0 r k)) (fun k => v2 (ix2 0 k)) (fun k => v3 (ix3 0 0 k)) (fun k => v5 (ix3 0 0 k))
          (fun k => v26 (ix2 k l)) := by
  unfold prj nrm
  pointwise [k0_pay2]

/-- The block's convolved columns between eight rows of `v58` on either side. -/
def ext (n : BitVec 32) (v27 : FVec Ideal S256x2304 .f32) (v58 : FVec Ideal S16x768 .f32) : FVec Ideal S272x768 .f32 :=
  concatenate S272x768 0
    [⟨S8x768, Scalar.select (Scalar.cmpi .eq n 0#32) (broadcast S8x768 (Scalar.ofBits (F := Ideal) .f32 0x00000000#32))
        (extractStridedSlice S8x768 ![0, 0] v58 slices_S16x768_o0_0_S8x768)⟩,
     ⟨S256x768, extractStridedSlice S256x768 ![0, 0] v27 slices_S256x2304_o0_0_S256x768⟩,
     ⟨S8x768, Scalar.select (Scalar.cmpi .eq n 0#32) (broadcast S8x768 (Scalar.ofBits (F := Ideal) .f32 0x00000000#32))
        (extractStridedSlice S8x768 ![8, 0] v58 slices_S16x768_o8_0_S8x768)⟩]
    concatenates_S8x768_S256x768_S8x768_S272x768_d0

/-- The body's extended block is that one, whatever the rows on either side. -/
theorem pay4_eq (n : BitVec 32) (v27 : FVec Ideal S256x2304 .f32) (v32 : FVec Ideal S16x1024 .f32) (v33 : Vec Ideal S1x1024 .f32)
    (v34 v36 : Vec Ideal S1x1x1024 .f32) (v57 : Vec Ideal S1024x768 .bf16) :
    ∃ v58, k0_pay4 (F := Ideal) n v27 v32 v33 v34 v36 v57 = ext n v27 v58 := ⟨_, rfl⟩

/-- Row `8 + r` of the extended block is the block's row `r`. -/
theorem ext_mid (n : BitVec 32) (v27 : FVec Ideal S256x2304 .f32) (v58 : FVec Ideal S16x768 .f32) (r : Fin 256) (l : Fin 768) :
    ext n v27 v58 (ix2 ⟨8 + r.val, by omega⟩ l) = v27 (ix2 r ⟨l.val, by omega⟩) := by
  pointwise [ext]

/-- At the only block of a sequence the condition holds. -/
theorem select_zero (a b : EReal) : Scalar.select (Scalar.cmpi .eq 0#32 0#32) a b = a := by
  simp [Scalar.select, Scalar.cmpi, IntOp.cmpi]

/-- Row 7 of the extended block is zero, -/
theorem ext_lo (v27 : FVec Ideal S256x2304 .f32) (v58 : FVec Ideal S16x768 .f32) (l : Fin 768) :
    ext 0#32 v27 v58 (ix2 ⟨7, by omega⟩ l) = 0 := by
  refine Eq.trans ?_ (select_zero 0 (v58 (ix2 7 l)))
  pointwise [ext]

/-- and so is row 264. -/
theorem ext_hi (v27 : FVec Ideal S256x2304 .f32) (v58 : FVec Ideal S16x768 .f32) (l : Fin 768) :
    ext 0#32 v27 v58 (ix2 ⟨264, by omega⟩ l) = 0 := by
  refine Eq.trans ?_ (select_zero 0 (v58 (ix2 8 l)))
  pointwise [ext]

/-- Row `7 + r` of the extended block is the token before the block's row `r`. -/
theorem ext_before (v27 : FVec Ideal S256x2304 .f32) (v58 : FVec Ideal S16x768 .f32) (r : Fin 256) (l : Fin 768) :
    ext 0#32 v27 v58 (ix2 ⟨7 + r.val, by omega⟩ l) = prev (fun s => v27 (ix2 s ⟨l.val, by omega⟩)) r := by
  unfold prev
  obtain ⟨x, hx⟩ := r
  rcases x with - | x
  · exact ext_lo v27 v58 l
  · rw [if_neg (Nat.succ_ne_zero x)]
    refine Eq.trans ?_ (ext_mid 0#32 v27 v58 _ l)
    exact congrArg (ext 0#32 v27 v58) (congrArg (fun y => ix2 y l) (Fin.ext (by dsimp only; omega)))

/-- Row `9 + r` of the extended block is the token after the block's row `r`. -/
theorem ext_after (v27 : FVec Ideal S256x2304 .f32) (v58 : FVec Ideal S16x768 .f32) (r : Fin 256) (l : Fin 768) :
    ext 0#32 v27 v58 (ix2 ⟨9 + r.val, by omega⟩ l) = next (fun s => v27 (ix2 s ⟨l.val, by omega⟩)) r := by
  unfold next
  by_cases h : r.val + 1 = 256
  · rw [dif_pos h, ← ext_hi v27 v58 l]
    exact congrArg (ext 0#32 v27 v58) (congrArg (fun y => ix2 y l) (Fin.ext (by dsimp only; omega)))
  · rw [dif_neg h]
    refine Eq.trans ?_ (ext_mid 0#32 v27 v58 _ l)
    exact congrArg (ext 0#32 v27 v58) (congrArg (fun y => ix2 y l) (Fin.ext (by dsimp only; omega)))

/-- The stored convolution: each row with the rows before and after it in the extended block. -/
theorem pay7_apply (e : FVec Ideal S272x768 .f32) (v70 v73 v78 v83 : Vec Ideal S1x768 .f32) (r : Fin 256) (l : Fin 768) :
    k0_pay7 (F := Ideal) e (dynamicRotate 0 1#32 none e rotates_S272x768_d0) (k0_pay6 v70) v73 v78 v83 (ix3 0 r l)
      = conv (e (ix2 ⟨7 + r.val, by omega⟩ l)) (e (ix2 ⟨8 + r.val, by omega⟩ l)) (e (ix2 ⟨9 + r.val, by omega⟩ l))
          (v70 (ix2 0 l)) (v73 (ix2 0 l)) (v78 (ix2 0 l)) (v83 (ix2 0 l)) := by
  unfold conv
  have h7 : (⟨(8 + r.val + 272 - 1) % 272, Nat.mod_lt _ (by omega)⟩ : Fin 272) = ⟨7 + r.val, by omega⟩ :=
    Fin.ext (show (8 + r.val + 272 - 1) % 272 = 7 + r.val by omega)
  have h9 : (⟨(8 + r.val + 272 - 271) % 272, Nat.mod_lt _ (by omega)⟩ : Fin 272) = ⟨9 + r.val, by omega⟩ :=
    Fin.ext (show (8 + r.val + 272 - 271) % 272 = 9 + r.val by omega)
  rw [← h7, ← h9]
  pointwise [k0_pay7, k0_pay6]

/-- The pooled columns are stored as they are. -/
theorem pay8_apply (p : FVec Ideal S256x2304 .f32) (r l : Fin 256) :
    k0_pay8 (F := Ideal) p (ix3 0 r l) = p (ix2 r ⟨768 + l.val, by omega⟩) := by
  pointwise [k0_pay8]

/-- The first attention's queries are stored scaled, -/
theorem pay10_apply (p : FVec Ideal S256x2304 .f32) (r l : Fin 256) :
    k0_pay10 (F := Ideal) p (ix3 0 r l) = p (ix2 r ⟨1024 + l.val, by omega⟩) * Ideal.ofBits FTy.f32 0x3E000000#32 := by
  pointwise [k0_pay10]

/-- and so are the second's. -/
theorem pay11_apply (p : FVec Ideal S256x2304 .f32) (r l : Fin 256) :
    k0_pay11 (F := Ideal) p (ix3 0 r l) = p (ix2 r ⟨1280 + l.val, by omega⟩) * Ideal.ofBits FTy.f32 0x3E000000#32 := by
  pointwise [k0_pay11]

/-- The first 128 of the keys' and values' columns are stored as they are, -/
theorem pay1_lo (p : FVec Ideal S256x2304 .f32) (r : Fin 256) (l : Fin 128) :
    k0_pay1 (F := Ideal) p (k0_pay9 p) (ix3 0 r ⟨l.val, by omega⟩) = p (ix2 r ⟨1536 + l.val, by omega⟩) := by
  pointwise [k0_pay1, k0_pay9]

/-- the others too, -/
theorem pay1_hi (p : FVec Ideal S256x2304 .f32) (r : Fin 256) (l : Fin 640) :
    k0_pay1 (F := Ideal) p (k0_pay9 p) (ix3 0 r ⟨128 + l.val, by omega⟩) = p (ix2 r ⟨1664 + l.val, by omega⟩) := by
  pointwise [k0_pay1, k0_pay9]

/-- and so all of them. -/
theorem pay1_apply (p : FVec Ideal S256x2304 .f32) (r : Fin 256) (l : Fin 768) :
    k0_pay1 (F := Ideal) p (k0_pay9 p) (ix3 0 r l) = p (ix2 r ⟨1536 + l.val, by omega⟩) := by
  by_cases h : l.val < 128
  · exact pay1_lo p r ⟨l.val, h⟩
  · have e : l = ⟨128 + (⟨l.val - 128, by omega⟩ : Fin 640).val, by dsimp only; omega⟩ := Fin.ext (by dsimp only; omega)
    rw [e, pay1_hi]
    exact congrArg p (congrArg (ix2 r) (Fin.ext (by dsimp only; omega)))

section Point
variable (i : grid0.Coords) (x0 : Vec Ideal S1x256x1024 .f32) (x1 x2 : Vec Ideal S1x8x1024 .f32) (x3 x4 : Vec Ideal S1x1x1024 .f32)
  (x5 : Vec Ideal S1x1024 .f32) (x6 : Vec Ideal S1024x2304 .bf16) (x7 : Vec Ideal S3x768 .f32) (x8 : Vec Ideal S1x768 .f32)

/-- A row's products with the weights' columns. -/
def row (r : Fin 256) (l : Fin 2304) : EReal :=
  prj (fun k => x0 (ix3 0 r k)) (fun k => x5 (ix2 0 k)) (fun k => x3 (ix3 0 0 k)) (fun k => x4 (ix3 0 0 k)) (fun k => x6 (ix2 k l))

/-- The block's products. -/
theorem prod_apply (r : Fin 256) (l : Fin 2304) : k0_pay12 i x0 x1 x2 x3 x4 x5 x6 x7 x8 (ix2 r l) = row x0 x3 x4 x5 x6 r l := by
  unfold k0_pay12
  simp (disch := decide) only [View.ld_unit_lit']
  exact pay2_apply _ _ _ _ _ _ _

/-- The rows of the convolution's weights. -/
theorem taps_apply (l : Fin 768) : View.ld x7 r0_6 (ix2 0 l) = x7 (ix2 0 l) ∧ View.ld x7 r0_7 (ix2 0 l) = x7 (ix2 1 l)
    ∧ View.ld x7 r0_8 (ix2 0 l) = x7 (ix2 2 l) := by
  refine ⟨congrArg x7 (funext fun a => Fin.ext ?_), congrArg x7 (funext fun a => Fin.ext ?_), congrArg x7 (funext fun a => Fin.ext ?_)⟩ <;>
    match a with
    | ⟨0, _⟩ => rfl
    | ⟨1, _⟩ => show 0 + 1 * l.val = l.val; omega

/-- The convolution's block: each token's column with the tokens before and after it. -/
theorem out9_apply (hi : (i 0).val = 0) (r : Fin 256) (l : Fin 768) :
    out0_9 i x0 x1 x2 x3 x4 x5 x6 x7 x8 (ix3 0 r l)
      = conv (prev (fun s => row x0 x3 x4 x5 x6 s ⟨l.val, by omega⟩) r) (row x0 x3 x4 x5 x6 r ⟨l.val, by omega⟩)
          (next (fun s => row x0 x3 x4 x5 x6 s ⟨l.val, by omega⟩) r) (x7 (ix2 0 l)) (x7 (ix2 1 l)) (x7 (ix2 2 l)) (x8 (ix2 0 l)) := by
  have hp := prod_apply i x0 x1 x2 x3 x4 x5 x6 x7 x8
  obtain ⟨h0, h1, h2⟩ := taps_apply x7 l
  revert hp
  unfold out0_9 k0_pay5
  simp (disch := decide) only [View.ld_unit_lit', View.canon_cons_unit_lit', hi]
  generalize k0_pay12 i x0 x1 x2 x3 x4 x5 x6 x7 x8 = v27
  generalize k0_pay13 i x0 x1 x2 x3 x4 x5 x6 x7 x8 = v32
  intro hp
  obtain ⟨v58, he⟩ := pay4_eq (BitVec.ofNat 32 0) v27 v32 x5 x3 x4 (View.ld x6 r0_5)
  rw [he]
  refine (pay7_apply _ _ _ _ _ r l).trans ?_
  rw [show BitVec.ofNat 32 0 = 0#32 from rfl, ext_before, ext_mid, ext_after, h0, h1, h2]
  simp only [hp]

/-- The pooled block. -/
theorem out10_apply (r : Fin 256) (l : Fin 256) :
    out0_10 i x0 x1 x2 x3 x4 x5 x6 x7 x8 (ix3 0 r l) = row x0 x3 x4 x5 x6 r ⟨768 + l.val, by omega⟩ := by
  unfold out0_10
  simp (disch := decide) only [View.canon_cons_unit_lit']
  rw [pay8_apply, prod_apply]

/-- The first attention's queries' block. -/
theorem out11_apply (r : Fin 256) (l : Fin 256) :
    out0_11 i x0 x1 x2 x3 x4 x5 x6 x7 x8 (ix3 0 r l) = row x0 x3 x4 x5 x6 r ⟨1024 + l.val, by omega⟩ * Ideal.ofBits FTy.f32 0x3E000000#32 := by
  unfold out0_11
  simp (disch := decide) only [View.canon_cons_unit_lit']
  rw [pay10_apply, prod_apply]

/-- The second attention's queries' block. -/
theorem out12_apply (r : Fin 256) (l : Fin 256) :
    out0_12 i x0 x1 x2 x3 x4 x5 x6 x7 x8 (ix3 0 r l) = row x0 x3 x4 x5 x6 r ⟨1280 + l.val, by omega⟩ * Ideal.ofBits FTy.f32 0x3E000000#32 := by
  unfold out0_12
  simp (disch := decide) only [View.canon_cons_unit_lit']
  rw [pay11_apply, prod_apply]

/-- The keys' and values' block. -/
theorem out13_apply (r : Fin 256) (l : Fin 768) :
    out0_13 i x0 x1 x2 x3 x4 x5 x6 x7 x8 (ix3 0 r l) = row x0 x3 x4 x5 x6 r ⟨1536 + l.val, by omega⟩ := by
  unfold out0_13
  simp (disch := decide) only [View.canon_cons_unit_lit']
  rw [pay1_apply, prod_apply]

end Point

end Cert.CtxIdeal.Val

end
-- ==== Proof.CtxArray.lean ====
/- The arrays the context tokens' input projection leaves, element by element, from the call's arguments. -/
module

public import proofs.«01_k».proof.Proof.CtxPoint
public import proofs.«01_k».proof.Proof.Place

@[expose] public section

set_option maxRecDepth 16384

noncomputable section

namespace Cert.CtxIdeal.Val

open Cert.CtxIdeal Cert.CtxIdeal.Gen Cert.CtxIdeal.Value Idealize.ShloMosaic Idealize.ShloMosaic.TcCoe Idealize.SL.Sem
open Cert.Inproj

variable (m : (ℓ : Loc nD τ sig) → Buf (Elt Ideal) ℓ)

/-- The tokens and the outputs are indexed by the sequence. -/
theorem seq_facts : ∀ t : Fin cfg0.N, (grid0.coords t 0).val = 0 ∧
    (win0_0.index t (0 : Fin 3) = t.val ∧ win0_0.index t (1 : Fin 3) = 0 ∧ win0_0.index t (2 : Fin 3) = 0) ∧
    (win0_9.index t (0 : Fin 3) = t.val ∧ win0_9.index t (1 : Fin 3) = 0 ∧ win0_9.index t (2 : Fin 3) = 0) ∧
    (win0_10.index t (0 : Fin 3) = t.val ∧ win0_10.index t (1 : Fin 3) = 0 ∧ win0_10.index t (2 : Fin 3) = 0) ∧
    (win0_11.index t (0 : Fin 3) = t.val ∧ win0_11.index t (1 : Fin 3) = 0 ∧ win0_11.index t (2 : Fin 3) = 0) ∧
    (win0_12.index t (0 : Fin 3) = t.val ∧ win0_12.index t (1 : Fin 3) = 0 ∧ win0_12.index t (2 : Fin 3) = 0) ∧
    (win0_13.index t (0 : Fin 3) = t.val ∧ win0_13.index t (1 : Fin 3) = 0 ∧ win0_13.index t (2 : Fin 3) = 0) :=
  (by decide +kernel : ∀ t : Fin grid0.N, _)

/-- The shift, the scale, the gain, the weights and the convolution's weights and biases are whole at every point. -/
theorem whole_facts : ∀ t : Fin cfg0.N, (∀ a, win0_3.index t a = 0) ∧ (∀ a, win0_4.index t a = 0) ∧ (∀ a, win0_5.index t a = 0) ∧
    (∀ a, win0_6.index t a = 0) ∧ (∀ a, win0_7.index t a = 0) ∧ (∀ a, win0_8.index t a = 0) :=
  (by decide +kernel : ∀ t : Fin grid0.N, _)

section Blocks
variable (c : Dev nD) (t : Fin cfg0.N)

/-- The sequence's context tokens. -/
theorem iblk0_apply (b : Fin 8) (hb : b.val = t.val) (s : Fin 256) (k : Fin 1024) :
    (iblk m c 0 t : Vec Ideal S1x256x1024 .f32) (ix3 0 s k) = (m ((c : Thread nD τ).loc main_arg0) : S8x256x1024.Idx → EReal) (ix3 b s k) :=
  have ⟨_, ⟨h0, h1, h2⟩, _⟩ := seq_facts t
  congrArg (m (c.tc.loc main_arg0)) (Place.emb_eq win0_0 t (ix3 0 s k) (ix3 b s k) (Place.at3 (by omega) (by omega) (by omega)))

/-- The shift at every point. -/
theorem iblk3_apply (k : Fin 1024) :
    (iblk m c 3 t : Vec Ideal S1x1x1024 .f32) (ix3 0 0 k) = (m ((c : Thread nD τ).loc main_arg1) : S1x1x1024.Idx → EReal) (ix3 0 0 k) :=
  congrArg (m (c.tc.loc main_arg1)) (Place.emb_whole win0_3 t (whole_facts t).1 (ix3 0 0 k) (ix3 0 0 k) fun _ => rfl)

/-- The scale at every point. -/
theorem iblk4_apply (k : Fin 1024) :
    (iblk m c 4 t : Vec Ideal S1x1x1024 .f32) (ix3 0 0 k) = (m ((c : Thread nD τ).loc main_arg2) : S1x1x1024.Idx → EReal) (ix3 0 0 k) :=
  congrArg (m (c.tc.loc main_arg2)) (Place.emb_whole win0_4 t (whole_facts t).2.1 (ix3 0 0 k) (ix3 0 0 k) fun _ => rfl)

/-- The gain at every point. -/
theorem iblk5_apply (k : Fin 1024) :
    (iblk m c 5 t : Vec Ideal S1x1024 .f32) (ix2 0 k) = (m ((c : Thread nD τ).loc main_arg3) : S1x1024.Idx → EReal) (ix2 0 k) :=
  congrArg (m (c.tc.loc main_arg3)) (Place.emb_whole win0_5 t (whole_facts t).2.2.1 (ix2 0 k) (ix2 0 k) fun _ => rfl)

/-- The weights at every point. -/
theorem iblk6_apply (k : Fin 1024) (l : Fin 2304) :
    (iblk m c 6 t : Vec Ideal S1024x2304 .bf16) (ix2 k l) = (m ((c : Thread nD τ).loc main_arg4) : S1024x2304.Idx → EReal) (ix2 k l) :=
  congrArg (m (c.tc.loc main_arg4)) (Place.emb_whole win0_6 t (whole_facts t).2.2.2.1 (ix2 k l) (ix2 k l) fun _ => rfl)

/-- The convolution's weights at every point. -/
theorem iblk7_apply (k : Fin 3) (l : Fin 768) :
    (iblk m c 7 t : Vec Ideal S3x768 .f32) (ix2 k l) = (m ((c : Thread nD τ).loc main_arg5) : S3x768.Idx → EReal) (ix2 k l) :=
  congrArg (m (c.tc.loc main_arg5)) (Place.emb_whole win0_7 t (whole_facts t).2.2.2.2.1 (ix2 k l) (ix2 k l) fun _ => rfl)

/-- The convolution's biases at every point. -/
theorem iblk8_apply (l : Fin 768) :
    (iblk m c 8 t : Vec Ideal S1x768 .f32) (ix2 0 l) = (m ((c : Thread nD τ).loc main_arg6) : S1x768.Idx → EReal) (ix2 0 l) :=
  congrArg (m (c.tc.loc main_arg6)) (Place.emb_whole win0_8 t (whole_facts t).2.2.2.2.2 (ix2 0 l) (ix2 0 l) fun _ => rfl)

end Blocks

/-- A context token's product with a column of the weights, from the call's arguments. -/
def tk (c : Dev nD) (b : Fin 8) (s : Fin 256) (l : Fin 2304) : EReal :=
  ctok (m ((c : Thread nD τ).loc main_arg0)) (m ((c : Thread nD τ).loc main_arg1)) (m ((c : Thread nD τ).loc main_arg2))
    (m ((c : Thread nD τ).loc main_arg3)) (m ((c : Thread nD τ).loc main_arg4)) b s l

/-- A block's row of products is its sequence's. -/
theorem row_apply (c : Dev nD) (t : Fin cfg0.N) (b : Fin 8) (hb : b.val = t.val) (s : Fin 256) (l : Fin 2304) :
    row (iblk m c 0 t) (iblk m c 3 t) (iblk m c 4 t) (iblk m c 5 t) (iblk m c 6 t) s l = tk m c b s l := by
  unfold row tk ctok
  simp only [iblk0_apply m c t b hb, iblk3_apply m c t, iblk4_apply m c t, iblk5_apply m c t, iblk6_apply m c t]

/-- Each sequence has its grid point. -/
theorem point (b : Fin 8) : ∃ t : Fin cfg0.N, b.val = t.val := ⟨⟨b.val, by rw [show cfg0.N = 8 from N_0]; exact b.isLt⟩, rfl⟩

/-- THE CONVOLVED COLUMNS THE CALL LEAVES. -/
theorem array9_apply (c : Dev nD) (b : Fin 8) (s : Fin 256) (l : Fin 768) :
    ((dats m 0 c).arrAt 9 cfg0.N : S8x256x768.Idx → EReal) (ix3 b s l)
      = conv (prev (fun s => tk m c b s ⟨l.val, by omega⟩) s) (tk m c b s ⟨l.val, by omega⟩) (next (fun s => tk m c b s ⟨l.val, by omega⟩) s)
          ((m ((c : Thread nD τ).loc main_arg5) : S3x768.Idx → EReal) (ix2 0 l)) ((m ((c : Thread nD τ).loc main_arg5) : S3x768.Idx → EReal) (ix2 1 l))
          ((m ((c : Thread nD τ).loc main_arg5) : S3x768.Idx → EReal) (ix2 2 l)) ((m ((c : Thread nD τ).loc main_arg6) : S1x768.Idx → EReal) (ix2 0 l)) := by
  obtain ⟨t, hb⟩ := point b
  obtain ⟨hj, -, ⟨h0, h1, h2⟩, -⟩ := seq_facts t
  refine (congrArg ((dats m 0 c).arrAt 9 cfg0.N : S8x256x768.Idx → EReal) (Place.emb_eq win0_9 t (ix3 0 s l) (ix3 b s l)
    (Place.at3 (by omega) (by omega) (by omega))).symm).trans ((congrFun (blocks9 m c t (flush0_9 t)) (ix3 0 s l)).trans ?_)
  rw [flushed9]
  refine (out9_apply _ _ _ _ _ _ _ _ _ _ hj s l).trans ?_
  simp only [row_apply m c t b hb, iblk7_apply m c t, iblk8_apply m c t]

/-- THE POOLED COLUMNS THE CALL LEAVES. -/
theorem array10_apply (c : Dev nD) (b : Fin 8) (s : Fin 256) (l : Fin 256) :
    ((dats m 0 c).arrAt 10 cfg0.N : S8x256x256.Idx → EReal) (ix3 b s l)
      = tk m c b s ⟨768 + l.val, by omega⟩ := by
  obtain ⟨t, hb⟩ := point b
  obtain ⟨hj, -, -, ⟨h0, h1, h2⟩, -⟩ := seq_facts t
  refine (congrArg ((dats m 0 c).arrAt 10 cfg0.N : S8x256x256.Idx → EReal) (Place.emb_eq win0_10 t (ix3 0 s l) (ix3 b s l)
    (Place.at3 (by omega) (by omega) (by omega))).symm).trans ((congrFun (blocks10 m c t (flush0_10 t)) (ix3 0 s l)).trans ?_)
  rw [flushed10]
  refine (out10_apply _ _ _ _ _ _ _ _ _ _ s l).trans ?_
  rw [row_apply m c t b hb]

/-- THE FIRST ATTENTION'S QUERIES THE CALL LEAVES. -/
theorem array11_apply (c : Dev nD) (b : Fin 8) (s : Fin 256) (l : Fin 256) :
    ((dats m 0 c).arrAt 11 cfg0.N : S8x256x256.Idx → EReal) (ix3 b s l)
      = tk m c b s ⟨1024 + l.val, by omega⟩ * Ideal.ofBits FTy.f32 0x3E000000#32 := by
  obtain ⟨t, hb⟩ := point b
  obtain ⟨hj, -, -, -, ⟨h0, h1, h2⟩, -⟩ := seq_facts t
  refine (congrArg ((dats m 0 c).arrAt 11 cfg0.N : S8x256x256.Idx → EReal) (Place.emb_eq win0_11 t (ix3 0 s l) (ix3 b s l)
    (Place.at3 (by omega) (by omega) (by omega))).symm).trans ((congrFun (blocks11 m c t (flush0_11 t)) (ix3 0 s l)).trans ?_)
  rw [flushed11]
  refine (out11_apply _ _ _ _ _ _ _ _ _ _ s l).trans ?_
  rw [row_apply m c t b hb]

/-- THE SECOND ATTENTION'S QUERIES THE CALL LEAVES. -/
theorem array12_apply (c : Dev nD) (b : Fin 8) (s : Fin 256) (l : Fin 256) :
    ((dats m 0 c).arrAt 12 cfg0.N : S8x256x256.Idx → EReal) (ix3 b s l)
      = tk m c b s ⟨1280 + l.val, by omega⟩ * Ideal.ofBits FTy.f32 0x3E000000#32 := by
  obtain ⟨t, hb⟩ := point b
  obtain ⟨hj, -, -, -, -, ⟨h0, h1, h2⟩, -⟩ := seq_facts t
  refine (congrArg ((dats m 0 c).arrAt 12 cfg0.N : S8x256x256.Idx → EReal) (Place.emb_eq win0_12 t (ix3 0 s l) (ix3 b s l)
    (Place.at3 (by omega) (by omega) (by omega))).symm).trans ((congrFun (blocks12 m c t (flush0_12 t)) (ix3 0 s l)).trans ?_)
  rw [flushed12]
  refine (out12_apply _ _ _ _ _ _ _ _ _ _ s l).trans ?_
  rw [row_apply m c t b hb]

/-- THE KEYS AND VALUES THE CALL LEAVES. -/
theorem array13_apply (c : Dev nD) (b : Fin 8) (s : Fin 256) (l : Fin 768) :
    ((dats m 0 c).arrAt 13 cfg0.N : S8x256x768.Idx → EReal) (ix3 b s l)
      = tk m c b s ⟨1536 + l.val, by omega⟩ := by
  obtain ⟨t, hb⟩ := point b
  obtain ⟨hj, -, -, -, -, -, ⟨h0, h1, h2⟩⟩ := seq_facts t
  refine (congrArg ((dats m 0 c).arrAt 13 cfg0.N : S8x256x768.Idx → EReal) (Place.emb_eq win0_13 t (ix3 0 s l) (ix3 b s l)
    (Place.at3 (by omega) (by omega) (by omega))).symm).trans ((congrFun (blocks13 m c t (flush0_13 t)) (ix3 0 s l)).trans ?_)
  rw [flushed13]
  refine (out13_apply _ _ _ _ _ _ _ _ _ _ s l).trans ?_
  rw [row_apply m c t b hb]

end Cert.CtxIdeal.Val

end
-- ==== Proof.CtxRef.lean ====
/- The reference of the context tokens' input projection over the extended reals, element by element. -/
module

public import proofs.«01_k».proof.Proof.CtxPoint
public import proofs.«01_k».proof.Proof.Gen.CtxRefIdeal.Run
public import proofs.«01_k».proof.Proof.Gen.CtxRefIdeal.Read
public import Idealize.ShloMosaic.Lib.KernelVsHost

@[expose] public section

set_option maxRecDepth 16384

noncomputable section

namespace Cert.CtxRefIdeal.Val

open Cert.CtxRefIdeal Cert.CtxRefIdeal.Gen Cert.CtxRefIdeal.Read Idealize.ShloMosaic Idealize.ShloMosaic.TcCoe Idealize.SL.Sem
open Cert.Inproj

variable (x0 : S8x256x1024.Idx → EReal) (x1 x2 : S1x1x1024.Idx → EReal) (x3 : S1x1024.Idx → EReal) (x4 : S1024x2304.Idx → EReal)
  (x5 : S3x768.Idx → EReal) (x6 : S1x768.Idx → EReal)

/-- The reference's products are the tokens'. -/
theorem px_apply (b : Fin 8) (s : Fin 256) (l : Fin 2304) :
    val_main_v21 (F := Ideal) x0 x1 x2 x3 x4 (ix3 b s l) = ctok x0 x1 x2 x3 x4 b s l := by
  unfold ctok prj nrm
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]

/-- THE REFERENCE'S POOLED COLUMNS. -/
theorem pool_apply (b : Fin 8) (s : Fin 256) (l : Fin 256) :
    val_main_v54 (F := Ideal) x0 x1 x2 x3 x4 (ix3 b s l)
      = ctok x0 x1 x2 x3 x4 b s ⟨768 + l.val, by omega⟩ := by
  rw [← px_apply]
  unfold val_main_v54
  generalize val_main_v21 (F := Ideal) x0 x1 x2 x3 x4 = y
  pointwise

/-- THE REFERENCE'S FIRST ATTENTION'S QUERIES. -/
theorem q_apply (b : Fin 8) (s : Fin 256) (l : Fin 256) :
    val_main_v55 (F := Ideal) x0 x1 x2 x3 x4 (ix3 b s l)
      = ctok x0 x1 x2 x3 x4 b s ⟨1024 + l.val, by omega⟩ * Ideal.ofBits FTy.f32 0x3E000000#32 := by
  rw [← px_apply]
  unfold val_main_v55 val_main_v50 val_main_v49 val_main_v48 val_main_cst_3
  generalize val_main_v21 (F := Ideal) x0 x1 x2 x3 x4 = y
  pointwise

/-- THE REFERENCE'S SECOND ATTENTION'S QUERIES. -/
theorem n_apply (b : Fin 8) (s : Fin 256) (l : Fin 256) :
    val_main_v56 (F := Ideal) x0 x1 x2 x3 x4 (ix3 b s l)
      = ctok x0 x1 x2 x3 x4 b s ⟨1280 + l.val, by omega⟩ * Ideal.ofBits FTy.f32 0x3E000000#32 := by
  rw [← px_apply]
  unfold val_main_v56 val_main_v53 val_main_v52 val_main_v51 val_main_cst_4
  generalize val_main_v21 (F := Ideal) x0 x1 x2 x3 x4 = y
  pointwise

/-- THE REFERENCE'S KEYS AND VALUES. -/
theorem kv_apply (b : Fin 8) (s : Fin 256) (l : Fin 768) :
    val_main_v58 (F := Ideal) x0 x1 x2 x3 x4 (ix3 b s l)
      = ctok x0 x1 x2 x3 x4 b s ⟨1536 + l.val, by omega⟩ := by
  rw [← px_apply]
  unfold val_main_v58 val_main_v57
  generalize val_main_v21 (F := Ideal) x0 x1 x2 x3 x4 = y
  pointwise

/-- The padded columns at a row of the padding's: zero before the first token and after the last. -/
theorem padded_apply (b : Fin 8) (t : Fin 258) (l : Fin 768) :
    val_main_v23 (F := Ideal) x0 x1 x2 x3 x4 (ix3 b t l)
      = if h : 1 ≤ t.val ∧ t.val ≤ 256 then ctok x0 x1 x2 x3 x4 b ⟨t.val - 1, by omega⟩ ⟨l.val, by omega⟩ else 0 := by
  have hp := px_apply x0 x1 x2 x3 x4 b
  revert hp
  unfold val_main_v23 val_main_v22
  generalize val_main_v21 (F := Ideal) x0 x1 x2 x3 x4 = z
  intro hp
  simp only [← hp]
  refine (padded _ _ _ _ (fun i => ?_) b t l).trans ?_
  · unfold val_main_call0_v0 val_main_c
    exact sitofp_zero (φ := .f32)
  · refine dite_congr rfl (fun h => ?_) fun _ => rfl
    pointwise

/-- THE REFERENCE'S CONVOLVED COLUMNS. -/
theorem u_apply (b : Fin 8) (s : Fin 256) (l : Fin 768) :
    val_main_v47 (F := Ideal) x0 x1 x2 x3 x4 x5 x6 (ix3 b s l)
      = conv (prev (fun s => ctok x0 x1 x2 x3 x4 b s ⟨l.val, by omega⟩) s) (ctok x0 x1 x2 x3 x4 b s ⟨l.val, by omega⟩)
          (next (fun s => ctok x0 x1 x2 x3 x4 b s ⟨l.val, by omega⟩) s) (x5 (ix2 0 l)) (x5 (ix2 1 l)) (x5 (ix2 2 l)) (x6 (ix2 0 l)) := by
  have hp := fun t => padded_apply x0 x1 x2 x3 x4 b t l
  revert hp
  unfold val_main_v47 val_main_v46 val_main_v45 val_main_v44 val_main_v43 val_main_v42 val_main_v41 val_main_v40 val_main_v39 val_main_v38
    val_main_v37 val_main_v36 val_main_v35 val_main_v34 val_main_v33 val_main_v32 val_main_v31 val_main_v30 val_main_v29 val_main_v28
    val_main_v27 val_main_v26 val_main_v25 val_main_v24
  generalize val_main_v23 (F := Ideal) x0 x1 x2 x3 x4 = z
  intro hp
  obtain ⟨e0, e1, e2⟩ := neighbours (fun s => ctok x0 x1 x2 x3 x4 b s ⟨l.val, by omega⟩) (fun t => z (ix3 b t l)) hp s
  rw [← e0, ← e1, ← e2]
  pointwise
  rfl

end Cert.CtxRefIdeal.Val

end
-- ==== Proof.CtxClaim.lean ====
/- The value claim of the context tokens' input projection: the call's five arrays and the reference's results are the same
   functions of the arguments. -/
module

public import proofs.«01_k».proof.Defs
public import proofs.«01_k».proof.Proof.CtxArray
public import proofs.«01_k».proof.Proof.CtxRef
public import Idealize.ShloMosaic.Lib.Claim

@[expose] public section

set_option maxRecDepth 16384

noncomputable section

namespace Cert.Proof

open Idealize.ShloMosaic Idealize.ShloMosaic.TcCoe Idealize.SL.Sem Cert.CtxIdeal.Gen

/-- Over the extended reals the context tokens' input projection computes its reference, on every input. -/
theorem ctx_algebraic : Cert.algebraic_CtxIdeal_CtxRefIdeal := by
  intro m g m' g' _ hargs
  refine ⟨fun c => (dats m 0 c).arrAt 9 Cert.CtxIdeal.cfg0.N, fun c => (dats m 0 c).arrAt 10 Cert.CtxIdeal.cfg0.N,
    fun c => (dats m 0 c).arrAt 11 Cert.CtxIdeal.cfg0.N, fun c => (dats m 0 c).arrAt 12 Cert.CtxIdeal.cfg0.N,
    fun c => (dats m 0 c).arrAt 13 Cert.CtxIdeal.cfg0.N, Cert.CtxIdeal.Value.run_blocks m g, ?_⟩
  refine (θ_run _ _ _).mono (fun r h c => ?_) (Cert.CtxRefIdeal.Value.run m' g')
  obtain ⟨r0, r1, r2, r3, r4, hk⟩ := h c
  obtain ⟨h0, h1, h2, h3, h4, h5, h6⟩ := hargs c
  refine ⟨r0.trans ((Cert.CtxRefIdeal.Read.val_main_v47_eq ..).trans ?_), r1.trans ((Cert.CtxRefIdeal.Read.val_main_v54_eq ..).trans ?_),
    r2.trans ((Cert.CtxRefIdeal.Read.val_main_v55_eq ..).trans ?_), r3.trans ((Cert.CtxRefIdeal.Read.val_main_v56_eq ..).trans ?_),
    r4.trans ((Cert.CtxRefIdeal.Read.val_main_v58_eq ..).trans ?_), hk⟩
  · rw [h0, h1, h2, h3, h4, h5, h6]
    funext i
    rw [eq_ix3 i]
    exact (Cert.CtxRefIdeal.Val.u_apply _ _ _ _ _ _ _ _ _ _).trans (Cert.CtxIdeal.Val.array9_apply m c _ _ _).symm
  · rw [h0, h1, h2, h3, h4]
    funext i
    rw [eq_ix3 i]
    exact (Cert.CtxRefIdeal.Val.pool_apply _ _ _ _ _ _ _ _).trans (Cert.CtxIdeal.Val.array10_apply m c _ _ _).symm
  · rw [h0, h1, h2, h3, h4]
    funext i
    rw [eq_ix3 i]
    exact (Cert.CtxRefIdeal.Val.q_apply _ _ _ _ _ _ _ _).trans (Cert.CtxIdeal.Val.array11_apply m c _ _ _).symm
  · rw [h0, h1, h2, h3, h4]
    funext i
    rw [eq_ix3 i]
    exact (Cert.CtxRefIdeal.Val.n_apply _ _ _ _ _ _ _ _).trans (Cert.CtxIdeal.Val.array12_apply m c _ _ _).symm
  · rw [h0, h1, h2, h3, h4]
    funext i
    rw [eq_ix3 i]
    exact (Cert.CtxRefIdeal.Val.kv_apply _ _ _ _ _ _ _ _).trans (Cert.CtxIdeal.Val.array13_apply m c _ _ _).symm

end Cert.Proof

end
-- ==== Proof.lean ====
/- The certificate: the frames of the calls and of their references, and the claims that each call, over the extended
   reals, computes what its reference says. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.KernelIdeal.Value
public import proofs.«01_k».proof.Proof.Gen.MoeIdeal.Value
public import proofs.«01_k».proof.Proof.Gen.ReferenceIdeal.Run
public import proofs.«01_k».proof.Proof.Gen.MoeRefIdeal.Run
public import proofs.«01_k».proof.Proof.Gen.ReferenceIdeal.Read
public import proofs.«01_k».proof.Proof.Gen.MoeRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.MoeLast
public import proofs.«01_k».proof.Proof.Gen.MoeLast.Frame
public import proofs.«01_k».proof.Proof.Gen.MoeLastIdeal
public import proofs.«01_k».proof.Proof.Gen.MoeLastIdeal.Frame
public import proofs.«01_k».proof.Proof.Gen.MoeLastRefIdeal
public import proofs.«01_k».proof.Proof.Gen.MoeLastIdeal.Value
public import proofs.«01_k».proof.Proof.Gen.MoeLastRefIdeal.Run
public import proofs.«01_k».proof.Proof.Gen.MoeLastRefIdeal.Read
public import proofs.«01_k».proof.Proof.Gen.MoeCtx
public import proofs.«01_k».proof.Proof.Gen.MoeCtx.Frame
public import proofs.«01_k».proof.Proof.Gen.MoeCtxIdeal
public import proofs.«01_k».proof.Proof.Gen.MoeCtxIdeal.Frame
public import proofs.«01_k».proof.Proof.Gen.MoeCtxRefIdeal
public import proofs.«01_k».proof.Proof.Gen.MoeCtxIdeal.Value
public import proofs.«01_k».proof.Proof.Gen.MoeCtxRefIdeal.Run
public import proofs.«01_k».proof.Proof.Gen.MoeCtxRefIdeal.Read
public import proofs.«01_k».proof.Proof.Gen.Out
public import proofs.«01_k».proof.Proof.Gen.Out.Skeleton
public import proofs.«01_k».proof.Proof.Gen.Out.Points
public import proofs.«01_k».proof.Proof.Gen.Out.Launch
public import proofs.«01_k».proof.Proof.Gen.OutIdeal
public import proofs.«01_k».proof.Proof.Gen.OutIdeal.Skeleton
public import proofs.«01_k».proof.Proof.Gen.OutIdeal.Points
public import proofs.«01_k».proof.Proof.Gen.OutIdeal.Launch
public import proofs.«01_k».proof.Proof.Gen.OutRefIdeal
public import proofs.«01_k».proof.Proof.Gen.OutRefIdeal.Run
public import proofs.«01_k».proof.Proof.Gen.OutRefIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.Ctx
public import proofs.«01_k».proof.Proof.Gen.Ctx.Frame
public import proofs.«01_k».proof.Proof.Gen.CtxIdeal
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import proofs.«01_k».proof.Proof.MoeClaim
public import proofs.«01_k».proof.Proof.MoeMoreClaim
public import proofs.«01_k».proof.Proof.WinClaim
public import proofs.«01_k».proof.Proof.ProjClaim
public import proofs.«01_k».proof.Proof.OutClaim
public import proofs.«01_k».proof.Proof.AdaValue
public import proofs.«01_k».proof.Proof.KvValue
public import proofs.«01_k».proof.Proof.CtxClaim
public import Idealize.ShloMosaic.Adequacy
public import Idealize.ShloMosaic.Init

@[expose] public section

noncomputable section

namespace Cert.Proof

open Idealize.ShloMosaic Idealize.SL.Sem Cert.Kernel

/-- The window attention's reference runs, keeps its arguments and ends with every semaphore at zero: it has none. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The expert feed-forward's reference, likewise. -/
theorem frame_moe_reference : Cert.quiescent_MoeRefIdeal := fun m ρ _ =>
  (θ_run Cert.MoeRefIdeal.defs _ _).mono (fun r h => ⟨fun c => (h c).2, Idealize.ShloMosaic.sem_eq_zero_of_no_sems (by decide) r.2⟩)
    (Cert.MoeRefIdeal.Value.run (F := Ideal) m ρ)

/-- The input projection's reference, likewise. -/
theorem frame_proj_reference : Cert.quiescent_ProjRefIdeal := fun m ρ _ =>
  (θ_run Cert.ProjRefIdeal.defs _ _).mono (fun r h => ⟨fun c => (h c).2.2.2.2.2, Idealize.ShloMosaic.sem_eq_zero_of_no_sems (by decide) r.2⟩)
    (Cert.ProjRefIdeal.Value.run (F := Ideal) m ρ)

/-- The reference of the last layer's expert feed-forward, likewise. -/
theorem frame_moe_last_reference : Cert.quiescent_MoeLastRefIdeal := fun m ρ _ =>
  (θ_run Cert.MoeLastRefIdeal.defs _ _).mono (fun r h => ⟨fun c => (h c).2, Idealize.ShloMosaic.sem_eq_zero_of_no_sems (by decide) r.2⟩)
    (Cert.MoeLastRefIdeal.Value.run (F := Ideal) m ρ)

/-- The reference of the context tokens' expert feed-forward, likewise. -/
theorem frame_moe_ctx_reference : Cert.quiescent_MoeCtxRefIdeal := fun m ρ _ =>
  (θ_run Cert.MoeCtxRefIdeal.defs _ _).mono (fun r h => ⟨fun c => (h c).2, Idealize.ShloMosaic.sem_eq_zero_of_no_sems (by decide) r.2⟩)
    (Cert.MoeCtxRefIdeal.Value.run (F := Ideal) m ρ)

/-- The modulation's reference, likewise. -/
theorem frame_ada_reference : Cert.quiescent_AdaRefIdeal := fun m ρ _ =>
  (θ_run Cert.AdaRefIdeal.defs _ _).mono (fun r h => ⟨fun c => (h c).2, Idealize.ShloMosaic.sem_eq_zero_of_no_sems (by decide) r.2⟩)
    (Cert.AdaRefIdeal.Value.run (F := Ideal) m ρ)

/-- The reference of the second layer's context call, likewise. -/
theorem frame_kv_reference : Cert.quiescent_KvRefIdeal := fun m ρ _ =>
  (θ_run Cert.KvRefIdeal.defs _ _).mono (fun r h => ⟨fun c => (h c).2, Idealize.ShloMosaic.sem_eq_zero_of_no_sems (by decide) r.2⟩)
    (Cert.KvRefIdeal.Value.run (F := Ideal) m ρ)

theorem frame_ctx_reference : Cert.quiescent_CtxRefIdeal := fun m ρ _ =>
  (θ_run Cert.CtxRefIdeal.defs _ _).mono (fun r h => ⟨fun c => (h c).2.2.2.2.2, Idealize.ShloMosaic.sem_eq_zero_of_no_sems (by decide) r.2⟩)
    (Cert.CtxRefIdeal.Value.run (F := Ideal) m ρ)

/-- Naming the mask's constant is an instance of the rule that lets a constant of the program be named. -/
theorem win_preserves : Cert.preserves_Kernel_KernelIdeal := IdealRules.named_const.statement Cert.KernelIdeal.κ "mask" .f32 0xF149F2CA#32 ⊥ rfl

/-- THE CERTIFICATE'S CLAIM: the frames of the nine calls and their references, what the passes preserve, and the nine value claims. -/
theorem claim : Cert.Claim :=
  ⟨Cert.Kernel.Gen.facts, Cert.KernelIdeal.Gen.facts, Cert.ReferenceIdeal.Gen.facts, Cert.Moe.Gen.facts, Cert.MoeIdeal.Gen.facts,
    Cert.MoeRefIdeal.Gen.facts, Cert.Proj.Gen.facts, Cert.ProjIdeal.Gen.facts, Cert.ProjRefIdeal.Gen.facts,
    Cert.MoeLast.Gen.facts, Cert.MoeLastIdeal.Gen.facts, Cert.MoeLastRefIdeal.Gen.facts,
    Cert.Out.Gen.facts, Cert.OutIdeal.Gen.facts, Cert.OutRefIdeal.Gen.facts,
    Cert.MoeCtx.Gen.facts, Cert.MoeCtxIdeal.Gen.facts, Cert.MoeCtxRefIdeal.Gen.facts,
    Cert.Ada.Gen.facts, Cert.AdaIdeal.Gen.facts, Cert.AdaRefIdeal.Gen.facts,
    Cert.Kv.Gen.facts, Cert.KvIdeal.Gen.facts, Cert.KvRefIdeal.Gen.facts,
    Cert.Ctx.Gen.facts, Cert.CtxIdeal.Gen.facts, Cert.CtxRefIdeal.Gen.facts, Cert.Pre_finite_logits.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, fun m ρ _ => Cert.Moe.Gen.frame m ρ,
    fun m ρ _ => Cert.MoeIdeal.Gen.frame m ρ, frame_moe_reference, fun m ρ _ => Cert.Proj.Gen.frame m ρ,
    fun m ρ _ => Cert.ProjIdeal.Gen.frame m ρ, frame_proj_reference,
    fun m ρ _ => Cert.MoeLast.Gen.frame m ρ, fun m ρ _ => Cert.MoeLastIdeal.Gen.frame m ρ, frame_moe_last_reference,
    frame_out, frame_out_ideal, frame_out_reference,
    fun m ρ _ => Cert.MoeCtx.Gen.frame m ρ, fun m ρ _ => Cert.MoeCtxIdeal.Gen.frame m ρ, frame_moe_ctx_reference,
    fun m ρ _ => Cert.Ada.Gen.frame m ρ, fun m ρ _ => Cert.AdaIdeal.Gen.frame m ρ, frame_ada_reference,
    fun m ρ _ => Cert.Kv.Gen.frame m ρ, fun m ρ _ => Cert.KvIdeal.Gen.frame m ρ, frame_kv_reference,
    fun m ρ _ => Cert.Ctx.Gen.frame m ρ, fun m ρ _ => Cert.CtxIdeal.Gen.frame m ρ, frame_ctx_reference,
    win_preserves, win_algebraic, trivial, moe_algebraic, trivial, proj_algebraic,
    trivial, moe_last_algebraic, trivial, out_algebraic, trivial, moe_ctx_algebraic,
    trivial, ada_algebraic, trivial, kv_algebraic, trivial, ctx_algebraic⟩

end Cert.Proof

end
